-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v22_0)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v592) = v0 c
          ∧ r.2.mem ((c.tc : Thread Cert.ReferenceIdeal.nD Cert.ReferenceIdeal.τ).loc Cert.ReferenceIdeal.main_v509) = v1 c
          ∧ r.2.mem ((c.tc : Thread Cert.ReferenceIdeal.nD Cert.ReferenceIdeal.τ).loc Cert.ReferenceIdeal.main_v606) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S16x512x512 : Shape := ⟨3, ![16, 512, 512]⟩
abbrev S1024x512 : Shape := ⟨2, ![1024, 512]⟩
abbrev S512 : Shape := ⟨1, ![512]⟩
abbrev S3x512x512 : Shape := ⟨3, ![3, 512, 512]⟩
abbrev S3x512 : Shape := ⟨2, ![3, 512]⟩
abbrev S3x512x2048 : Shape := ⟨3, ![3, 512, 2048]⟩
abbrev S3x2048 : Shape := ⟨2, ![3, 2048]⟩
abbrev S3x2048x512 : Shape := ⟨3, ![3, 2048, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S3x512x2048 : S_.BroadcastsInDim S3x512x2048 (![] : Fin 0 → Fin S3x512x2048.rank)
  reducesTo_S3x512x2048_S_d0_1_2 : S3x512x2048.ReducesTo [0, 1, 2] S_
  bcast_S_S3x2048 : S_.BroadcastsInDim S3x2048 (![] : Fin 0 → Fin S3x2048.rank)
  reducesTo_S3x2048_S_d0_1 : S3x2048.ReducesTo [0, 1] S_
  bcast_S_S3x2048x512 : S_.BroadcastsInDim S3x2048x512 (![] : Fin 0 → Fin S3x2048x512.rank)
  reducesTo_S3x2048x512_S_d0_1_2 : S3x2048x512.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part10 {F : FTy → Type} [FloatOps F] (main_arg35 : FVec F S2 .f32) (main_v168 : IVec S_ 1) (main_v169 : FVec F S64x2 .f32) (main_v170 : FVec F S64x2 .f32) : IVec S_ 1 :=
  let main_v171 : IVec S64x2 1 := cmpf .olt main_v169 main_v170
  let main_c_67 : IVec S_ 1 := constantI S_ 1 1#1
  let main_v172 : IVec S_ 1 := (fun x v => Host.reduce IntOp.andi x v reducesTo_S64x2_S_d0_1 h_S_) main_v171 main_c_67
  let main_v173 : IVec S_ 1 := andi main_v168 main_v172
  let main_v174 : FVec F S2 .f32 := Host.absf main_arg35
  let main_cst_68 : FVec F S_ .f32 := constant S_ .f32 0x7F800000#32
  let main_v175 : FVec F S2 .f32 := broadcastInDim S2 ![] bcast_S_S2 main_cst_68
  let main_v176 : IVec S2 1 := cmpf .olt main_v174 main_v175
  let main_c_69 : IVec S_ 1 := constantI S_ 1 1#1
  let main_v177 : IVec S_ 1 := (fun x v => Host.reduce IntOp.andi x v reducesTo_S2_S_d0 h_S_) main_v176 main_c_69
  let main_v178 : IVec S_ 1 := andi main_v173 main_v177
  main_v178

def fn_part9 {F : FTy → Type} [FloatOps F] (main_arg31 : FVec F S256 .f32) (main_arg32 : FVec F S256x64 .f32) (main_arg33 : FVec F S64 .f32) (main_arg34 : FVec F S64x2 .f32) (main_arg35 : FVec F S2 .f32) (main_v153 : IVec S_ 1) : IVec S_ 1 :=
  let main_v154 : FVec F S256 .f32 := Host.absf main_arg31
  let main_cst_60 : FVec F S_ .f32 := constant S_ .f32 0x7F800000#32
  let main_v155 : FVec F S256 .f32 := broadcastInDim S256 ![] bcast_S_S256 main_cst_60
  let main_v156 : IVec S256 1 := cmpf .olt main_v154 main_v155
  let main_c_61 : IVec S_ 1 := constantI S_ 1 1#1
  let main_v157 : IVec S_ 1 := (fun x v => Host.reduce IntOp.andi x v reducesTo_S256_S_d0 h_S_) main_v156 main_c_61
  let main_v158 : IVec S_ 1 := andi main_v153 main_v157
  let main_v159 : FVec F S256x64 .f32 := Host.absf main_arg32
  let main_cst_62 : FVec F S_ .f32 := constant S_ .f32 0x7F800000#32
  let main_v160 : FVec F S256x64 .f32 := broadcastInDim S256x64 ![] bcast_S_S256x64 main_cst_62
  let main_v161 : IVec S256x64 1 := cmpf .olt main_v159 main_v160
  let main_c_63 : IVec S_ 1 := constantI S_ 1 1#1
  let main_v162 : IVec S_ 1 := (fun x v => Host.reduce IntOp.andi x v reducesTo_S256x64_S_d0_1 h_S_) main_v161 main_c_63
  let main_v163 : IVec S_ 1 := andi main_v158 main_v162
  let main_v164 : FVec F S64 .f32 := Host.absf main_arg33
  let main_cst_64 : FVec F S_ .f32 := constant S_ .f32 0x7F800000#32
  let main_v165 : FVec F S64 .f32 := broadcastInDim S64 ![] bcast_S_S64 main_cst_64
  let main_v166 : IVec S64 1 := cmpf .olt main_v164 main_v165
  let main_c_65 : IVec S_ 1 := constantI S_ 1 1#1
  let main_v167 : IVec S_ 1 := (fun x v => Host.reduce IntOp.andi x v reducesTo_S64_S_d0 h_S_) main_v166 main_c_65
  let main_v168 : IVec S_ 1 := andi main_v163 main_v167
  let main_v169 : FVec F S64x2 .f32 := Host.absf main_arg34
  let main_cst_66 : FVec F S_ .f32 := constant S_ .f32 0x7F800000#32
  let main_v170 : FVec F S64x2 .f32 := broadcastInDim S64x2 ![] bcast_S_S64x2 main_cst_66
  fn_part10 (F := F) main_arg35 main_v168 main_v169 main_v170

def fn_part8 {F : FTy → Type} [FloatOps F] (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v133 : IVec S_ 1) (main_v136 : IVec S3x512 1) : IVec S_ 1 :=
  let main_c_53 : IVec S_ 1 := constantI S_ 1 1#1
  let main_v137 : IVec S_ 1 := (fun x v => Host.reduce IntOp.andi x v reducesTo_S3x512_S_d0_1 h_S_) main_v136 main_c_53
  let main_v138 : IVec S_ 1 := andi main_v133 main_v137
  let main_v139 : FVec F S3x512 .f32 := Host.absf main_arg28
  let main_cst_54 : FVec F S_ .f32 := constant S_ .f32 0x7F800000#32
  let main_v140 : FVec F S3x512 .f32 := broadcastInDim S3x512 ![] bcast_S_S3x512 main_cst_54
  let main_v141 : IVec S3x512 1 := cmpf .olt main_v139 main_v140
  let main_c_55 : IVec S_ 1 := constantI S_ 1 1#1
  let main_v142 : IVec S_ 1 := (fun x v => Host.reduce IntOp.andi x v reducesTo_S3x512_S_d0_1 h_S_) main_v141 main_c_55
  let main_v143 : IVec S_ 1 := andi main_v138 main_v142
  let main_v144 : FVec F S3x512 .f32 := Host.absf main_arg29
  let main_cst_56 : FVec F S_ .f32 := constant S_ .f32 0x7F800000#32
  let main_v145 : FVec F S3x512 .f32 := broadcastInDim S3x512 ![] bcast_S_S3x512 main_cst_56
  let main_v146 : IVec S3x512 1 := cmpf .olt main_v144 main_v145
  let main_c_57 : IVec S_ 1 := constantI S_ 1 1#1
  let main_v147 : IVec S_ 1 := (fun x v => Host.reduce IntOp.andi x v reducesTo_S3x512_S_d0_1 h_S_) main_v146 main_c_57
  let main_v148 : IVec S_ 1 := andi main_v143 main_v147
  let main_v149 : FVec F S512x256 .f32 := Host.absf main_arg30
  let main_cst_58 : FVec F S_ .f32 := constant S_ .f32 0x7F800000#32
  let main_v150 : FVec F S512x256 .f32 := broadcastInDim S512x256 ![] bcast_S_S512x256 main_cst_58
  let main_v151 : IVec S512x256 1 := cmpf .olt main_v149 main_v150
  let main_c_59 : IVec S_ 1 := constantI S_ 1 1#1
  let main_v152 : IVec S_ 1 := (fun x v => Host.reduce IntOp.andi x v reducesTo_S512x256_S_d0_1 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v118 : IVec S_ 1) (main_v119 : FVec F S3x512 .f32) : IVec S_ 1 :=
  let main_cst_46 : FVec F S_ .f32 := constant S_ .f32 0x7F800000#32
  let main_v120 : FVec F S3x512 .f32 := broadcastInDim S3x512 ![] bcast_S_S3x512 main_cst_46
  let main_v121 : IVec S3x512 1 := cmpf .olt main_v119 main_v120
  let main_c_47 : IVec S_ 1 := constantI S_ 1 1#1
  let main_v122 : IVec S_ 1 := (fun x v => Host.reduce IntOp.andi x v reducesTo_S3x512_S_d0_1 h_S_) main_v121 main_c_47
  let main_v123 : IVec S_ 1 := andi main_v118 main_v122
  let main_v124 : FVec F S3x512 .f32 := Host.absf main_arg25
  let main_cst_48 : FVec F S_ .f32 := constant S_ .f32 0x7F800000#32
  let main_v125 : FVec F S3x512 .f32 := broadcastInDim S3x512 ![] bcast_S_S3x512 main_cst_48
  let main_v126 : IVec S3x512 1 := cmpf .olt main_v124 main_v125
  let main_c_49 : IVec S_ 1 := constantI S_ 1 1#1
  let main_v127 : IVec S_ 1 := (fun x v => Host.reduce IntOp.andi x v reducesTo_S3x512_S_d0_1 h_S_) main_v126 main_c_49
  let main_v128 : IVec S_ 1 := andi main_v123 main_v127
  let main_v129 : FVec F S3x512 .f32 := Host.absf main_arg26
  let main_cst_50 : FVec F S_ .f32 := constant S_ .f32 0x7F800000#32
  let main_v130 : FVec F S3x512 .f32 := broadcastInDim S3x512 ![] bcast_S_S3x512 main_cst_50
  let main_v131 : IVec S3x512 1 := cmpf .olt main_v129 main_v130
  let main_c_51 : IVec S_ 1 := constantI S_ 1 1#1
  let main_v132 : IVec S_ 1 := (fun x v => Host.reduce IntOp.andi x v reducesTo_S3x512_S_d0_1 h_S_) main_v131 main_c_51
  let main_v133 : IVec S_ 1 := andi main_v128 main_v132
  let main_v134 : FVec F S3x512 .f32 := Host.absf main_arg27
  let main_cst_52 : FVec F S_ .f32 := constant S_ .f32 0x7F800000#32
  let main_v135 : FVec F S3x512 .f32 := broadcastInDim S3x512 ![] bcast_S_S3x512 main_cst_52
  let main_v136 : IVec S3x512 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v98 : IVec S_ 1) (main_v101 : IVec S3x512x2048 1) (main_c_39 : IVec S_ 1) : IVec S_ 1 :=
  let main_v102 : IVec S_ 1 := (fun x v => Host.reduce IntOp.andi x v reducesTo_S3x512x2048_S_d0_1_2 h_S_) main_v101 main_c_39
  let main_v103 : IVec S_ 1 := andi main_v98 main_v102
  let main_v104 : FVec F S3x2048 .f32 := Host.absf main_arg21
  let main_cst_40 : FVec F S_ .f32 := constant S_ .f32 0x7F800000#32
  let main_v105 : FVec F S3x2048 .f32 := broadcastInDim S3x2048 ![] bcast_S_S3x2048 main_cst_40
  let main_v106 : IVec S3x2048 1 := cmpf .olt main_v104 main_v105
  let main_c_41 : IVec S_ 1 := constantI S_ 1 1#1
  let main_v107 : IVec S_ 1 := (fun x v => Host.reduce IntOp.andi x v reducesTo_S3x2048_S_d0_1 h_S_) main_v106 main_c_41
  let main_v108 : IVec S_ 1 := andi main_v103 main_v107
  let main_v109 : FVec F S3x2048x512 .f32 := Host.absf main_arg22
  let main_cst_42 : FVec F S_ .f32 := constant S_ .f32 0x7F800000#32
  let main_v110 : FVec F S3x2048x512 .f32 := broadcastInDim S3x2048x512 ![] bcast_S_S3x2048x512 main_cst_42
  let main_v111 : IVec S3x2048x512 1 := cmpf .olt main_v109 main_v110
  let main_c_43 : IVec S_ 1 := constantI S_ 1 1#1
  let main_v112 : IVec S_ 1 := (fun x v => Host.reduce IntOp.andi x v reducesTo_S3x2048x512_S_d0_1_2 h_S_) main_v111 main_c_43
  let main_v113 : IVec S_ 1 := andi main_v108 main_v112
  let main_v114 : FVec F S3x512 .f32 := Host.absf main_arg23
  let main_cst_44 : FVec F S_ .f32 := constant S_ .f32 0x7F800000#32
  let main_v115 : FVec F S3x512 .f32 := broadcastInDim S3x512 ![] bcast_S_S3x512 main_cst_44
  let main_v116 : IVec S3x512 1 := cmpf .olt main_v114 main_v115
  let main_c_45 : IVec S_ 1 := constantI S_ 1 1#1
  let main_v117 : IVec S_ 1 := (fun x v => Host.reduce IntOp.andi x v reducesTo_S3x512_S_d0_1 h_S_) main_v116 main_c_45
  let main_v118 : IVec S_ 1 := andi main_v113 main_v117
  let main_v119 : FVec F S3x512 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S3x512x512 .f32) (main_arg19 : FVec F S3x512 .f32) (main_arg20 : FVec F S3x512x2048 .f32) (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v83 : IVec S_ 1) (main_v84 : FVec F S3x512 .f32) (main_cst_32 : FVec F S_ .f32) : IVec S_ 1 :=
  let main_v85 : FVec F S3x512 .f32 := broadcastInDim S3x512 ![] bcast_S_S3x512 main_cst_32
  let main_v86 : IVec S3x512 1 := cmpf .olt main_v84 main_v85
  let main_c_33 : IVec S_ 1 := constantI S_ 1 1#1
  let main_v87 : IVec S_ 1 := (fun x v => Host.reduce IntOp.andi x v reducesTo_S3x512_S_d0_1 h_S_) main_v86 main_c_33
  let main_v88 : IVec S_ 1 := andi main_v83 main_v87
  let main_v89 : FVec F S3x512x512 .f32 := Host.absf main_arg18
  let main_cst_34 : FVec F S_ .f32 := constant S_ .f32 0x7F800000#32
  let main_v90 : FVec F S3x512x512 .f32 := broadcastInDim S3x512x512 ![] bcast_S_S3x512x512 main_cst_34
  let main_v91 : IVec S3x512x512 1 := cmpf .olt main_v89 main_v90
  let main_c_35 : IVec S_ 1 := constantI S_ 1 1#1
  let main_v92 : IVec S_ 1 := (fun x v => Host.reduce IntOp.andi x v reducesTo_S3x512x512_S_d0_1_2 h_S_) main_v91 main_c_35
  let main_v93 : IVec S_ 1 := andi main_v88 main_v92
  let main_v94 : FVec F S3x512 .f32 := Host.absf main_arg19
  let main_cst_36 : FVec F S_ .f32 := constant S_ .f32 0x7F800000#32
  let main_v95 : FVec F S3x512 .f32 := broadcastInDim S3x512 ![] bcast_S_S3x512 main_cst_36
  let main_v96 : IVec S3x512 1 := cmpf .olt main_v94 main_v95
  let main_c_37 : IVec S_ 1 := constantI S_ 1 1#1
  let main_v97 : IVec S_ 1 := (fun x v => Host.reduce IntOp.andi x v reducesTo_S3x512_S_d0_1 h_S_) main_v96 main_c_37
  let main_v98 : IVec S_ 1 := andi main_v93 main_v97
  let main_v99 : FVec F S3x512x2048 .f32 := Host.absf main_arg20
  let main_cst_38 : FVec F S_ .f32 := constant S_ .f32 0x7F800000#32
  let main_v100 : FVec F S3x512x2048 .f32 := broadcastInDim S3x512x2048 ![] bcast_S_S3x512x2048 main_cst_38
  let main_v101 : IVec S3x512x2048 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S3x512x512 .f32) (main_arg15 : FVec F S3x512 .f32) (main_arg16 : FVec F S3x512x512 .f32) (main_arg17 : FVec F S3x512 .f32) (main_arg18 : FVec F S3x512x512 .f32) (main_arg19 : FVec F S3x512 .f32) (main_arg20 : FVec F S3x512x2048 .f32) (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v63 : IVec S_ 1) (main_v67 : IVec S_ 1) : IVec S_ 1 :=
  let main_v68 : IVec S_ 1 := andi main_v63 main_v67
  let main_v69 : FVec F S3x512x512 .f32 := Host.absf main_arg14
  let main_cst_26 : FVec F S_ .f32 := constant S_ .f32 0x7F800000#32
  let main_v70 : FVec F S3x512x512 .f32 := broadcastInDim S3x512x512 ![] bcast_S_S3x512x512 main_cst_26
  let main_v71 : IVec S3x512x512 1 := cmpf .olt main_v69 main_v70
  let main_c_27 : IVec S_ 1 := constantI S_ 1 1#1
  let main_v72 : IVec S_ 1 := (fun x v => Host.reduce IntOp.andi x v reducesTo_S3x512x512_S_d0_1_2 h_S_) main_v71 main_c_27
  let main_v73 : IVec S_ 1 := andi main_v68 main_v72
  let main_v74 : FVec F S3x512 .f32 := Host.absf main_arg15
  let main_cst_28 : FVec F S_ .f32 := constant S_ .f32 0x7F800000#32
  let main_v75 : FVec F S3x512 .f32 := broadcastInDim S3x512 ![] bcast_S_S3x512 main_cst_28
  let main_v76 : IVec S3x512 1 := cmpf .olt main_v74 main_v75
  let main_c_29 : IVec S_ 1 := constantI S_ 1 1#1
  let main_v77 : IVec S_ 1 := (fun x v => Host.reduce IntOp.andi x v reducesTo_S3x512_S_d0_1 h_S_) main_v76 main_c_29
  let main_v78 : IVec S_ 1 := andi main_v73 main_v77
  let main_v79 : FVec F S3x512x512 .f32 := Host.absf main_arg16
  let main_cst_30 : FVec F S_ .f32 := constant S_ .f32 0x7F800000#32
  let main_v80 : FVec F S3x512x512 .f32 := broadcastInDim S3x512x512 ![] bcast_S_S3x512x512 main_cst_30
  let main_v81 : IVec S3x512x512 1 := cmpf .olt main_v79 main_v80
  let main_c_31 : IVec S_ 1 := constantI S_ 1 1#1
  let main_v82 : IVec S_ 1 := (fun x v => Host.reduce IntOp.andi x v reducesTo_S3x512x512_S_d0_1_2 h_S_) main_v81 main_c_31
  let main_v83 : IVec S_ 1 := andi main_v78 main_v82
  let main_v84 : FVec F S3x512 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S3x512 .f32) (main_arg12 : FVec F S3x512x512 .f32) (main_arg13 : FVec F S3x512 .f32) (main_arg14 : FVec F S3x512x512 .f32) (main_arg15 : FVec F S3x512 .f32) (main_arg16 : FVec F S3x512x512 .f32) (main_arg17 : FVec F S3x512 .f32) (main_arg18 : FVec F S3x512x512 .f32) (main_arg19 : FVec F S3x512 .f32) (main_arg20 : FVec F S3x512x2048 .f32) (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v48 : IVec S_ 1) (main_v49 : FVec F S3x512x512 .f32) (main_v50 : FVec F S3x512x512 .f32) : IVec S_ 1 :=
  let main_v51 : IVec S3x512x512 1 := cmpf .olt main_v49 main_v50
  let main_c_19 : IVec S_ 1 := constantI S_ 1 1#1
  let main_v52 : IVec S_ 1 := (fun x v => Host.reduce IntOp.andi x v reducesTo_S3x512x512_S_d0_1_2 h_S_) main_v51 main_c_19
  let main_v53 : IVec S_ 1 := andi main_v48 main_v52
  let main_v54 : FVec F S3x512 .f32 := Host.absf main_arg11
  let main_cst_20 : FVec F S_ .f32 := constant S_ .f32 0x7F800000#32
  let main_v55 : FVec F S3x512 .f32 := broadcastInDim S3x512 ![] bcast_S_S3x512 main_cst_20
  let main_v56 : IVec S3x512 1 := cmpf .olt main_v54 main_v55
  let main_c_21 : IVec S_ 1 := constantI S_ 1 1#1
  let main_v57 : IVec S_ 1 := (fun x v => Host.reduce IntOp.andi x v reducesTo_S3x512_S_d0_1 h_S_) main_v56 main_c_21
  let main_v58 : IVec S_ 1 := andi main_v53 main_v57
  let main_v59 : FVec F S3x512x512 .f32 := Host.absf main_arg12
  let main_cst_22 : FVec F S_ .f32 := constant S_ .f32 0x7F800000#32
  let main_v60 : FVec F S3x512x512 .f32 := broadcastInDim S3x512x512 ![] bcast_S_S3x512x512 main_cst_22
  let main_v61 : IVec S3x512x512 1 := cmpf .olt main_v59 main_v60
  let main_c_23 : IVec S_ 1 := constantI S_ 1 1#1
  let main_v62 : IVec S_ 1 := (fun x v => Host.reduce IntOp.andi x v reducesTo_S3x512x512_S_d0_1_2 h_S_) main_v61 main_c_23
  let main_v63 : IVec S_ 1 := andi main_v58 main_v62
  let main_v64 : FVec F S3x512 .f32 := Host.absf main_arg13
  let main_cst_24 : FVec F S_ .f32 := constant S_ .f32 0x7F800000#32
  let main_v65 : FVec F S3x512 .f32 := broadcastInDim S3x512 ![] bcast_S_S3x512 main_cst_24
  let main_v66 : IVec S3x512 1 := cmpf .olt main_v64 main_v65
  let main_c_25 : IVec S_ 1 := constantI S_ 1 1#1
  let main_v67 : IVec S_ 1 := (fun x v => Host.reduce IntOp.andi x v reducesTo_S3x512_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S3x512 .f32) (main_arg8 : FVec F S3x512x512 .f32) (main_arg9 : FVec F S3x512 .f32) (main_arg10 : FVec F S3x512x512 .f32) (main_arg11 : FVec F S3x512 .f32) (main_arg12 : FVec F S3x512x512 .f32) (main_arg13 : FVec F S3x512 .f32) (main_arg14 : FVec F S3x512x512 .f32) (main_arg15 : FVec F S3x512 .f32) (main_arg16 : FVec F S3x512x512 .f32) (main_arg17 : FVec F S3x512 .f32) (main_arg18 : FVec F S3x512x512 .f32) (main_arg19 : FVec F S3x512 .f32) (main_arg20 : FVec F S3x512x2048 .f32) (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v33 : IVec S_ 1) : IVec S_ 1 :=
  let main_v34 : FVec F S3x512 .f32 := Host.absf main_arg7
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512x512 .f32 := Host.absf main_arg8
  let main_cst_14 : FVec F S_ .f32 := constant S_ .f32 0x7F800000#32
  let main_v40 : FVec F S3x512x512 .f32 := broadcastInDim S3x512x512 ![] bcast_S_S3x512x512 main_cst_14
  let main_v41 : IVec S3x512x512 1 := cmpf .olt main_v39 main_v40
  let main_c_15 : IVec S_ 1 := constantI S_ 1 1#1
  let main_v42 : IVec S_ 1 := (fun x v => Host.reduce IntOp.andi x v reducesTo_S3x512x512_S_d0_1_2 h_S_) main_v41 main_c_15
  let main_v43 : IVec S_ 1 := andi main_v38 main_v42
  let main_v44 : FVec F S3x512 .f32 := Host.absf main_arg9
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  let main_v49 : FVec F S3x512x512 .f32 := Host.absf main_arg10
  let main_cst_18 : FVec F S_ .f32 := constant S_ .f32 0x7F800000#32
  let main_v50 : FVec F S3x512x512 .f32 := broadcastInDim S3x512x512 ![] bcast_S_S3x512x512 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S3x512x512 .f32) (main_arg5 : FVec F S3x512 .f32) (main_arg6 : FVec F S3x512x512 .f32) (main_arg7 : FVec F S3x512 .f32) (main_arg8 : FVec F S3x512x512 .f32) (main_arg9 : FVec F S3x512 .f32) (main_arg10 : FVec F S3x512x512 .f32) (main_arg11 : FVec F S3x512 .f32) (main_arg12 : FVec F S3x512x512 .f32) (main_arg13 : FVec F S3x512 .f32) (main_arg14 : FVec F S3x512x512 .f32) (main_arg15 : FVec F S3x512 .f32) (main_arg16 : FVec F S3x512x512 .f32) (main_arg17 : FVec F S3x512 .f32) (main_arg18 : FVec F S3x512x512 .f32) (main_arg19 : FVec F S3x512 .f32) (main_arg20 : FVec F S3x512x2048 .f32) (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512x512 .f32 := Host.absf main_arg6
  let main_cst_10 : FVec F S_ .f32 := constant S_ .f32 0x7F800000#32
  let main_v30 : FVec F S3x512x512 .f32 := broadcastInDim S3x512x512 ![] bcast_S_S3x512x512 main_cst_10
  let main_v31 : IVec S3x512x512 1 := cmpf .olt main_v29 main_v30
  let main_c_11 : IVec S_ 1 := constantI S_ 1 1#1
  let main_v32 : IVec S_ 1 := (fun x v => Host.reduce IntOp.andi x v reducesTo_S3x512x512_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S16x512x1024 .f32) (main_arg1 : FVec F S16x512x512 .f32) (main_arg2 : FVec F S1024x512 .f32) (main_arg3 : FVec F S512 .f32) (main_arg4 : FVec F S3x512x512 .f32) (main_arg5 : FVec F S3x512 .f32) (main_arg6 : FVec F S3x512x512 .f32) (main_arg7 : FVec F S3x512 .f32) (main_arg8 : FVec F S3x512x512 .f32) (main_arg9 : FVec F S3x512 .f32) (main_arg10 : FVec F S3x512x512 .f32) (main_arg11 : FVec F S3x512 .f32) (main_arg12 : FVec F S3x512x512 .f32) (main_arg13 : FVec F S3x512 .f32) (main_arg14 : FVec F S3x512x512 .f32) (main_arg15 : FVec F S3x512 .f32) (main_arg16 : FVec F S3x512x512 .f32) (main_arg17 : FVec F S3x512 .f32) (main_arg18 : FVec F S3x512x512 .f32) (main_arg19 : FVec F S3x512 .f32) (main_arg20 : FVec F S3x512x2048 .f32) (main_arg21 : FVec F S3x2048 .f32) (main_arg22 : FVec F S3x2048x512 .f32) (main_arg23 : FVec F S3x512 .f32) (main_arg24 : FVec F S3x512 .f32) (main_arg25 : FVec F S3x512 .f32) (main_arg26 : FVec F S3x512 .f32) (main_arg27 : FVec F S3x512 .f32) (main_arg28 : FVec F S3x512 .f32) (main_arg29 : FVec F S3x512 .f32) (main_arg30 : FVec F S512x256 .f32) (main_arg31 : FVec F S256 .f32) (main_arg32 : FVec F S256x64 .f32) (main_arg33 : FVec F S64 .f32) (main_arg34 : FVec F S64x2 .f32) (main_arg35 : FVec F S2 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S16x512x1024 : Shape := ⟨3, ![16, 512, 1024]⟩
abbrev S16x512x512 : Shape := ⟨3, ![16, 512, 512]⟩
abbrev S1024x512 : Shape := ⟨2, ![1024, 512]⟩
abbrev S512 : Shape := ⟨1, ![512]⟩
abbrev S3x512x512 : Shape := ⟨3, ![3, 512, 512]⟩
abbrev S3x512 : Shape := ⟨2, ![3, 512]⟩
abbrev S3x512x2048 : Shape := ⟨3, ![3, 512, 2048]⟩
abbrev S3x2048 : Shape := ⟨2, ![3, 2048]⟩
abbrev S3x2048x512 : Shape := ⟨3, ![3, 2048, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x2 : Shape := ⟨2, ![64, 2]⟩
abbrev S2 : Shape := ⟨1, ![2]⟩
abbrev S3x1x512 : Shape := ⟨3, ![3, 1, 512]⟩
abbrev S3x1x2048 : Shape := ⟨3, ![3, 1, 2048]⟩
abbrev S1x512 : Shape := ⟨2, ![1, 512]⟩
abbrev S1x256 : Shape := ⟨2, ![1, 256]⟩
abbrev S1x64 : Shape := ⟨2, ![1, 64]⟩
abbrev S1x2 : Shape := ⟨2, ![1, 2]⟩
abbrev S2x512x1024 : Shape := ⟨3, ![2, 512, 1024]⟩
abbrev S2x512x512 : Shape := ⟨3, ![2, 512, 512]⟩
abbrev S1x512x512 : Shape := ⟨3, ![1, 512, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S1x2048x512 : Shape := ⟨3, ![1, 2048, 512]⟩
abbrev S1024x1024 : Shape := ⟨2, ![1024, 1024]⟩
abbrev S512x512 : Shape := ⟨2, ![512, 512]⟩
abbrev S512x64 : Shape := ⟨2, ![512, 64]⟩
abbrev S512x1 : Shape := ⟨2, ![512, 1]⟩
abbrev S1024 : Shape := ⟨1, ![1024]⟩
abbrev S1024x1 : Shape := ⟨2, ![1024, 1]⟩
abbrev S512x2048 : Shape := ⟨2, ![512, 2048]⟩
abbrev S1024x2048 : Shape := ⟨2, ![1024, 2048]⟩
abbrev S1x2048 : Shape := ⟨2, ![1, 2048]⟩
abbrev S2048x512 : Shape := ⟨2, ![2048, 512]⟩
abbrev S16x8x512x512 : Shape := ⟨4, ![16, 8, 512, 512]⟩
abbrev S16x1x512 : Shape := ⟨3, ![16, 1, 512]⟩
abbrev S16x1x2 : Shape := ⟨3, ![16, 1, 2]⟩
abbrev S1x8x512x512 : Shape := ⟨4, ![1, 8, 512, 512]⟩
abbrev S1x1x2 : Shape := ⟨3, ![1, 1, 2]⟩
abbrev S1x1x512x512 : Shape := ⟨4, ![1, 1, 512, 512]⟩
abbrev S1 : Shape := ⟨1, ![1]⟩
abbrev S1x1 : Shape := ⟨2, ![1, 1]⟩
abbrev S16x512 : Shape := ⟨2, ![16, 512]⟩
abbrev S16x2 : Shape := ⟨2, ![16, 2]⟩

abbrev nBuf : Space → Nat
  | .hbm => 63
  | .vmem => 108
  | .smem => 0
  | _ => 0

abbrev bufTy : (tb : Table) → Fin (tcTables nBuf tb) → BufTy
  | .hbm, ⟨0, _⟩ => ⟨S16x512x1024, .f32⟩
  | .hbm, ⟨1, _⟩ => ⟨S16x512x512, .f32⟩
  | .hbm, ⟨2, _⟩ => ⟨S1024x512, .f32⟩
  | .hbm, ⟨3, _⟩ => ⟨S512, .f32⟩
  | .hbm, ⟨4, _⟩ => ⟨S3x512x512, .f32⟩
  | .hbm, ⟨5, _⟩ => ⟨S3x512, .f32⟩
  | .hbm, ⟨6, _⟩ => ⟨S3x512x512, .f32⟩
  | .hbm, ⟨7, _⟩ => ⟨S3x512, .f32⟩
  | .hbm, ⟨8, _⟩ => ⟨S3x512x512, .f32⟩
  | .hbm, ⟨9, _⟩ => ⟨S3x512, .f32⟩
  | .hbm, ⟨10, _⟩ => ⟨S3x512x512, .f32⟩
  | .hbm, ⟨11, _⟩ => ⟨S3x512, .f32⟩
  | .hbm, ⟨12, _⟩ => ⟨S3x512x512, .f32⟩
  | .hbm, ⟨13, _⟩ => ⟨S3x512, .f32⟩
  | .hbm, ⟨14, _⟩ => ⟨S3x512x512, .f32⟩
  | .hbm, ⟨15, _⟩ => ⟨S3x512, .f32⟩
  | .hbm, ⟨16, _⟩ => ⟨S3x512x512, .f32⟩
  | .hbm, ⟨17, _⟩ => ⟨S3x512, .f32⟩
  | .hbm, ⟨18, _⟩ => ⟨S3x512x512, .f32⟩
  | .hbm, ⟨19, _⟩ => ⟨S3x512, .f32⟩
  | .hbm, ⟨20, _⟩ => ⟨S3x512x2048, .f32⟩
  | .hbm, ⟨21, _⟩ => ⟨S3x2048, .f32⟩
  | .hbm, ⟨22, _⟩ => ⟨S3x2048x512, .f32⟩
  | .hbm, ⟨23, _⟩ => ⟨S3x512, .f32⟩
  | .hbm, ⟨24, _⟩ => ⟨S3x512, .f32⟩
  | .hbm, ⟨25, _⟩ => ⟨S3x512, .f32⟩
  | .hbm, ⟨26, _⟩ => ⟨S3x512, .f32⟩
  | .hbm, ⟨27, _⟩ => ⟨S3x512, .f32⟩
  | .hbm, ⟨28, _⟩ => ⟨S3x512, .f32⟩
  | .hbm, ⟨29, _⟩ => ⟨S3x512, .f32⟩
  | .hbm, ⟨30, _⟩ => ⟨S512x256, .f32⟩
  | .hbm, ⟨31, _⟩ => ⟨S256, .f32⟩
  | .hbm, ⟨32, _⟩ => ⟨S256x64, .f32⟩
  | .hbm, ⟨33, _⟩ => ⟨S64, .f32⟩
  | .hbm, ⟨34, _⟩ => ⟨S64x2, .f32⟩
  | .hbm, ⟨35, _⟩ => ⟨S2, .f32⟩
  | .hbm, ⟨36, _⟩ => ⟨S3x1x512, .f32⟩
  | .hbm, ⟨37, _⟩ => ⟨S3x1x512, .f32⟩
  | .hbm, ⟨38, _⟩ => ⟨S3x1x512, .f32⟩
  | .hbm, ⟨39, _⟩ => ⟨S3x1x512, .f32⟩
  | .hbm, ⟨40, _⟩ => ⟨S3x1x512, .f32⟩
  | .hbm, ⟨41, _⟩ => ⟨S3x1x512, .f32⟩
  | .hbm, ⟨42, _⟩ => ⟨S3x1x512, .f32⟩
  | .hbm, ⟨43, _⟩ => ⟨S3x1x512, .f32⟩
  | .hbm, ⟨44, _⟩ => ⟨S3x1x2048, .f32⟩
  | .hbm, ⟨45, _⟩ => ⟨S3x1x512, .f32⟩
  | .hbm, ⟨46, _⟩ => ⟨S3x1x512, .f32⟩
  | .hbm, ⟨47, _⟩ => ⟨S3x1x512, .f32⟩
  | .hbm, ⟨48, _⟩ => ⟨S3x1x512, .f32⟩
  | .hbm, ⟨49, _⟩ => ⟨S3x1x512, .f32⟩
  | .hbm, ⟨50, _⟩ => ⟨S3x1x512, .f32⟩
  | .hbm, ⟨51, _⟩ => ⟨S3x1x512, .f32⟩
  | .hbm, ⟨52, _⟩ => ⟨S1x512, .f32⟩
  | .hbm, ⟨53, _⟩ => ⟨S1x256, .f32⟩
  | .hbm, ⟨54, _⟩ => ⟨S1x64, .f32⟩
  | .hbm, ⟨55, _⟩ => ⟨S1x2, .f32⟩
  | .hbm, ⟨56, _⟩ => ⟨S16x512x512, .f32⟩
  | .hbm, ⟨57, _⟩ => ⟨S16x512x512, .f32⟩
  | .hbm, ⟨58, _⟩ => ⟨S16x8x512x512, .f32⟩
  | .hbm, ⟨59, _⟩ => ⟨S16x1x512, .f32⟩
  | .hbm, ⟨60, _⟩ => ⟨S16x1x2, .f32⟩
  | .hbm, ⟨61, _⟩ => ⟨S16x512, .f32⟩
  | .hbm, ⟨62, _⟩ => ⟨S16x2, .f32⟩
  | .local _ .vmem, ⟨0, _⟩ => ⟨S2x512x1024, .f32⟩
  | .local _ .vmem, ⟨1, _⟩ => ⟨S2x512x1024, .f32⟩
  | .local _ .vmem, ⟨2, _⟩ => ⟨S1024x512, .f32⟩
  | .local _ .vmem, ⟨3, _⟩ => ⟨S1x512, .f32⟩
  | .local _ .vmem, ⟨4, _⟩ => ⟨S2x512x512, .f32⟩
  | .local _ .vmem, ⟨5, _⟩ => ⟨S2x512x512, .f32⟩
  | .local _ .vmem, ⟨6, _⟩ => ⟨S1x512x512, .f32⟩
  | .local _ .vmem, ⟨7, _⟩ => ⟨S1x1x512, .f32⟩
  | .local _ .vmem, ⟨8, _⟩ => ⟨S1x512x512, .f32⟩
  | .local _ .vmem, ⟨9, _⟩ => ⟨S1x1x512, .f32⟩
  | .local _ .vmem, ⟨10, _⟩ => ⟨S1x512x512, .f32⟩
  | .local _ .vmem, ⟨11, _⟩ => ⟨S1x1x512, .f32⟩
  | .local _ .vmem, ⟨12, _⟩ => ⟨S1x512x512, .f32⟩
  | .local _ .vmem, ⟨13, _⟩ => ⟨S1x1x512, .f32⟩
  | .local _ .vmem, ⟨14, _⟩ => ⟨S1x512x512, .f32⟩
  | .local _ .vmem, ⟨15, _⟩ => ⟨S1x1x512, .f32⟩
  | .local _ .vmem, ⟨16, _⟩ => ⟨S1x512x512, .f32⟩
  | .local _ .vmem, ⟨17, _⟩ => ⟨S1x1x512, .f32⟩
  | .local _ .vmem, ⟨18, _⟩ => ⟨S1x512x512, .f32⟩
  | .local _ .vmem, ⟨19, _⟩ => ⟨S1x1x512, .f32⟩
  | .local _ .vmem, ⟨20, _⟩ => ⟨S1x512x512, .f32⟩
  | .local _ .vmem, ⟨21, _⟩ => ⟨S1x1x512, .f32⟩
  | .local _ .vmem, ⟨22, _⟩ => ⟨S1x512x2048, .f32⟩
  | .local _ .vmem, ⟨23, _⟩ => ⟨S1x1x2048, .f32⟩
  | .local _ .vmem, ⟨24, _⟩ => ⟨S1x2048x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x1x512, .f32⟩
  | .local _ .vmem, ⟨30, _⟩ => ⟨S1x1x512, .f32⟩
  | .local _ .vmem, ⟨31, _⟩ => ⟨S1x1x512, .f32⟩
  | .local _ .vmem, ⟨32, _⟩ => ⟨S2x512x512, .f32⟩
  | .local _ .vmem, ⟨33, _⟩ => ⟨S2x512x512, .f32⟩
  | .local _ .vmem, ⟨34, _⟩ => ⟨S2x512x512, .f32⟩
  | .local _ .vmem, ⟨35, _⟩ => ⟨S2x512x512, .f32⟩
  | .local _ .vmem, ⟨36, _⟩ => ⟨S2x512x512, .f32⟩
  | .local _ .vmem, ⟨37, _⟩ => ⟨S2x512x512, .f32⟩
  | .local _ .vmem, ⟨38, _⟩ => ⟨S1x512x512, .f32⟩
  | .local _ .vmem, ⟨39, _⟩ => ⟨S1x1x512, .f32⟩
  | .local _ .vmem, ⟨40, _⟩ => ⟨S1x512x512, .f32⟩
  | .local _ .vmem, ⟨41, _⟩ => ⟨S1x1x512, .f32⟩
  | .local _ .vmem, ⟨42, _⟩ => ⟨S1x512x512, .f32⟩
  | .local _ .vmem, ⟨43, _⟩ => ⟨S1x1x512, .f32⟩
  | .local _ .vmem, ⟨44, _⟩ => ⟨S1x512x512, .f32⟩
  | .local _ .vmem, ⟨45, _⟩ => ⟨S1x1x512, .f32⟩
  | .local _ .vmem, ⟨46, _⟩ => ⟨S1x512x512, .f32⟩
  | .local _ .vmem, ⟨47, _⟩ => ⟨S1x1x512, .f32⟩
  | .local _ .vmem, ⟨48, _⟩ => ⟨S1x512x512, .f32⟩
  | .local _ .vmem, ⟨49, _⟩ => ⟨S1x1x512, .f32⟩
  | .local _ .vmem, ⟨50, _⟩ => ⟨S1x512x512, .f32⟩
  | .local _ .vmem, ⟨51, _⟩ => ⟨S1x1x512, .f32⟩
  | .local _ .vmem, ⟨52, _⟩ => ⟨S1x512x512, .f32⟩
  | .local _ .vmem, ⟨53, _⟩ => ⟨S1x1x512, .f32⟩
  | .local _ .vmem, ⟨54, _⟩ => ⟨S1x512x2048, .f32⟩
  | .local _ .vmem, ⟨55, _⟩ => ⟨S1x1x2048, .f32⟩
  | .local _ .vmem, ⟨56, _⟩ => ⟨S1x2048x512, .f32⟩
  | .local _ .vmem, ⟨57, _⟩ => ⟨S1x1x512, .f32⟩
  | .local _ .vmem, ⟨58, _⟩ => ⟨S1x1x512, .f32⟩
  | .local _ .vmem, ⟨59, _⟩ => ⟨S1x1x512, .f32⟩
  | .local _ .vmem, ⟨60, _⟩ => ⟨S1x1x512, .f32⟩
  | .local _ .vmem, ⟨61, _⟩ => ⟨S1x1x512, .f32⟩
  | .local _ .vmem, ⟨62, _⟩ => ⟨S1x1x512, .f32⟩
  | .local _ .vmem, ⟨63, _⟩ => ⟨S1x1x512, .f32⟩
  | .local _ .vmem, ⟨64, _⟩ => ⟨S2x512x512, .f32⟩
  | .local _ .vmem, ⟨65, _⟩ => ⟨S2x512x512, .f32⟩
  | .local _ .vmem, ⟨66, _⟩ => ⟨S1x512x512, .f32⟩
  | .local _ .vmem, ⟨67, _⟩ => ⟨S1x512x512, .f32⟩
  | .local _ .vmem, ⟨68, _⟩ => ⟨S1x512x512, .f32⟩
  | .local _ .vmem, ⟨69, _⟩ => ⟨S1x512x512, .f32⟩
  | .local _ .vmem, ⟨70, _⟩ => ⟨S1x512x512, .f32⟩
  | .local _ .vmem, ⟨71, _⟩ => ⟨S1x1x512, .f32⟩
  | .local _ .vmem, ⟨72, _⟩ => ⟨S1x512x512, .f32⟩
  | .local _ .vmem, ⟨73, _⟩ => ⟨S1x1x512, .f32⟩
  | .local _ .vmem, ⟨74, _⟩ => ⟨S1x512x512, .f32⟩
  | .local _ .vmem, ⟨75, _⟩ => ⟨S1x1x512, .f32⟩
  | .local _ .vmem, ⟨76, _⟩ => ⟨S1x512x512, .f32⟩
  | .local _ .vmem, ⟨77, _⟩ => ⟨S1x1x512, .f32⟩
  | .local _ .vmem, ⟨78, _⟩ => ⟨S1x512x512, .f32⟩
  | .local _ .vmem, ⟨79, _⟩ => ⟨S1x1x512, .f32⟩
  | .local _ .vmem, ⟨80, _⟩ => ⟨S1x512x512, .f32⟩
  | .local _ .vmem, ⟨81, _⟩ => ⟨S1x1x512, .f32⟩
  | .local _ .vmem, ⟨82, _⟩ => ⟨S1x512x512, .f32⟩
  | .local _ .vmem, ⟨83, _⟩ => ⟨S1x1x512, .f32⟩
  | .local _ .vmem, ⟨84, _⟩ => ⟨S1x512x512, .f32⟩
  | .local _ .vmem, ⟨85, _⟩ => ⟨S1x1x512, .f32⟩
  | .local _ .vmem, ⟨86, _⟩ => ⟨S1x512x2048, .f32⟩
  | .local _ .vmem, ⟨87, _⟩ => ⟨S1x1x2048, .f32⟩
  | .local _ .vmem, ⟨88, _⟩ => ⟨S1x2048x512, .f32⟩
  | .local _ .vmem, ⟨89, _⟩ => ⟨S1x1x512, .f32⟩
  | .local _ .vmem, ⟨90, _⟩ => ⟨S1x1x512, .f32⟩
  | .local _ .vmem, ⟨91, _⟩ => ⟨S1x1x512, .f32⟩
  | .local _ .vmem, ⟨92, _⟩ => ⟨S1x1x512, .f32⟩
  | .local _ .vmem, ⟨93, _⟩ => ⟨S1x1x512, .f32⟩
  | .local _ .vmem, ⟨94, _⟩ => ⟨S1x1x512, .f32⟩
  | .local _ .vmem, ⟨95, _⟩ => ⟨S1x1x512, .f32⟩
  | .local _ .vmem, ⟨96, _⟩ => ⟨S512x256, .f32⟩
  | .local _ .vmem, ⟨97, _⟩ => ⟨S1x256, .f32⟩
  | .local _ .vmem, ⟨98, _⟩ => ⟨S256x64, .f32⟩
  | .local _ .vmem, ⟨99, _⟩ => ⟨S1x64, .f32⟩
  | .local _ .vmem, ⟨100, _⟩ => ⟨S64x2, .f32⟩
  | .local _ .vmem, ⟨101, _⟩ => ⟨S1x2, .f32⟩
  | .local _ .vmem, ⟨102, _⟩ => ⟨S1x8x512x512, .f32⟩
  | .local _ .vmem, ⟨103, _⟩ => ⟨S1x8x512x512, .f32⟩
  | .local _ .vmem, ⟨104, _⟩ => ⟨S1x1x512, .f32⟩
  | .local _ .vmem, ⟨105, _⟩ => ⟨S1x1x512, .f32⟩
  | .local _ .vmem, ⟨106, _⟩ => ⟨S1x1x2, .f32⟩
  | .local _ .vmem, ⟨107, _⟩ => ⟨S1x1x2, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22_0 : Ref sig .tc := ⟨.hbm, 58, rfl⟩
abbrev main_v22_1 : Ref sig .tc := ⟨.hbm, 59, rfl⟩
abbrev main_v22_2 : Ref sig .tc := ⟨.hbm, 60, rfl⟩
abbrev main_v23 : Ref sig .tc := ⟨.hbm, 61, rfl⟩
abbrev main_v24 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg30_1 : Ref sig .tc := ⟨.vmem, 33, rfl⟩
abbrev cc1_stg0_0 : Ref sig .tc := ⟨.vmem, 34, rfl⟩
abbrev cc1_stg0_1 : Ref sig .tc := ⟨.vmem, 35, rfl⟩
abbrev cc1_stg1_0 : Ref sig .tc := ⟨.vmem, 36, rfl⟩
abbrev cc1_stg1_1 : Ref sig .tc := ⟨.vmem, 37, rfl⟩
abbrev cc1_stg2_0 : Ref sig .tc := ⟨.vmem, 38, rfl⟩
abbrev cc1_stg3_0 : Ref sig .tc := ⟨.vmem, 39, rfl⟩
abbrev cc1_stg4_0 : Ref sig .tc := ⟨.vmem, 40, rfl⟩
abbrev cc1_stg5_0 : Ref sig .tc := ⟨.vmem, 41, rfl⟩
abbrev cc1_stg6_0 : Ref sig .tc := ⟨.vmem, 42, rfl⟩
abbrev cc1_stg7_0 : Ref sig .tc := ⟨.vmem, 43, rfl⟩
abbrev cc1_stg8_0 : Ref sig .tc := ⟨.vmem, 44, rfl⟩
abbrev cc1_stg9_0 : Ref sig .tc := ⟨.vmem, 45, rfl⟩
abbrev cc1_stg10_0 : Ref sig .tc := ⟨.vmem, 46, rfl⟩
abbrev cc1_stg11_0 : Ref sig .tc := ⟨.vmem, 47, rfl⟩
abbrev cc1_stg12_0 : Ref sig .tc := ⟨.vmem, 48, rfl⟩
abbrev cc1_stg13_0 : Ref sig .tc := ⟨.vmem, 49, rfl⟩
abbrev cc1_stg14_0 : Ref sig .tc := ⟨.vmem, 50, rfl⟩
abbrev cc1_stg15_0 : Ref sig .tc := ⟨.vmem, 51, rfl⟩
abbrev cc1_stg16_0 : Ref sig .tc := ⟨.vmem, 52, rfl⟩
abbrev cc1_stg17_0 : Ref sig .tc := ⟨.vmem, 53, rfl⟩
abbrev cc1_stg18_0 : Ref sig .tc := ⟨.vmem, 54, rfl⟩
abbrev cc1_stg19_0 : Ref sig .tc := ⟨.vmem, 55, rfl⟩
abbrev cc1_stg20_0 : Ref sig .tc := ⟨.vmem, 56, rfl⟩
abbrev cc1_stg21_0 : Ref sig .tc := ⟨.vmem, 57, rfl⟩
abbrev cc1_stg22_0 : Ref sig .tc := ⟨.vmem, 58, rfl⟩
abbrev cc1_stg23_0 : Ref sig .tc := ⟨.vmem, 59, rfl⟩
abbrev cc1_stg24_0 : Ref sig .tc := ⟨.vmem, 60, rfl⟩
abbrev cc1_stg25_0 : Ref sig .tc := ⟨.vmem, 61, rfl⟩
abbrev cc1_stg26_0 : Ref sig .tc := ⟨.vmem, 62, rfl⟩
abbrev cc1_stg27_0 : Ref sig .tc := ⟨.vmem, 63, rfl⟩
abbrev cc1_stg28_0 : Ref sig .tc := ⟨.vmem, 64, rfl⟩
abbrev cc1_stg28_1 : Ref sig .tc := ⟨.vmem, 65, rfl⟩
abbrev cc2_stg0_0 : Ref sig .tc := ⟨.vmem, 66, rfl⟩
abbrev cc2_stg0_1 : Ref sig .tc := ⟨.vmem, 67, rfl⟩
abbrev cc2_stg1_0 : Ref sig .tc := ⟨.vmem, 68, rfl⟩
abbrev cc2_stg1_1 : Ref sig .tc := ⟨.vmem, 69, rfl⟩
abbrev cc2_stg2_0 : Ref sig .tc := ⟨.vmem, 70, rfl⟩
abbrev cc2_stg3_0 : Ref sig .tc := ⟨.vmem, 71, rfl⟩
abbrev cc2_stg4_0 : Ref sig .tc := ⟨.vmem, 72, rfl⟩
abbrev cc2_stg5_0 : Ref sig .tc := ⟨.vmem, 73, rfl⟩
abbrev cc2_stg6_0 : Ref sig .tc := ⟨.vmem, 74, rfl⟩
abbrev cc2_stg7_0 : Ref sig .tc := ⟨.vmem, 75, rfl⟩
abbrev cc2_stg8_0 : Ref sig .tc := ⟨.vmem, 76, rfl⟩
abbrev cc2_stg9_0 : Ref sig .tc := ⟨.vmem, 77, rfl⟩
abbrev cc2_stg10_0 : Ref sig .tc := ⟨.vmem, 78, rfl⟩
abbrev cc2_stg11_0 : Ref sig .tc := ⟨.vmem, 79, rfl⟩
abbrev cc2_stg12_0 : Ref sig .tc := ⟨.vmem, 80, rfl⟩
abbrev cc2_stg13_0 : Ref sig .tc := ⟨.vmem, 81, rfl⟩
abbrev cc2_stg14_0 : Ref sig .tc := ⟨.vmem, 82, rfl⟩
abbrev cc2_stg15_0 : Ref sig .tc := ⟨.vmem, 83, rfl⟩
abbrev cc2_stg16_0 : Ref sig .tc := ⟨.vmem, 84, rfl⟩
abbrev cc2_stg17_0 : Ref sig .tc := ⟨.vmem, 85, rfl⟩
abbrev cc2_stg18_0 : Ref sig .tc := ⟨.vmem, 86, rfl⟩
abbrev cc2_stg19_0 : Ref sig .tc := ⟨.vmem, 87, rfl⟩
abbrev cc2_stg20_0 : Ref sig .tc := ⟨.vmem, 88, rfl⟩
abbrev cc2_stg21_0 : Ref sig .tc := ⟨.vmem, 89, rfl⟩
abbrev cc2_stg22_0 : Ref sig .tc := ⟨.vmem, 90, rfl⟩
abbrev cc2_stg23_0 : Ref sig .tc := ⟨.vmem, 91, rfl⟩
abbrev cc2_stg24_0 : Ref sig .tc := ⟨.vmem, 92, rfl⟩
abbrev cc2_stg25_0 : Ref sig .tc := ⟨.vmem, 93, rfl⟩
abbrev cc2_stg26_0 : Ref sig .tc := ⟨.vmem, 94, rfl⟩
abbrev cc2_stg27_0 : Ref sig .tc := ⟨.vmem, 95, rfl⟩
abbrev cc2_stg28_0 : Ref sig .tc := ⟨.vmem, 96, rfl⟩
abbrev cc2_stg29_0 : Ref sig .tc := ⟨.vmem, 97, rfl⟩
abbrev cc2_stg30_0 : Ref sig .tc := ⟨.vmem, 98, rfl⟩
abbrev cc2_stg31_0 : Ref sig .tc := ⟨.vmem, 99, rfl⟩
abbrev cc2_stg32_0 : Ref sig .tc := ⟨.vmem, 100, rfl⟩
abbrev cc2_stg33_0 : Ref sig .tc := ⟨.vmem, 101, rfl⟩
abbrev cc2_stg34_0 : Ref sig .tc := ⟨.vmem, 102, rfl⟩
abbrev cc2_stg34_1 : Ref sig .tc := ⟨.vmem, 103, rfl⟩
abbrev cc2_stg35_0 : Ref sig .tc := ⟨.vmem, 104, rfl⟩
abbrev cc2_stg35_1 : Ref sig .tc := ⟨.vmem, 105, rfl⟩
abbrev cc2_stg36_0 : Ref sig .tc := ⟨.vmem, 106, rfl⟩
abbrev cc2_stg36_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem30_1 : DmaSem sig := 33
abbrev cc1_sem0_0 : DmaSem sig := 34
abbrev cc1_sem0_1 : DmaSem sig := 35
abbrev cc1_sem1_0 : DmaSem sig := 36
abbrev cc1_sem1_1 : DmaSem sig := 37
abbrev cc1_sem2_0 : DmaSem sig := 38
abbrev cc1_sem3_0 : DmaSem sig := 39
abbrev cc1_sem4_0 : DmaSem sig := 40
abbrev cc1_sem5_0 : DmaSem sig := 41
abbrev cc1_sem6_0 : DmaSem sig := 42
abbrev cc1_sem7_0 : DmaSem sig := 43
abbrev cc1_sem8_0 : DmaSem sig := 44
abbrev cc1_sem9_0 : DmaSem sig := 45
abbrev cc1_sem10_0 : DmaSem sig := 46
abbrev cc1_sem11_0 : DmaSem sig := 47
abbrev cc1_sem12_0 : DmaSem sig := 48
abbrev cc1_sem13_0 : DmaSem sig := 49
abbrev cc1_sem14_0 : DmaSem sig := 50
abbrev cc1_sem15_0 : DmaSem sig := 51
abbrev cc1_sem16_0 : DmaSem sig := 52
abbrev cc1_sem17_0 : DmaSem sig := 53
abbrev cc1_sem18_0 : DmaSem sig := 54
abbrev cc1_sem19_0 : DmaSem sig := 55
abbrev cc1_sem20_0 : DmaSem sig := 56
abbrev cc1_sem21_0 : DmaSem sig := 57
abbrev cc1_sem22_0 : DmaSem sig := 58
abbrev cc1_sem23_0 : DmaSem sig := 59
abbrev cc1_sem24_0 : DmaSem sig := 60
abbrev cc1_sem25_0 : DmaSem sig := 61
abbrev cc1_sem26_0 : DmaSem sig := 62
abbrev cc1_sem27_0 : DmaSem sig := 63
abbrev cc1_sem28_0 : DmaSem sig := 64
abbrev cc1_sem28_1 : DmaSem sig := 65
abbrev cc2_sem0_0 : DmaSem sig := 66
abbrev cc2_sem0_1 : DmaSem sig := 67
abbrev cc2_sem1_0 : DmaSem sig := 68
abbrev cc2_sem1_1 : DmaSem sig := 69
abbrev cc2_sem2_0 : DmaSem sig := 70
abbrev cc2_sem3_0 : DmaSem sig := 71
abbrev cc2_sem4_0 : DmaSem sig := 72
abbrev cc2_sem5_0 : DmaSem sig := 73
abbrev cc2_sem6_0 : DmaSem sig := 74
abbrev cc2_sem7_0 : DmaSem sig := 75
abbrev cc2_sem8_0 : DmaSem sig := 76
abbrev cc2_sem9_0 : DmaSem sig := 77
abbrev cc2_sem10_0 : DmaSem sig := 78
abbrev cc2_sem11_0 : DmaSem sig := 79
abbrev cc2_sem12_0 : DmaSem sig := 80
abbrev cc2_sem13_0 : DmaSem sig := 81
abbrev cc2_sem14_0 : DmaSem sig := 82
abbrev cc2_sem15_0 : DmaSem sig := 83
abbrev cc2_sem16_0 : DmaSem sig := 84
abbrev cc2_sem17_0 : DmaSem sig := 85
abbrev cc2_sem18_0 : DmaSem sig := 86
abbrev cc2_sem19_0 : DmaSem sig := 87
abbrev cc2_sem20_0 : DmaSem sig := 88
abbrev cc2_sem21_0 : DmaSem sig := 89
abbrev cc2_sem22_0 : DmaSem sig := 90
abbrev cc2_sem23_0 : DmaSem sig := 91
abbrev cc2_sem24_0 : DmaSem sig := 92
abbrev cc2_sem25_0 : DmaSem sig := 93
abbrev cc2_sem26_0 : DmaSem sig := 94
abbrev cc2_sem27_0 : DmaSem sig := 95
abbrev cc2_sem28_0 : DmaSem sig := 96
abbrev cc2_sem29_0 : DmaSem sig := 97
abbrev cc2_sem30_0 : DmaSem sig := 98
abbrev cc2_sem31_0 : DmaSem sig := 99
abbrev cc2_sem32_0 : DmaSem sig := 100
abbrev cc2_sem33_0 : DmaSem sig := 101
abbrev cc2_sem34_0 : DmaSem sig := 102
abbrev cc2_sem34_1 : DmaSem sig := 103
abbrev cc2_sem35_0 : DmaSem sig := 104
abbrev cc2_sem35_1 : DmaSem sig := 105
abbrev cc2_sem36_0 : DmaSem sig := 106
abbrev cc2_sem36_1 : DmaSem sig := 107

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2048x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 2 → Memref sig .tc .vmem S2x512x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_12 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_13 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_14 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_15 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_16 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_17 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_18 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_19 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_20 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_21 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_22 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_23 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_24 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_25 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_26 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_27 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_28 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x512x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x512x2048 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1x2048 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x2048x512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x1x512 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x1x512 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x1x512 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x1x512 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S1x1x512 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S1x1x512 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S1x1x512 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 2 → Memref sig .tc .vmem S2x512x512 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_4 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_5 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_6 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_7 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_12 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_13 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_14 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_15 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_16 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_17 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_18 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_19 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_20 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_21 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_22 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_23 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_24 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_25 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_26 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_27 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_28 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_29 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_30 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_31 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_32 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_33 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_34 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_35 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_36 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x512x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x512x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x1x512 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x512x512 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x1x512 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x512x2048 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1x1x2048 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S1x2048x512 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S1x1x512 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 1 → Memref sig .tc .vmem S1x1x512 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false]

abbrev stage2_23 : Fin 1 → Memref sig .tc .vmem S1x1x512 .f32 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![false]

abbrev stage2_24 : Fin 1 → Memref sig .tc .vmem S1x1x512 .f32 := fun | 0 => Memref.whole cc2_stg24_0 | ⟨_ + 1, h⟩ => absurd h (Nat.not_lt.2 (Nat.le_add_left _ _))
abbrev sem2_24 : Fin 1 → DmaSem sig := fun | 0 => cc2_sem24_0 | ⟨_ + 1, h⟩ => absurd h (Nat.not_lt.2 (Nat.le_add_left _ _))
abbrev reads2_24 : Fin grid2.rank → Bool := ![false]

abbrev stage2_25 : Fin 1 → Memref sig .tc .vmem S1x1x512 .f32 := fun | 0 => Memref.whole cc2_stg25_0 | ⟨_ + 1, h⟩ => absurd h (Nat.not_lt.2 (Nat.le_add_left _ _))
abbrev sem2_25 : Fin 1 → DmaSem sig := fun | 0 => cc2_sem25_0 | ⟨_ + 1, h⟩ => absurd h (Nat.not_lt.2 (Nat.le_add_left _ _))
abbrev reads2_25 : Fin grid2.rank → Bool := ![false]

abbrev stage2_26 : Fin 1 → Memref sig .tc .vmem S1x1x512 .f32 := fun | 0 => Memref.whole cc2_stg26_0 | ⟨_ + 1, h⟩ => absurd h (Nat.not_lt.2 (Nat.le_add_left _ _))
abbrev sem2_26 : Fin 1 → DmaSem sig := fun | 0 => cc2_sem26_0 | ⟨_ + 1, h⟩ => absurd h (Nat.not_lt.2 (Nat.le_add_left _ _))
abbrev reads2_26 : Fin grid2.rank → Bool := ![false]

abbrev stage2_27 : Fin 1 → Memref sig .tc .vmem S1x1x512 .f32 := fun | 0 => Memref.whole cc2_stg27_0 | ⟨_ + 1, h⟩ => absurd h (Nat.not_lt.2 (Nat.le_add_left _ _))
abbrev sem2_27 : Fin 1 → DmaSem sig := fun | 0 => cc2_sem27_0 | ⟨_ + 1, h⟩ => absurd h (Nat.not_lt.2 (Nat.le_add_left _ _))
abbrev reads2_27 : Fin grid2.rank → Bool := ![false]

abbrev stage2_28 : Fin 1 → Memref sig .tc .vmem S512x256 .f32 := fun | 0 => Memref.whole cc2_stg28_0 | ⟨_ + 1, h⟩ => absurd h (Nat.not_lt.2 (Nat.le_add_left _ _))
abbrev sem2_28 : Fin 1 → DmaSem sig := fun | 0 => cc2_sem28_0 | ⟨_ + 1, h⟩ => absurd h (Nat.not_lt.2 (Nat.le_add_left _ _))
abbrev reads2_28 : Fin grid2.rank → Bool := ![false]

abbrev stage2_29 : Fin 1 → Memref sig .tc .vmem S1x256 .f32 := fun | 0 => Memref.whole cc2_stg29_0 | ⟨_ + 1, h⟩ => absurd h (Nat.not_lt.2 (Nat.le_add_left _ _))
abbrev sem2_29 : Fin 1 → DmaSem sig := fun | 0 => cc2_sem29_0 | ⟨_ + 1, h⟩ => absurd h (Nat.not_lt.2 (Nat.le_add_left _ _))
abbrev reads2_29 : Fin grid2.rank → Bool := ![false]

abbrev stage2_30 : Fin 1 → Memref sig .tc .vmem S256x64 .f32 := fun | 0 => Memref.whole cc2_stg30_0 | ⟨_ + 1, h⟩ => absurd h (Nat.not_lt.2 (Nat.le_add_left _ _))
abbrev sem2_30 : Fin 1 → DmaSem sig := fun | 0 => cc2_sem30_0 | ⟨_ + 1, h⟩ => absurd h (Nat.not_lt.2 (Nat.le_add_left _ _))
abbrev reads2_30 : Fin grid2.rank → Bool := ![false]

abbrev stage2_31 : Fin 1 → Memref sig .tc .vmem S1x64 .f32 := fun | 0 => Memref.whole cc2_stg31_0 | ⟨_ + 1, h⟩ => absurd h (Nat.not_lt.2 (Nat.le_add_left _ _))
abbrev sem2_31 : Fin 1 → DmaSem sig := fun | 0 => cc2_sem31_0 | ⟨_ + 1, h⟩ => absurd h (Nat.not_lt.2 (Nat.le_add_left _ _))
abbrev reads2_31 : Fin grid2.rank → Bool := ![false]

abbrev stage2_32 : Fin 1 → Memref sig .tc .vmem S64x2 .f32 := fun | 0 => Memref.whole cc2_stg32_0 | ⟨_ + 1, h⟩ => absurd h (Nat.not_lt.2 (Nat.le_add_left _ _))
abbrev sem2_32 : Fin 1 → DmaSem sig := fun | 0 => cc2_sem32_0 | ⟨_ + 1, h⟩ => absurd h (Nat.not_lt.2 (Nat.le_add_left _ _))
abbrev reads2_32 : Fin grid2.rank → Bool := ![false]

abbrev stage2_33 : Fin 1 → Memref sig .tc .vmem S1x2 .f32 := fun | 0 => Memref.whole cc2_stg33_0 | ⟨_ + 1, h⟩ => absurd h (Nat.not_lt.2 (Nat.le_add_left _ _))
abbrev sem2_33 : Fin 1 → DmaSem sig := fun | 0 => cc2_sem33_0 | ⟨_ + 1, h⟩ => absurd h (Nat.not_lt.2 (Nat.le_add_left _ _))
abbrev reads2_33 : Fin grid2.rank → Bool := ![false]

abbrev stage2_34 : Fin 2 → Memref sig .tc .vmem S1x8x512x512 .f32 := fun | 0 => Memref.whole cc2_stg34_0 | 1 => Memref.whole cc2_stg34_1 | ⟨_ + 2, h⟩ => absurd h (Nat.not_lt.2 (Nat.le_add_left _ _))
abbrev sem2_34 : Fin 2 → DmaSem sig := fun | 0 => cc2_sem34_0 | 1 => cc2_sem34_1 | ⟨_ + 2, h⟩ => absurd h (Nat.not_lt.2 (Nat.le_add_left _ _))
abbrev reads2_34 : Fin grid2.rank → Bool := ![true]

abbrev stage2_35 : Fin 2 → Memref sig .tc .vmem S1x1x512 .f32 := fun | 0 => Memref.whole cc2_stg35_0 | 1 => Memref.whole cc2_stg35_1 | ⟨_ + 2, h⟩ => absurd h (Nat.not_lt.2 (Nat.le_add_left _ _))
abbrev sem2_35 : Fin 2 → DmaSem sig := fun | 0 => cc2_sem35_0 | 1 => cc2_sem35_1 | ⟨_ + 2, h⟩ => absurd h (Nat.not_lt.2 (Nat.le_add_left _ _))
abbrev reads2_35 : Fin grid2.rank → Bool := ![true]

abbrev stage2_36 : Fin 2 → Memref sig .tc .vmem S1x1x2 .f32 := fun | 0 => Memref.whole cc2_stg36_0 | 1 => Memref.whole cc2_stg36_1 | ⟨_ + 2, h⟩ => absurd h (Nat.not_lt.2 (Nat.le_add_left _ _))
abbrev sem2_36 : Fin 2 → DmaSem sig := fun | 0 => cc2_sem36_0 | 1 => cc2_sem36_1 | ⟨_ + 2, h⟩ => absurd h (Nat.not_lt.2 (Nat.le_add_left _ _))
abbrev reads2_36 : Fin grid2.rank → Bool := ![true]
-- ==== ReferenceIdeal.lean ====
abbrev S16x512x1024 : Shape := ⟨3, ![16, 512, 1024]⟩
abbrev S16x512x512 : Shape := ⟨3, ![16, 512, 512]⟩
abbrev S1024x512 : Shape := ⟨2, ![1024, 512]⟩
abbrev S512 : Shape := ⟨1, ![512]⟩
abbrev S3x512x512 : Shape := ⟨3, ![3, 512, 512]⟩
abbrev S3x512 : Shape := ⟨2, ![3, 512]⟩
abbrev S3x512x2048 : Shape := ⟨3, ![3, 512, 2048]⟩
abbrev S3x2048 : Shape := ⟨2, ![3, 2048]⟩
abbrev S3x2048x512 : Shape := ⟨3, ![3, 2048, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x2 : Shape := ⟨2, ![64, 2]⟩
abbrev S2 : Shape := ⟨1, ![2]⟩
abbrev S1x1x512 : Shape := ⟨3, ![1, 1, 512]⟩
abbrev S1x512x512 : Shape := ⟨3, ![1, 512, 512]⟩
abbrev S512x512 : Shape := ⟨2, ![512, 512]⟩
abbrev S1x512 : Shape := ⟨2, ![1, 512]⟩
abbrev S16x512x8x64 : Shape := ⟨4, ![16, 512, 8, 64]⟩
abbrev S16x8x512x512 : Shape := ⟨4, ![16, 8, 512, 512]⟩
abbrev S_ : Shape := ⟨0, ![]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512 : Shape := ⟨2, ![16, 512]⟩
abbrev S16x512x1 : Shape := ⟨3, ![16, 512, 1]⟩
abbrev S1x512x2048 : Shape := ⟨3, ![1, 512, 2048]⟩
abbrev S512x2048 : Shape := ⟨2, ![512, 2048]⟩
abbrev S16x512x2048 : Shape := ⟨3, ![16, 512, 2048]⟩
abbrev S1x2048 : Shape := ⟨2, ![1, 2048]⟩
abbrev S2048 : Shape := ⟨1, ![2048]⟩
abbrev S1x1x2048 : Shape := ⟨3, ![1, 1, 2048]⟩
abbrev S1x2048x512 : Shape := ⟨3, ![1, 2048, 512]⟩
abbrev S2048x512 : Shape := ⟨2, ![2048, 512]⟩
abbrev S16 : Shape := ⟨1, ![16]⟩
abbrev S16x1 : Shape := ⟨2, ![16, 1]⟩
abbrev S16x256 : Shape := ⟨2, ![16, 256]⟩
abbrev S1x256 : Shape := ⟨2, ![1, 256]⟩
abbrev S16x64 : Shape := ⟨2, ![16, 64]⟩
abbrev S1x64 : Shape := ⟨2, ![1, 64]⟩
abbrev S16x2 : Shape := ⟨2, ![16, 2]⟩
abbrev S1x2 : Shape := ⟨2, ![1, 2]⟩

abbrev nBuf : Space → Nat
  | .hbm => 917
  | .vmem => 0
  | .smem => 0
  | _ => 0

abbrev hbmTy0_0 (i : Nat) : BufTy := match i % 128 with
  | 0 => ⟨S16x512x1024, .f32⟩
  | 1 => ⟨S16x512x512, .f32⟩
  | 2 => ⟨S1024x512, .f32⟩
  | 3 => ⟨S512, .f32⟩
  | 4 => ⟨S3x512x512, .f32⟩
  | 5 => ⟨S3x512, .f32⟩
  | 6 => ⟨S3x512x512, .f32⟩
  | 7 => ⟨S3x512, .f32⟩
  | 8 => ⟨S3x512x512, .f32⟩
  | 9 => ⟨S3x512, .f32⟩
  | 10 => ⟨S3x512x512, .f32⟩
  | 11 => ⟨S3x512, .f32⟩
  | 12 => ⟨S3x512x512, .f32⟩
  | 13 => ⟨S3x512, .f32⟩
  | 14 => ⟨S3x512x512, .f32⟩
  | 15 => ⟨S3x512, .f32⟩
  | 16 => ⟨S3x512x512, .f32⟩
  | 17 => ⟨S3x512, .f32⟩
  | 18 => ⟨S3x512x512, .f32⟩
  | 19 => ⟨S3x512, .f32⟩
  | 20 => ⟨S3x512x2048, .f32⟩
  | 21 => ⟨S3x2048, .f32⟩
  | 22 => ⟨S3x2048x512, .f32⟩
  | 23 => ⟨S3x512, .f32⟩
  | 24 => ⟨S3x512, .f32⟩
  | 25 => ⟨S3x512, .f32⟩
  | 26 => ⟨S3x512, .f32⟩
  | 27 => ⟨S3x512, .f32⟩
  | 28 => ⟨S3x512, .f32⟩
  | 29 => ⟨S3x512, .f32⟩
  | 30 => ⟨S512x256, .f32⟩
  | 31 => ⟨S256, .f32⟩
  | 32 => ⟨S256x64, .f32⟩
  | 33 => ⟨S64, .f32⟩
  | 34 => ⟨S64x2, .f32⟩
  | 35 => ⟨S2, .f32⟩
  | 36 => ⟨S16x512x512, .f32⟩
  | 37 => ⟨S1x1x512, .f32⟩
  | 38 => ⟨S16x512x512, .f32⟩
  | 39 => ⟨S16x512x512, .f32⟩
  | 40 => ⟨S1x512x512, .f32⟩
  | 41 => ⟨S512x512, .f32⟩
  | 42 => ⟨S1x512, .f32⟩
  | 43 => ⟨S512, .f32⟩
  | 44 => ⟨S1x512x512, .f32⟩
  | 45 => ⟨S512x512, .f32⟩
  | 46 => ⟨S1x512, .f32⟩
  | 47 => ⟨S512, .f32⟩
  | 48 => ⟨S1x512x512, .f32⟩
  | 49 => ⟨S512x512, .f32⟩
  | 50 => ⟨S1x512, .f32⟩
  | 51 => ⟨S512, .f32⟩
  | 52 => ⟨S1x512x512, .f32⟩
  | 53 => ⟨S512x512, .f32⟩
  | 54 => ⟨S1x512, .f32⟩
  | 55 => ⟨S512, .f32⟩
  | 56 => ⟨S16x512x512, .f32⟩
  | 57 => ⟨S1x1x512, .f32⟩
  | 58 => ⟨S16x512x512, .f32⟩
  | 59 => ⟨S16x512x512, .f32⟩
  | 60 => ⟨S16x512x8x64, .f32⟩
  | 61 => ⟨S16x512x512, .f32⟩
  | 62 => ⟨S1x1x512, .f32⟩
  | 63 => ⟨S16x512x512, .f32⟩
  | 64 => ⟨S16x512x512, .f32⟩
  | 65 => ⟨S16x512x8x64, .f32⟩
  | 66 => ⟨S16x512x512, .f32⟩
  | 67 => ⟨S1x1x512, .f32⟩
  | 68 => ⟨S16x512x512, .f32⟩
  | 69 => ⟨S16x512x512, .f32⟩
  | 70 => ⟨S16x512x8x64, .f32⟩
  | 71 => ⟨S16x8x512x512, .f32⟩
  | 72 => ⟨S_, .f32⟩
  | 73 => ⟨S_, .f32⟩
  | 74 => ⟨S16x8x512x512, .f32⟩
  | 75 => ⟨S16x8x512x512, .f32⟩
  | 76 => ⟨S_, .f32⟩
  | 77 => ⟨S16x8x512, .f32⟩
  | 78 => ⟨S_, .f32⟩
  | 79 => ⟨S16x8x512, .f32⟩
  | 80 => ⟨S16x8x512, .f32⟩
  | 81 => ⟨S16x8x512x1, .f32⟩
  | 82 => ⟨S16x8x512x512, .f32⟩
  | 83 => ⟨S16x8x512x512, .f32⟩
  | 84 => ⟨S16x8x512x512, .f32⟩
  | 85 => ⟨S_, .f32⟩
  | 86 => ⟨S16x8x512, .f32⟩
  | 87 => ⟨S16x8x512x1, .f32⟩
  | 88 => ⟨S16x8x512x512, .f32⟩
  | 89 => ⟨S16x8x512x512, .f32⟩
  | 90 => ⟨S16x8x64x512, .f32⟩
  | 91 => ⟨S16x512x8x64, .f32⟩
  | 92 => ⟨S16x512x512, .f32⟩
  | 93 => ⟨S16x512x512, .f32⟩
  | 94 => ⟨S1x1x512, .f32⟩
  | 95 => ⟨S16x512x512, .f32⟩
  | 96 => ⟨S16x512x512, .f32⟩
  | 97 => ⟨S16x512x512, .f32⟩
  | 98 => ⟨S1x512, .f32⟩
  | 99 => ⟨S512, .f32⟩
  | 100 => ⟨S1x512, .f32⟩
  | 101 => ⟨S512, .f32⟩
  | 102 => ⟨S_, .f32⟩
  | 103 => ⟨S16x512, .f32⟩
  | 104 => ⟨S16x512x1, .f32⟩
  | 105 => ⟨S_, .f32⟩
  | 106 => ⟨S16x512x1, .f32⟩
  | 107 => ⟨S16x512x1, .f32⟩
  | 108 => ⟨S_, .i32⟩
  | 109 => ⟨S_, .f32⟩
  | 110 => ⟨S16x512, .f32⟩
  | 111 => ⟨S16x512x1, .f32⟩
  | 112 => ⟨S_, .f32⟩
  | 113 => ⟨S16x512x1, .f32⟩
  | 114 => ⟨S16x512x1, .f32⟩
  | 115 => ⟨S16x512x512, .f32⟩
  | 116 => ⟨S16x512x512, .f32⟩
  | 117 => ⟨S16x512x512, .f32⟩
  | 118 => ⟨S_, .f32⟩
  | 119 => ⟨S_, .f32⟩
  | 120 => ⟨S_, .f32⟩
  | 121 => ⟨S_, .f32⟩
  | 122 => ⟨S16x512, .f32⟩
  | 123 => ⟨S16x512x1, .f32⟩
  | 124 => ⟨S16x512x1, .f32⟩
  | 125 => ⟨S16x512x1, .f32⟩
  | 126 => ⟨S_, .f32⟩
  | 127 => ⟨S_, .i1⟩
  | _ => ⟨S16x512x1024, .f32⟩

abbrev hbmTy0_1 (i : Nat) : BufTy := match i % 128 with
  | 0 => ⟨S_, .f32⟩
  | 1 => ⟨S_, .f32⟩
  | 2 => ⟨S16x512x1, .f32⟩
  | 3 => ⟨S16x512x1, .f32⟩
  | 4 => ⟨S16x512x512, .f32⟩
  | 5 => ⟨S16x512x512, .f32⟩
  | 6 => ⟨S_, .f32⟩
  | 7 => ⟨S16x512x1, .f32⟩
  | 8 => ⟨S16x512x1, .f32⟩
  | 9 => ⟨S16x512x1, .f32⟩
  | 10 => ⟨S16x512x512, .f32⟩
  | 11 => ⟨S16x512x512, .f32⟩
  | 12 => ⟨S1x1x512, .f32⟩
  | 13 => ⟨S16x512x512, .f32⟩
  | 14 => ⟨S16x512x512, .f32⟩
  | 15 => ⟨S1x1x512, .f32⟩
  | 16 => ⟨S16x512x512, .f32⟩
  | 17 => ⟨S16x512x512, .f32⟩
  | 18 => ⟨S1x512x512, .f32⟩
  | 19 => ⟨S512x512, .f32⟩
  | 20 => ⟨S1x512, .f32⟩
  | 21 => ⟨S512, .f32⟩
  | 22 => ⟨S1x512x512, .f32⟩
  | 23 => ⟨S512x512, .f32⟩
  | 24 => ⟨S1x512, .f32⟩
  | 25 => ⟨S512, .f32⟩
  | 26 => ⟨S1x512x512, .f32⟩
  | 27 => ⟨S512x512, .f32⟩
  | 28 => ⟨S1x512, .f32⟩
  | 29 => ⟨S512, .f32⟩
  | 30 => ⟨S1x512x512, .f32⟩
  | 31 => ⟨S512x512, .f32⟩
  | 32 => ⟨S1x512, .f32⟩
  | 33 => ⟨S512, .f32⟩
  | 34 => ⟨S16x512x512, .f32⟩
  | 35 => ⟨S1x1x512, .f32⟩
  | 36 => ⟨S16x512x512, .f32⟩
  | 37 => ⟨S16x512x512, .f32⟩
  | 38 => ⟨S16x512x8x64, .f32⟩
  | 39 => ⟨S16x512x512, .f32⟩
  | 40 => ⟨S1x1x512, .f32⟩
  | 41 => ⟨S16x512x512, .f32⟩
  | 42 => ⟨S16x512x512, .f32⟩
  | 43 => ⟨S16x512x8x64, .f32⟩
  | 44 => ⟨S16x512x512, .f32⟩
  | 45 => ⟨S1x1x512, .f32⟩
  | 46 => ⟨S16x512x512, .f32⟩
  | 47 => ⟨S16x512x512, .f32⟩
  | 48 => ⟨S16x512x8x64, .f32⟩
  | 49 => ⟨S16x8x512x512, .f32⟩
  | 50 => ⟨S_, .f32⟩
  | 51 => ⟨S_, .f32⟩
  | 52 => ⟨S16x8x512x512, .f32⟩
  | 53 => ⟨S16x8x512x512, .f32⟩
  | 54 => ⟨S_, .f32⟩
  | 55 => ⟨S16x8x512, .f32⟩
  | 56 => ⟨S_, .f32⟩
  | 57 => ⟨S16x8x512, .f32⟩
  | 58 => ⟨S16x8x512, .f32⟩
  | 59 => ⟨S16x8x512x1, .f32⟩
  | 60 => ⟨S16x8x512x512, .f32⟩
  | 61 => ⟨S16x8x512x512, .f32⟩
  | 62 => ⟨S16x8x512x512, .f32⟩
  | 63 => ⟨S_, .f32⟩
  | 64 => ⟨S16x8x512, .f32⟩
  | 65 => ⟨S16x8x512x1, .f32⟩
  | 66 => ⟨S16x8x512x512, .f32⟩
  | 67 => ⟨S16x8x512x512, .f32⟩
  | 68 => ⟨S16x8x64x512, .f32⟩
  | 69 => ⟨S16x512x8x64, .f32⟩
  | 70 => ⟨S16x512x512, .f32⟩
  | 71 => ⟨S16x512x512, .f32⟩
  | 72 => ⟨S1x1x512, .f32⟩
  | 73 => ⟨S16x512x512, .f32⟩
  | 74 => ⟨S16x512x512, .f32⟩
  | 75 => ⟨S16x512x512, .f32⟩
  | 76 => ⟨S1x512, .f32⟩
  | 77 => ⟨S512, .f32⟩
  | 78 => ⟨S1x512, .f32⟩
  | 79 => ⟨S512, .f32⟩
  | 80 => ⟨S_, .f32⟩
  | 81 => ⟨S16x512, .f32⟩
  | 82 => ⟨S16x512x1, .f32⟩
  | 83 => ⟨S_, .f32⟩
  | 84 => ⟨S16x512x1, .f32⟩
  | 85 => ⟨S16x512x1, .f32⟩
  | 86 => ⟨S_, .i32⟩
  | 87 => ⟨S_, .f32⟩
  | 88 => ⟨S16x512, .f32⟩
  | 89 => ⟨S16x512x1, .f32⟩
  | 90 => ⟨S_, .f32⟩
  | 91 => ⟨S16x512x1, .f32⟩
  | 92 => ⟨S16x512x1, .f32⟩
  | 93 => ⟨S16x512x512, .f32⟩
  | 94 => ⟨S16x512x512, .f32⟩
  | 95 => ⟨S16x512x512, .f32⟩
  | 96 => ⟨S_, .f32⟩
  | 97 => ⟨S_, .f32⟩
  | 98 => ⟨S_, .f32⟩
  | 99 => ⟨S_, .f32⟩
  | 100 => ⟨S16x512, .f32⟩
  | 101 => ⟨S16x512x1, .f32⟩
  | 102 => ⟨S16x512x1, .f32⟩
  | 103 => ⟨S16x512x1, .f32⟩
  | 104 => ⟨S_, .f32⟩
  | 105 => ⟨S_, .i1⟩
  | 106 => ⟨S_, .f32⟩
  | 107 => ⟨S_, .f32⟩
  | 108 => ⟨S16x512x1, .f32⟩
  | 109 => ⟨S16x512x1, .f32⟩
  | 110 => ⟨S16x512x512, .f32⟩
  | 111 => ⟨S16x512x512, .f32⟩
  | 112 => ⟨S_, .f32⟩
  | 113 => ⟨S16x512x1, .f32⟩
  | 114 => ⟨S16x512x1, .f32⟩
  | 115 => ⟨S16x512x1, .f32⟩
  | 116 => ⟨S16x512x512, .f32⟩
  | 117 => ⟨S16x512x512, .f32⟩
  | 118 => ⟨S1x1x512, .f32⟩
  | 119 => ⟨S16x512x512, .f32⟩
  | 120 => ⟨S16x512x512, .f32⟩
  | 121 => ⟨S1x1x512, .f32⟩
  | 122 => ⟨S16x512x512, .f32⟩
  | 123 => ⟨S16x512x512, .f32⟩
  | 124 => ⟨S1x512x2048, .f32⟩
  | 125 => ⟨S512x2048, .f32⟩
  | 126 => ⟨S16x512x2048, .f32⟩
  | 127 => ⟨S1x2048, .f32⟩
  | _ => ⟨S16x512x1024, .f32⟩

abbrev hbmTy0_2 (i : Nat) : BufTy := match i % 128 with
  | 0 => ⟨S2048, .f32⟩
  | 1 => ⟨S1x1x2048, .f32⟩
  | 2 => ⟨S16x512x2048, .f32⟩
  | 3 => ⟨S16x512x2048, .f32⟩
  | 4 => ⟨S_, .f32⟩
  | 5 => ⟨S16x512x2048, .f32⟩
  | 6 => ⟨S16x512x2048, .f32⟩
  | 7 => ⟨S1x2048x512, .f32⟩
  | 8 => ⟨S2048x512, .f32⟩
  | 9 => ⟨S16x512x512, .f32⟩
  | 10 => ⟨S1x512, .f32⟩
  | 11 => ⟨S512, .f32⟩
  | 12 => ⟨S1x1x512, .f32⟩
  | 13 => ⟨S16x512x512, .f32⟩
  | 14 => ⟨S16x512x512, .f32⟩
  | 15 => ⟨S16x512x512, .f32⟩
  | 16 => ⟨S1x512, .f32⟩
  | 17 => ⟨S512, .f32⟩
  | 18 => ⟨S1x512, .f32⟩
  | 19 => ⟨S512, .f32⟩
  | 20 => ⟨S_, .f32⟩
  | 21 => ⟨S16x512, .f32⟩
  | 22 => ⟨S16x512x1, .f32⟩
  | 23 => ⟨S_, .f32⟩
  | 24 => ⟨S16x512x1, .f32⟩
  | 25 => ⟨S16x512x1, .f32⟩
  | 26 => ⟨S_, .i32⟩
  | 27 => ⟨S_, .f32⟩
  | 28 => ⟨S16x512, .f32⟩
  | 29 => ⟨S16x512x1, .f32⟩
  | 30 => ⟨S_, .f32⟩
  | 31 => ⟨S16x512x1, .f32⟩
  | 32 => ⟨S16x512x1, .f32⟩
  | 33 => ⟨S16x512x512, .f32⟩
  | 34 => ⟨S16x512x512, .f32⟩
  | 35 => ⟨S16x512x512, .f32⟩
  | 36 => ⟨S_, .f32⟩
  | 37 => ⟨S_, .f32⟩
  | 38 => ⟨S_, .f32⟩
  | 39 => ⟨S_, .f32⟩
  | 40 => ⟨S16x512, .f32⟩
  | 41 => ⟨S16x512x1, .f32⟩
  | 42 => ⟨S16x512x1, .f32⟩
  | 43 => ⟨S16x512x1, .f32⟩
  | 44 => ⟨S_, .f32⟩
  | 45 => ⟨S_, .i1⟩
  | 46 => ⟨S_, .f32⟩
  | 47 => ⟨S_, .f32⟩
  | 48 => ⟨S16x512x1, .f32⟩
  | 49 => ⟨S16x512x1, .f32⟩
  | 50 => ⟨S16x512x512, .f32⟩
  | 51 => ⟨S16x512x512, .f32⟩
  | 52 => ⟨S_, .f32⟩
  | 53 => ⟨S16x512x1, .f32⟩
  | 54 => ⟨S16x512x1, .f32⟩
  | 55 => ⟨S16x512x1, .f32⟩
  | 56 => ⟨S16x512x512, .f32⟩
  | 57 => ⟨S16x512x512, .f32⟩
  | 58 => ⟨S1x1x512, .f32⟩
  | 59 => ⟨S16x512x512, .f32⟩
  | 60 => ⟨S16x512x512, .f32⟩
  | 61 => ⟨S1x1x512, .f32⟩
  | 62 => ⟨S16x512x512, .f32⟩
  | 63 => ⟨S16x512x512, .f32⟩
  | 64 => ⟨S1x512x512, .f32⟩
  | 65 => ⟨S512x512, .f32⟩
  | 66 => ⟨S1x512, .f32⟩
  | 67 => ⟨S512, .f32⟩
  | 68 => ⟨S1x512x512, .f32⟩
  | 69 => ⟨S512x512, .f32⟩
  | 70 => ⟨S1x512, .f32⟩
  | 71 => ⟨S512, .f32⟩
  | 72 => ⟨S1x512x512, .f32⟩
  | 73 => ⟨S512x512, .f32⟩
  | 74 => ⟨S1x512, .f32⟩
  | 75 => ⟨S512, .f32⟩
  | 76 => ⟨S1x512x512, .f32⟩
  | 77 => ⟨S512x512, .f32⟩
  | 78 => ⟨S1x512, .f32⟩
  | 79 => ⟨S512, .f32⟩
  | 80 => ⟨S16x512x512, .f32⟩
  | 81 => ⟨S1x1x512, .f32⟩
  | 82 => ⟨S16x512x512, .f32⟩
  | 83 => ⟨S16x512x512, .f32⟩
  | 84 => ⟨S16x512x8x64, .f32⟩
  | 85 => ⟨S16x512x512, .f32⟩
  | 86 => ⟨S1x1x512, .f32⟩
  | 87 => ⟨S16x512x512, .f32⟩
  | 88 => ⟨S16x512x512, .f32⟩
  | 89 => ⟨S16x512x8x64, .f32⟩
  | 90 => ⟨S16x512x512, .f32⟩
  | 91 => ⟨S1x1x512, .f32⟩
  | 92 => ⟨S16x512x512, .f32⟩
  | 93 => ⟨S16x512x512, .f32⟩
  | 94 => ⟨S16x512x8x64, .f32⟩
  | 95 => ⟨S16x8x512x512, .f32⟩
  | 96 => ⟨S_, .f32⟩
  | 97 => ⟨S_, .f32⟩
  | 98 => ⟨S16x8x512x512, .f32⟩
  | 99 => ⟨S16x8x512x512, .f32⟩
  | 100 => ⟨S_, .f32⟩
  | 101 => ⟨S16x8x512, .f32⟩
  | 102 => ⟨S_, .f32⟩
  | 103 => ⟨S16x8x512, .f32⟩
  | 104 => ⟨S16x8x512, .f32⟩
  | 105 => ⟨S16x8x512x1, .f32⟩
  | 106 => ⟨S16x8x512x512, .f32⟩
  | 107 => ⟨S16x8x512x512, .f32⟩
  | 108 => ⟨S16x8x512x512, .f32⟩
  | 109 => ⟨S_, .f32⟩
  | 110 => ⟨S16x8x512, .f32⟩
  | 111 => ⟨S16x8x512x1, .f32⟩
  | 112 => ⟨S16x8x512x512, .f32⟩
  | 113 => ⟨S16x8x512x512, .f32⟩
  | 114 => ⟨S16x8x64x512, .f32⟩
  | 115 => ⟨S16x512x8x64, .f32⟩
  | 116 => ⟨S16x512x512, .f32⟩
  | 117 => ⟨S16x512x512, .f32⟩
  | 118 => ⟨S1x1x512, .f32⟩
  | 119 => ⟨S16x512x512, .f32⟩
  | 120 => ⟨S16x512x512, .f32⟩
  | 121 => ⟨S16x512x512, .f32⟩
  | 122 => ⟨S1x512, .f32⟩
  | 123 => ⟨S512, .f32⟩
  | 124 => ⟨S1x512, .f32⟩
  | 125 => ⟨S512, .f32⟩
  | 126 => ⟨S_, .f32⟩
  | 127 => ⟨S16x512, .f32⟩
  | _ => ⟨S16x512x1024, .f32⟩

abbrev hbmTy0_3 (i : Nat) : BufTy := match i % 128 with
  | 0 => ⟨S16x512x1, .f32⟩
  | 1 => ⟨S_, .f32⟩
  | 2 => ⟨S16x512x1, .f32⟩
  | 3 => ⟨S16x512x1, .f32⟩
  | 4 => ⟨S_, .i32⟩
  | 5 => ⟨S_, .f32⟩
  | 6 => ⟨S16x512, .f32⟩
  | 7 => ⟨S16x512x1, .f32⟩
  | 8 => ⟨S_, .f32⟩
  | 9 => ⟨S16x512x1, .f32⟩
  | 10 => ⟨S16x512x1, .f32⟩
  | 11 => ⟨S16x512x512, .f32⟩
  | 12 => ⟨S16x512x512, .f32⟩
  | 13 => ⟨S16x512x512, .f32⟩
  | 14 => ⟨S_, .f32⟩
  | 15 => ⟨S_, .f32⟩
  | 16 => ⟨S_, .f32⟩
  | 17 => ⟨S_, .f32⟩
  | 18 => ⟨S16x512, .f32⟩
  | 19 => ⟨S16x512x1, .f32⟩
  | 20 => ⟨S16x512x1, .f32⟩
  | 21 => ⟨S16x512x1, .f32⟩
  | 22 => ⟨S_, .f32⟩
  | 23 => ⟨S_, .i1⟩
  | 24 => ⟨S_, .f32⟩
  | 25 => ⟨S_, .f32⟩
  | 26 => ⟨S16x512x1, .f32⟩
  | 27 => ⟨S16x512x1, .f32⟩
  | 28 => ⟨S16x512x512, .f32⟩
  | 29 => ⟨S16x512x512, .f32⟩
  | 30 => ⟨S_, .f32⟩
  | 31 => ⟨S16x512x1, .f32⟩
  | 32 => ⟨S16x512x1, .f32⟩
  | 33 => ⟨S16x512x1, .f32⟩
  | 34 => ⟨S16x512x512, .f32⟩
  | 35 => ⟨S16x512x512, .f32⟩
  | 36 => ⟨S1x1x512, .f32⟩
  | 37 => ⟨S16x512x512, .f32⟩
  | 38 => ⟨S16x512x512, .f32⟩
  | 39 => ⟨S1x1x512, .f32⟩
  | 40 => ⟨S16x512x512, .f32⟩
  | 41 => ⟨S16x512x512, .f32⟩
  | 42 => ⟨S1x512x512, .f32⟩
  | 43 => ⟨S512x512, .f32⟩
  | 44 => ⟨S1x512, .f32⟩
  | 45 => ⟨S512, .f32⟩
  | 46 => ⟨S1x512x512, .f32⟩
  | 47 => ⟨S512x512, .f32⟩
  | 48 => ⟨S1x512, .f32⟩
  | 49 => ⟨S512, .f32⟩
  | 50 => ⟨S1x512x512, .f32⟩
  | 51 => ⟨S512x512, .f32⟩
  | 52 => ⟨S1x512, .f32⟩
  | 53 => ⟨S512, .f32⟩
  | 54 => ⟨S1x512x512, .f32⟩
  | 55 => ⟨S512x512, .f32⟩
  | 56 => ⟨S1x512, .f32⟩
  | 57 => ⟨S512, .f32⟩
  | 58 => ⟨S16x512x512, .f32⟩
  | 59 => ⟨S1x1x512, .f32⟩
  | 60 => ⟨S16x512x512, .f32⟩
  | 61 => ⟨S16x512x512, .f32⟩
  | 62 => ⟨S16x512x8x64, .f32⟩
  | 63 => ⟨S16x512x512, .f32⟩
  | 64 => ⟨S1x1x512, .f32⟩
  | 65 => ⟨S16x512x512, .f32⟩
  | 66 => ⟨S16x512x512, .f32⟩
  | 67 => ⟨S16x512x8x64, .f32⟩
  | 68 => ⟨S16x512x512, .f32⟩
  | 69 => ⟨S1x1x512, .f32⟩
  | 70 => ⟨S16x512x512, .f32⟩
  | 71 => ⟨S16x512x512, .f32⟩
  | 72 => ⟨S16x512x8x64, .f32⟩
  | 73 => ⟨S16x8x512x512, .f32⟩
  | 74 => ⟨S_, .f32⟩
  | 75 => ⟨S_, .f32⟩
  | 76 => ⟨S16x8x512x512, .f32⟩
  | 77 => ⟨S16x8x512x512, .f32⟩
  | 78 => ⟨S_, .f32⟩
  | 79 => ⟨S16x8x512, .f32⟩
  | 80 => ⟨S_, .f32⟩
  | 81 => ⟨S16x8x512, .f32⟩
  | 82 => ⟨S16x8x512, .f32⟩
  | 83 => ⟨S16x8x512x1, .f32⟩
  | 84 => ⟨S16x8x512x512, .f32⟩
  | 85 => ⟨S16x8x512x512, .f32⟩
  | 86 => ⟨S16x8x512x512, .f32⟩
  | 87 => ⟨S_, .f32⟩
  | 88 => ⟨S16x8x512, .f32⟩
  | 89 => ⟨S16x8x512x1, .f32⟩
  | 90 => ⟨S16x8x512x512, .f32⟩
  | 91 => ⟨S16x8x512x512, .f32⟩
  | 92 => ⟨S16x8x64x512, .f32⟩
  | 93 => ⟨S16x512x8x64, .f32⟩
  | 94 => ⟨S16x512x512, .f32⟩
  | 95 => ⟨S16x512x512, .f32⟩
  | 96 => ⟨S1x1x512, .f32⟩
  | 97 => ⟨S16x512x512, .f32⟩
  | 98 => ⟨S16x512x512, .f32⟩
  | 99 => ⟨S16x512x512, .f32⟩
  | 100 => ⟨S1x512, .f32⟩
  | 101 => ⟨S512, .f32⟩
  | 102 => ⟨S1x512, .f32⟩
  | 103 => ⟨S512, .f32⟩
  | 104 => ⟨S_, .f32⟩
  | 105 => ⟨S16x512, .f32⟩
  | 106 => ⟨S16x512x1, .f32⟩
  | 107 => ⟨S_, .f32⟩
  | 108 => ⟨S16x512x1, .f32⟩
  | 109 => ⟨S16x512x1, .f32⟩
  | 110 => ⟨S_, .i32⟩
  | 111 => ⟨S_, .f32⟩
  | 112 => ⟨S16x512, .f32⟩
  | 113 => ⟨S16x512x1, .f32⟩
  | 114 => ⟨S_, .f32⟩
  | 115 => ⟨S16x512x1, .f32⟩
  | 116 => ⟨S16x512x1, .f32⟩
  | 117 => ⟨S16x512x512, .f32⟩
  | 118 => ⟨S16x512x512, .f32⟩
  | 119 => ⟨S16x512x512, .f32⟩
  | 120 => ⟨S_, .f32⟩
  | 121 => ⟨S_, .f32⟩
  | 122 => ⟨S_, .f32⟩
  | 123 => ⟨S_, .f32⟩
  | 124 => ⟨S16x512, .f32⟩
  | 125 => ⟨S16x512x1, .f32⟩
  | 126 => ⟨S16x512x1, .f32⟩
  | 127 => ⟨S16x512x1, .f32⟩
  | _ => ⟨S16x512x1024, .f32⟩

abbrev hbmTy0_4 (i : Nat) : BufTy := match i % 128 with
  | 0 => ⟨S_, .f32⟩
  | 1 => ⟨S_, .i1⟩
  | 2 => ⟨S_, .f32⟩
  | 3 => ⟨S_, .f32⟩
  | 4 => ⟨S16x512x1, .f32⟩
  | 5 => ⟨S16x512x1, .f32⟩
  | 6 => ⟨S16x512x512, .f32⟩
  | 7 => ⟨S16x512x512, .f32⟩
  | 8 => ⟨S_, .f32⟩
  | 9 => ⟨S16x512x1, .f32⟩
  | 10 => ⟨S16x512x1, .f32⟩
  | 11 => ⟨S16x512x1, .f32⟩
  | 12 => ⟨S16x512x512, .f32⟩
  | 13 => ⟨S16x512x512, .f32⟩
  | 14 => ⟨S1x1x512, .f32⟩
  | 15 => ⟨S16x512x512, .f32⟩
  | 16 => ⟨S16x512x512, .f32⟩
  | 17 => ⟨S1x1x512, .f32⟩
  | 18 => ⟨S16x512x512, .f32⟩
  | 19 => ⟨S16x512x512, .f32⟩
  | 20 => ⟨S1x512x2048, .f32⟩
  | 21 => ⟨S512x2048, .f32⟩
  | 22 => ⟨S16x512x2048, .f32⟩
  | 23 => ⟨S1x2048, .f32⟩
  | 24 => ⟨S2048, .f32⟩
  | 25 => ⟨S1x1x2048, .f32⟩
  | 26 => ⟨S16x512x2048, .f32⟩
  | 27 => ⟨S16x512x2048, .f32⟩
  | 28 => ⟨S_, .f32⟩
  | 29 => ⟨S16x512x2048, .f32⟩
  | 30 => ⟨S16x512x2048, .f32⟩
  | 31 => ⟨S1x2048x512, .f32⟩
  | 32 => ⟨S2048x512, .f32⟩
  | 33 => ⟨S16x512x512, .f32⟩
  | 34 => ⟨S1x512, .f32⟩
  | 35 => ⟨S512, .f32⟩
  | 36 => ⟨S1x1x512, .f32⟩
  | 37 => ⟨S16x512x512, .f32⟩
  | 38 => ⟨S16x512x512, .f32⟩
  | 39 => ⟨S16x512x512, .f32⟩
  | 40 => ⟨S1x512, .f32⟩
  | 41 => ⟨S512, .f32⟩
  | 42 => ⟨S1x512, .f32⟩
  | 43 => ⟨S512, .f32⟩
  | 44 => ⟨S_, .f32⟩
  | 45 => ⟨S16x512, .f32⟩
  | 46 => ⟨S16x512x1, .f32⟩
  | 47 => ⟨S_, .f32⟩
  | 48 => ⟨S16x512x1, .f32⟩
  | 49 => ⟨S16x512x1, .f32⟩
  | 50 => ⟨S_, .i32⟩
  | 51 => ⟨S_, .f32⟩
  | 52 => ⟨S16x512, .f32⟩
  | 53 => ⟨S16x512x1, .f32⟩
  | 54 => ⟨S_, .f32⟩
  | 55 => ⟨S16x512x1, .f32⟩
  | 56 => ⟨S16x512x1, .f32⟩
  | 57 => ⟨S16x512x512, .f32⟩
  | 58 => ⟨S16x512x512, .f32⟩
  | 59 => ⟨S16x512x512, .f32⟩
  | 60 => ⟨S_, .f32⟩
  | 61 => ⟨S_, .f32⟩
  | 62 => ⟨S_, .f32⟩
  | 63 => ⟨S_, .f32⟩
  | 64 => ⟨S16x512, .f32⟩
  | 65 => ⟨S16x512x1, .f32⟩
  | 66 => ⟨S16x512x1, .f32⟩
  | 67 => ⟨S16x512x1, .f32⟩
  | 68 => ⟨S_, .f32⟩
  | 69 => ⟨S_, .i1⟩
  | 70 => ⟨S_, .f32⟩
  | 71 => ⟨S_, .f32⟩
  | 72 => ⟨S16x512x1, .f32⟩
  | 73 => ⟨S16x512x1, .f32⟩
  | 74 => ⟨S16x512x512, .f32⟩
  | 75 => ⟨S16x512x512, .f32⟩
  | 76 => ⟨S_, .f32⟩
  | 77 => ⟨S16x512x1, .f32⟩
  | 78 => ⟨S16x512x1, .f32⟩
  | 79 => ⟨S16x512x1, .f32⟩
  | 80 => ⟨S16x512x512, .f32⟩
  | 81 => ⟨S16x512x512, .f32⟩
  | 82 => ⟨S1x1x512, .f32⟩
  | 83 => ⟨S16x512x512, .f32⟩
  | 84 => ⟨S16x512x512, .f32⟩
  | 85 => ⟨S1x1x512, .f32⟩
  | 86 => ⟨S16x512x512, .f32⟩
  | 87 => ⟨S16x512x512, .f32⟩
  | 88 => ⟨S1x512x512, .f32⟩
  | 89 => ⟨S512x512, .f32⟩
  | 90 => ⟨S1x512, .f32⟩
  | 91 => ⟨S512, .f32⟩
  | 92 => ⟨S1x512x512, .f32⟩
  | 93 => ⟨S512x512, .f32⟩
  | 94 => ⟨S1x512, .f32⟩
  | 95 => ⟨S512, .f32⟩
  | 96 => ⟨S1x512x512, .f32⟩
  | 97 => ⟨S512x512, .f32⟩
  | 98 => ⟨S1x512, .f32⟩
  | 99 => ⟨S512, .f32⟩
  | 100 => ⟨S1x512x512, .f32⟩
  | 101 => ⟨S512x512, .f32⟩
  | 102 => ⟨S1x512, .f32⟩
  | 103 => ⟨S512, .f32⟩
  | 104 => ⟨S16x512x512, .f32⟩
  | 105 => ⟨S1x1x512, .f32⟩
  | 106 => ⟨S16x512x512, .f32⟩
  | 107 => ⟨S16x512x512, .f32⟩
  | 108 => ⟨S16x512x8x64, .f32⟩
  | 109 => ⟨S16x512x512, .f32⟩
  | 110 => ⟨S1x1x512, .f32⟩
  | 111 => ⟨S16x512x512, .f32⟩
  | 112 => ⟨S16x512x512, .f32⟩
  | 113 => ⟨S16x512x8x64, .f32⟩
  | 114 => ⟨S16x512x512, .f32⟩
  | 115 => ⟨S1x1x512, .f32⟩
  | 116 => ⟨S16x512x512, .f32⟩
  | 117 => ⟨S16x512x512, .f32⟩
  | 118 => ⟨S16x512x8x64, .f32⟩
  | 119 => ⟨S16x8x512x512, .f32⟩
  | 120 => ⟨S_, .f32⟩
  | 121 => ⟨S_, .f32⟩
  | 122 => ⟨S16x8x512x512, .f32⟩
  | 123 => ⟨S16x8x512x512, .f32⟩
  | 124 => ⟨S_, .f32⟩
  | 125 => ⟨S16x8x512, .f32⟩
  | 126 => ⟨S_, .f32⟩
  | 127 => ⟨S16x8x512, .f32⟩
  | _ => ⟨S16x512x1024, .f32⟩

abbrev hbmTy0_5 (i : Nat) : BufTy := match i % 128 with
  | 0 => ⟨S16x8x512, .f32⟩
  | 1 => ⟨S16x8x512x1, .f32⟩
  | 2 => ⟨S16x8x512x512, .f32⟩
  | 3 => ⟨S16x8x512x512, .f32⟩
  | 4 => ⟨S16x8x512x512, .f32⟩
  | 5 => ⟨S_, .f32⟩
  | 6 => ⟨S16x8x512, .f32⟩
  | 7 => ⟨S16x8x512x1, .f32⟩
  | 8 => ⟨S16x8x512x512, .f32⟩
  | 9 => ⟨S16x8x512x512, .f32⟩
  | 10 => ⟨S16x8x64x512, .f32⟩
  | 11 => ⟨S16x512x8x64, .f32⟩
  | 12 => ⟨S16x512x512, .f32⟩
  | 13 => ⟨S16x512x512, .f32⟩
  | 14 => ⟨S1x1x512, .f32⟩
  | 15 => ⟨S16x512x512, .f32⟩
  | 16 => ⟨S16x512x512, .f32⟩
  | 17 => ⟨S16x512x512, .f32⟩
  | 18 => ⟨S1x512, .f32⟩
  | 19 => ⟨S512, .f32⟩
  | 20 => ⟨S1x512, .f32⟩
  | 21 => ⟨S512, .f32⟩
  | 22 => ⟨S_, .f32⟩
  | 23 => ⟨S16x512, .f32⟩
  | 24 => ⟨S16x512x1, .f32⟩
  | 25 => ⟨S_, .f32⟩
  | 26 => ⟨S16x512x1, .f32⟩
  | 27 => ⟨S16x512x1, .f32⟩
  | 28 => ⟨S_, .i32⟩
  | 29 => ⟨S_, .f32⟩
  | 30 => ⟨S16x512, .f32⟩
  | 31 => ⟨S16x512x1, .f32⟩
  | 32 => ⟨S_, .f32⟩
  | 33 => ⟨S16x512x1, .f32⟩
  | 34 => ⟨S16x512x1, .f32⟩
  | 35 => ⟨S16x512x512, .f32⟩
  | 36 => ⟨S16x512x512, .f32⟩
  | 37 => ⟨S16x512x512, .f32⟩
  | 38 => ⟨S_, .f32⟩
  | 39 => ⟨S_, .f32⟩
  | 40 => ⟨S_, .f32⟩
  | 41 => ⟨S_, .f32⟩
  | 42 => ⟨S16x512, .f32⟩
  | 43 => ⟨S16x512x1, .f32⟩
  | 44 => ⟨S16x512x1, .f32⟩
  | 45 => ⟨S16x512x1, .f32⟩
  | 46 => ⟨S_, .f32⟩
  | 47 => ⟨S_, .i1⟩
  | 48 => ⟨S_, .f32⟩
  | 49 => ⟨S_, .f32⟩
  | 50 => ⟨S16x512x1, .f32⟩
  | 51 => ⟨S16x512x1, .f32⟩
  | 52 => ⟨S16x512x512, .f32⟩
  | 53 => ⟨S16x512x512, .f32⟩
  | 54 => ⟨S_, .f32⟩
  | 55 => ⟨S16x512x1, .f32⟩
  | 56 => ⟨S16x512x1, .f32⟩
  | 57 => ⟨S16x512x1, .f32⟩
  | 58 => ⟨S16x512x512, .f32⟩
  | 59 => ⟨S16x512x512, .f32⟩
  | 60 => ⟨S1x1x512, .f32⟩
  | 61 => ⟨S16x512x512, .f32⟩
  | 62 => ⟨S16x512x512, .f32⟩
  | 63 => ⟨S1x1x512, .f32⟩
  | 64 => ⟨S16x512x512, .f32⟩
  | 65 => ⟨S16x512x512, .f32⟩
  | 66 => ⟨S1x512x512, .f32⟩
  | 67 => ⟨S512x512, .f32⟩
  | 68 => ⟨S1x512, .f32⟩
  | 69 => ⟨S512, .f32⟩
  | 70 => ⟨S1x512x512, .f32⟩
  | 71 => ⟨S512x512, .f32⟩
  | 72 => ⟨S1x512, .f32⟩
  | 73 => ⟨S512, .f32⟩
  | 74 => ⟨S1x512x512, .f32⟩
  | 75 => ⟨S512x512, .f32⟩
  | 76 => ⟨S1x512, .f32⟩
  | 77 => ⟨S512, .f32⟩
  | 78 => ⟨S1x512x512, .f32⟩
  | 79 => ⟨S512x512, .f32⟩
  | 80 => ⟨S1x512, .f32⟩
  | 81 => ⟨S512, .f32⟩
  | 82 => ⟨S16x512x512, .f32⟩
  | 83 => ⟨S1x1x512, .f32⟩
  | 84 => ⟨S16x512x512, .f32⟩
  | 85 => ⟨S16x512x512, .f32⟩
  | 86 => ⟨S16x512x8x64, .f32⟩
  | 87 => ⟨S16x512x512, .f32⟩
  | 88 => ⟨S1x1x512, .f32⟩
  | 89 => ⟨S16x512x512, .f32⟩
  | 90 => ⟨S16x512x512, .f32⟩
  | 91 => ⟨S16x512x8x64, .f32⟩
  | 92 => ⟨S16x512x512, .f32⟩
  | 93 => ⟨S1x1x512, .f32⟩
  | 94 => ⟨S16x512x512, .f32⟩
  | 95 => ⟨S16x512x512, .f32⟩
  | 96 => ⟨S16x512x8x64, .f32⟩
  | 97 => ⟨S16x8x512x512, .f32⟩
  | 98 => ⟨S_, .f32⟩
  | 99 => ⟨S_, .f32⟩
  | 100 => ⟨S16x8x512x512, .f32⟩
  | 101 => ⟨S16x8x512x512, .f32⟩
  | 102 => ⟨S_, .f32⟩
  | 103 => ⟨S16x8x512, .f32⟩
  | 104 => ⟨S_, .f32⟩
  | 105 => ⟨S16x8x512, .f32⟩
  | 106 => ⟨S16x8x512, .f32⟩
  | 107 => ⟨S16x8x512x1, .f32⟩
  | 108 => ⟨S16x8x512x512, .f32⟩
  | 109 => ⟨S16x8x512x512, .f32⟩
  | 110 => ⟨S16x8x512x512, .f32⟩
  | 111 => ⟨S_, .f32⟩
  | 112 => ⟨S16x8x512, .f32⟩
  | 113 => ⟨S16x8x512x1, .f32⟩
  | 114 => ⟨S16x8x512x512, .f32⟩
  | 115 => ⟨S16x8x512x512, .f32⟩
  | 116 => ⟨S16x8x64x512, .f32⟩
  | 117 => ⟨S16x512x8x64, .f32⟩
  | 118 => ⟨S16x512x512, .f32⟩
  | 119 => ⟨S16x512x512, .f32⟩
  | 120 => ⟨S1x1x512, .f32⟩
  | 121 => ⟨S16x512x512, .f32⟩
  | 122 => ⟨S16x512x512, .f32⟩
  | 123 => ⟨S16x512x512, .f32⟩
  | 124 => ⟨S1x512, .f32⟩
  | 125 => ⟨S512, .f32⟩
  | 126 => ⟨S1x512, .f32⟩
  | 127 => ⟨S512, .f32⟩
  | _ => ⟨S16x512x1024, .f32⟩

abbrev hbmTy0_6 (i : Nat) : BufTy := match i % 128 with
  | 0 => ⟨S_, .f32⟩
  | 1 => ⟨S16x512, .f32⟩
  | 2 => ⟨S16x512x1, .f32⟩
  | 3 => ⟨S_, .f32⟩
  | 4 => ⟨S16x512x1, .f32⟩
  | 5 => ⟨S16x512x1, .f32⟩
  | 6 => ⟨S_, .i32⟩
  | 7 => ⟨S_, .f32⟩
  | 8 => ⟨S16x512, .f32⟩
  | 9 => ⟨S16x512x1, .f32⟩
  | 10 => ⟨S_, .f32⟩
  | 11 => ⟨S16x512x1, .f32⟩
  | 12 => ⟨S16x512x1, .f32⟩
  | 13 => ⟨S16x512x512, .f32⟩
  | 14 => ⟨S16x512x512, .f32⟩
  | 15 => ⟨S16x512x512, .f32⟩
  | 16 => ⟨S_, .f32⟩
  | 17 => ⟨S_, .f32⟩
  | 18 => ⟨S_, .f32⟩
  | 19 => ⟨S_, .f32⟩
  | 20 => ⟨S16x512, .f32⟩
  | 21 => ⟨S16x512x1, .f32⟩
  | 22 => ⟨S16x512x1, .f32⟩
  | 23 => ⟨S16x512x1, .f32⟩
  | 24 => ⟨S_, .f32⟩
  | 25 => ⟨S_, .i1⟩
  | 26 => ⟨S_, .f32⟩
  | 27 => ⟨S_, .f32⟩
  | 28 => ⟨S16x512x1, .f32⟩
  | 29 => ⟨S16x512x1, .f32⟩
  | 30 => ⟨S16x512x512, .f32⟩
  | 31 => ⟨S16x512x512, .f32⟩
  | 32 => ⟨S_, .f32⟩
  | 33 => ⟨S16x512x1, .f32⟩
  | 34 => ⟨S16x512x1, .f32⟩
  | 35 => ⟨S16x512x1, .f32⟩
  | 36 => ⟨S16x512x512, .f32⟩
  | 37 => ⟨S16x512x512, .f32⟩
  | 38 => ⟨S1x1x512, .f32⟩
  | 39 => ⟨S16x512x512, .f32⟩
  | 40 => ⟨S16x512x512, .f32⟩
  | 41 => ⟨S1x1x512, .f32⟩
  | 42 => ⟨S16x512x512, .f32⟩
  | 43 => ⟨S16x512x512, .f32⟩
  | 44 => ⟨S1x512x2048, .f32⟩
  | 45 => ⟨S512x2048, .f32⟩
  | 46 => ⟨S16x512x2048, .f32⟩
  | 47 => ⟨S1x2048, .f32⟩
  | 48 => ⟨S2048, .f32⟩
  | 49 => ⟨S1x1x2048, .f32⟩
  | 50 => ⟨S16x512x2048, .f32⟩
  | 51 => ⟨S16x512x2048, .f32⟩
  | 52 => ⟨S_, .f32⟩
  | 53 => ⟨S16x512x2048, .f32⟩
  | 54 => ⟨S16x512x2048, .f32⟩
  | 55 => ⟨S1x2048x512, .f32⟩
  | 56 => ⟨S2048x512, .f32⟩
  | 57 => ⟨S16x512x512, .f32⟩
  | 58 => ⟨S1x512, .f32⟩
  | 59 => ⟨S512, .f32⟩
  | 60 => ⟨S1x1x512, .f32⟩
  | 61 => ⟨S16x512x512, .f32⟩
  | 62 => ⟨S16x512x512, .f32⟩
  | 63 => ⟨S16x512x512, .f32⟩
  | 64 => ⟨S1x512, .f32⟩
  | 65 => ⟨S512, .f32⟩
  | 66 => ⟨S1x512, .f32⟩
  | 67 => ⟨S512, .f32⟩
  | 68 => ⟨S_, .f32⟩
  | 69 => ⟨S16x512, .f32⟩
  | 70 => ⟨S16x512x1, .f32⟩
  | 71 => ⟨S_, .f32⟩
  | 72 => ⟨S16x512x1, .f32⟩
  | 73 => ⟨S16x512x1, .f32⟩
  | 74 => ⟨S_, .i32⟩
  | 75 => ⟨S_, .f32⟩
  | 76 => ⟨S16x512, .f32⟩
  | 77 => ⟨S16x512x1, .f32⟩
  | 78 => ⟨S_, .f32⟩
  | 79 => ⟨S16x512x1, .f32⟩
  | 80 => ⟨S16x512x1, .f32⟩
  | 81 => ⟨S16x512x512, .f32⟩
  | 82 => ⟨S16x512x512, .f32⟩
  | 83 => ⟨S16x512x512, .f32⟩
  | 84 => ⟨S_, .f32⟩
  | 85 => ⟨S_, .f32⟩
  | 86 => ⟨S_, .f32⟩
  | 87 => ⟨S_, .f32⟩
  | 88 => ⟨S16x512, .f32⟩
  | 89 => ⟨S16x512x1, .f32⟩
  | 90 => ⟨S16x512x1, .f32⟩
  | 91 => ⟨S16x512x1, .f32⟩
  | 92 => ⟨S_, .f32⟩
  | 93 => ⟨S_, .i1⟩
  | 94 => ⟨S_, .f32⟩
  | 95 => ⟨S_, .f32⟩
  | 96 => ⟨S16x512x1, .f32⟩
  | 97 => ⟨S16x512x1, .f32⟩
  | 98 => ⟨S16x512x512, .f32⟩
  | 99 => ⟨S16x512x512, .f32⟩
  | 100 => ⟨S_, .f32⟩
  | 101 => ⟨S16x512x1, .f32⟩
  | 102 => ⟨S16x512x1, .f32⟩
  | 103 => ⟨S16x512x1, .f32⟩
  | 104 => ⟨S16x512x512, .f32⟩
  | 105 => ⟨S16x512x512, .f32⟩
  | 106 => ⟨S1x1x512, .f32⟩
  | 107 => ⟨S16x512x512, .f32⟩
  | 108 => ⟨S16x512x512, .f32⟩
  | 109 => ⟨S1x1x512, .f32⟩
  | 110 => ⟨S16x512x512, .f32⟩
  | 111 => ⟨S16x512x512, .f32⟩
  | 112 => ⟨S16x512x512, .f32⟩
  | 113 => ⟨S_, .f32⟩
  | 114 => ⟨S16x512, .f32⟩
  | 115 => ⟨S16x512, .f32⟩
  | 116 => ⟨S_, .f32⟩
  | 117 => ⟨S16, .f32⟩
  | 118 => ⟨S_, .f32⟩
  | 119 => ⟨S16, .f32⟩
  | 120 => ⟨S16, .f32⟩
  | 121 => ⟨S16x1, .f32⟩
  | 122 => ⟨S16x512, .f32⟩
  | 123 => ⟨S16x512, .f32⟩
  | 124 => ⟨S16x512, .f32⟩
  | 125 => ⟨S_, .f32⟩
  | 126 => ⟨S16, .f32⟩
  | 127 => ⟨S16x1, .f32⟩
  | _ => ⟨S16x512x1024, .f32⟩

abbrev hbmTy0_7 (i : Nat) : BufTy := match i % 128 with
  | 0 => ⟨S16x512, .f32⟩
  | 1 => ⟨S16x512, .f32⟩
  | 2 => ⟨S16x512, .f32⟩
  | 3 => ⟨S16x256, .f32⟩
  | 4 => ⟨S1x256, .f32⟩
  | 5 => ⟨S16x256, .f32⟩
  | 6 => ⟨S16x256, .f32⟩
  | 7 => ⟨S_, .f32⟩
  | 8 => ⟨S16x256, .f32⟩
  | 9 => ⟨S16x256, .f32⟩
  | 10 => ⟨S16x64, .f32⟩
  | 11 => ⟨S1x64, .f32⟩
  | 12 => ⟨S16x64, .f32⟩
  | 13 => ⟨S16x64, .f32⟩
  | 14 => ⟨S_, .f32⟩
  | 15 => ⟨S16x64, .f32⟩
  | 16 => ⟨S16x64, .f32⟩
  | 17 => ⟨S16x2, .f32⟩
  | 18 => ⟨S1x2, .f32⟩
  | 19 => ⟨S16x2, .f32⟩
  | 20 => ⟨S16x2, .f32⟩
  | _ => ⟨S16x512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x512x1024, .f32⟩

abbrev bufTy : (tb : Table) → Fin (tcTables nBuf tb) → BufTy
  | .hbm, ⟨i, _⟩ => hbmTy i
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_0 : Ref sig .tc := ⟨.hbm, 76, rfl⟩
abbrev main_v39 : Ref sig .tc := ⟨.hbm, 77, rfl⟩
abbrev main_cst_1 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_2 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_3 : Ref sig .tc := ⟨.hbm, 102, rfl⟩
abbrev main_v62 : Ref sig .tc := ⟨.hbm, 103, rfl⟩
abbrev main_v63 : Ref sig .tc := ⟨.hbm, 104, rfl⟩
abbrev main_cst_4 : Ref sig .tc := ⟨.hbm, 105, rfl⟩
abbrev main_v64 : Ref sig .tc := ⟨.hbm, 106, rfl⟩
abbrev main_v65 : Ref sig .tc := ⟨.hbm, 107, rfl⟩
abbrev main_c : Ref sig .tc := ⟨.hbm, 108, rfl⟩
abbrev main_call0_cst : Ref sig .tc := ⟨.hbm, 109, rfl⟩
abbrev main_call0_v0 : Ref sig .tc := ⟨.hbm, 110, rfl⟩
abbrev main_call0_v1 : Ref sig .tc := ⟨.hbm, 111, rfl⟩
abbrev main_call0_cst_0 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_v5 : Ref sig .tc := ⟨.hbm, 116, rfl⟩
abbrev main_call0_v6 : Ref sig .tc := ⟨.hbm, 117, rfl⟩
abbrev main_call0_v7 : Ref sig .tc := ⟨.hbm, 118, rfl⟩
abbrev main_call0_cst_1 : Ref sig .tc := ⟨.hbm, 119, rfl⟩
abbrev main_call0_v8 : Ref sig .tc := ⟨.hbm, 120, rfl⟩
abbrev main_call0_cst_2 : Ref sig .tc := ⟨.hbm, 121, rfl⟩
abbrev main_call0_v9 : Ref sig .tc := ⟨.hbm, 122, rfl⟩
abbrev main_call0_v10 : Ref sig .tc := ⟨.hbm, 123, rfl⟩
abbrev main_call0_v11 : Ref sig .tc := ⟨.hbm, 124, rfl⟩
abbrev main_call0_v12 : Ref sig .tc := ⟨.hbm, 125, rfl⟩
abbrev main_call0_cst_3 : Ref sig .tc := ⟨.hbm, 126, rfl⟩
abbrev main_call0_v13 : Ref sig .tc := ⟨.hbm, 127, rfl⟩
abbrev main_call0_cst_4 : Ref sig .tc := ⟨.hbm, 128, rfl⟩
abbrev main_call0_call0_v0 : Ref sig .tc := ⟨.hbm, 129, rfl⟩
abbrev main_call0_call0_v1 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_5 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_6 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_7 : Ref sig .tc := ⟨.hbm, 182, rfl⟩
abbrev main_v115 : Ref sig .tc := ⟨.hbm, 183, rfl⟩
abbrev main_cst_8 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_cst_9 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_cst_10 : Ref sig .tc := ⟨.hbm, 208, rfl⟩
abbrev main_v138 : Ref sig .tc := ⟨.hbm, 209, rfl⟩
abbrev main_v139 : Ref sig .tc := ⟨.hbm, 210, rfl⟩
abbrev main_cst_11 : Ref sig .tc := ⟨.hbm, 211, rfl⟩
abbrev main_v140 : Ref sig .tc := ⟨.hbm, 212, rfl⟩
abbrev main_v141 : Ref sig .tc := ⟨.hbm, 213, rfl⟩
abbrev main_c_12 : Ref sig .tc := ⟨.hbm, 214, rfl⟩
abbrev main_call1_cst : Ref sig .tc := ⟨.hbm, 215, rfl⟩
abbrev main_call1_v0 : Ref sig .tc := ⟨.hbm, 216, rfl⟩
abbrev main_call1_v1 : Ref sig .tc := ⟨.hbm, 217, rfl⟩
abbrev main_call1_cst_0 : Ref sig .tc := ⟨.hbm, 218, rfl⟩
abbrev main_call1_v2 : Ref sig .tc := ⟨.hbm, 219, rfl⟩
abbrev main_call1_v3 : Ref sig .tc := ⟨.hbm, 220, rfl⟩
abbrev main_call1_v4 : Ref sig .tc := ⟨.hbm, 221, rfl⟩
abbrev main_call1_v5 : Ref sig .tc := ⟨.hbm, 222, rfl⟩
abbrev main_call1_v6 : Ref sig .tc := ⟨.hbm, 223, rfl⟩
abbrev main_call1_v7 : Ref sig .tc := ⟨.hbm, 224, rfl⟩
abbrev main_call1_cst_1 : Ref sig .tc := ⟨.hbm, 225, rfl⟩
abbrev main_call1_v8 : Ref sig .tc := ⟨.hbm, 226, rfl⟩
abbrev main_call1_cst_2 : Ref sig .tc := ⟨.hbm, 227, rfl⟩
abbrev main_call1_v9 : Ref sig .tc := ⟨.hbm, 228, rfl⟩
abbrev main_call1_v10 : Ref sig .tc := ⟨.hbm, 229, rfl⟩
abbrev main_call1_v11 : Ref sig .tc := ⟨.hbm, 230, rfl⟩
abbrev main_call1_v12 : Ref sig .tc := ⟨.hbm, 231, rfl⟩
abbrev main_call1_cst_3 : Ref sig .tc := ⟨.hbm, 232, rfl⟩
abbrev main_call1_v13 : Ref sig .tc := ⟨.hbm, 233, rfl⟩
abbrev main_call1_cst_4 : Ref sig .tc := ⟨.hbm, 234, rfl⟩
abbrev main_call1_call0_v0 : Ref sig .tc := ⟨.hbm, 235, rfl⟩
abbrev main_call1_call0_v1 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_cst_13 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_call2_cst : Ref sig .tc := ⟨.hbm, 260, rfl⟩
abbrev main_call2_v0 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_14 : Ref sig .tc := ⟨.hbm, 276, rfl⟩
abbrev main_v178 : Ref sig .tc := ⟨.hbm, 277, rfl⟩
abbrev main_v179 : Ref sig .tc := ⟨.hbm, 278, rfl⟩
abbrev main_cst_15 : Ref sig .tc := ⟨.hbm, 279, rfl⟩
abbrev main_v180 : Ref sig .tc := ⟨.hbm, 280, rfl⟩
abbrev main_v181 : Ref sig .tc := ⟨.hbm, 281, rfl⟩
abbrev main_c_16 : Ref sig .tc := ⟨.hbm, 282, rfl⟩
abbrev main_call3_cst : Ref sig .tc := ⟨.hbm, 283, rfl⟩
abbrev main_call3_v0 : Ref sig .tc := ⟨.hbm, 284, rfl⟩
abbrev main_call3_v1 : Ref sig .tc := ⟨.hbm, 285, rfl⟩
abbrev main_call3_cst_0 : Ref sig .tc := ⟨.hbm, 286, rfl⟩
abbrev main_call3_v2 : Ref sig .tc := ⟨.hbm, 287, rfl⟩
abbrev main_call3_v3 : Ref sig .tc := ⟨.hbm, 288, rfl⟩
abbrev main_call3_v4 : Ref sig .tc := ⟨.hbm, 289, rfl⟩
abbrev main_call3_v5 : Ref sig .tc := ⟨.hbm, 290, rfl⟩
abbrev main_call3_v6 : Ref sig .tc := ⟨.hbm, 291, rfl⟩
abbrev main_call3_v7 : Ref sig .tc := ⟨.hbm, 292, rfl⟩
abbrev main_call3_cst_1 : Ref sig .tc := ⟨.hbm, 293, rfl⟩
abbrev main_call3_v8 : Ref sig .tc := ⟨.hbm, 294, rfl⟩
abbrev main_call3_cst_2 : Ref sig .tc := ⟨.hbm, 295, rfl⟩
abbrev main_call3_v9 : Ref sig .tc := ⟨.hbm, 296, rfl⟩
abbrev main_call3_v10 : Ref sig .tc := ⟨.hbm, 297, rfl⟩
abbrev main_call3_v11 : Ref sig .tc := ⟨.hbm, 298, rfl⟩
abbrev main_call3_v12 : Ref sig .tc := ⟨.hbm, 299, rfl⟩
abbrev main_call3_cst_3 : Ref sig .tc := ⟨.hbm, 300, rfl⟩
abbrev main_call3_v13 : Ref sig .tc := ⟨.hbm, 301, rfl⟩
abbrev main_call3_cst_4 : Ref sig .tc := ⟨.hbm, 302, rfl⟩
abbrev main_call3_call0_v0 : Ref sig .tc := ⟨.hbm, 303, rfl⟩
abbrev main_call3_call0_v1 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_cst_17 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_v193 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_v198 : Ref sig .tc := ⟨.hbm, 322, rfl⟩
abbrev main_v199 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_v224 : Ref sig .tc := ⟨.hbm, 348, rfl⟩
abbrev main_v225 : Ref sig .tc := ⟨.hbm, 349, rfl⟩
abbrev main_v226 : Ref sig .tc := ⟨.hbm, 350, rfl⟩
abbrev main_v227 : Ref sig .tc := ⟨.hbm, 351, rfl⟩
abbrev main_cst_18 : Ref sig .tc := ⟨.hbm, 352, rfl⟩
abbrev main_v228 : Ref sig .tc := ⟨.hbm, 353, rfl⟩
abbrev main_v229 : Ref sig .tc := ⟨.hbm, 354, rfl⟩
abbrev main_v230 : Ref sig .tc := ⟨.hbm, 355, rfl⟩
abbrev main_cst_19 : Ref sig .tc := ⟨.hbm, 356, rfl⟩
abbrev main_v231 : Ref sig .tc := ⟨.hbm, 357, rfl⟩
abbrev main_cst_20 : Ref sig .tc := ⟨.hbm, 358, rfl⟩
abbrev main_v232 : Ref sig .tc := ⟨.hbm, 359, rfl⟩
abbrev main_v233 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_cst_21 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_cst_22 : Ref sig .tc := ⟨.hbm, 382, rfl⟩
abbrev main_v254 : Ref sig .tc := ⟨.hbm, 383, rfl⟩
abbrev main_v255 : Ref sig .tc := ⟨.hbm, 384, rfl⟩
abbrev main_cst_23 : Ref sig .tc := ⟨.hbm, 385, rfl⟩
abbrev main_v256 : Ref sig .tc := ⟨.hbm, 386, rfl⟩
abbrev main_v257 : Ref sig .tc := ⟨.hbm, 387, rfl⟩
abbrev main_c_24 : Ref sig .tc := ⟨.hbm, 388, rfl⟩
abbrev main_call4_cst : Ref sig .tc := ⟨.hbm, 389, rfl⟩
abbrev main_call4_v0 : Ref sig .tc := ⟨.hbm, 390, rfl⟩
abbrev main_call4_v1 : Ref sig .tc := ⟨.hbm, 391, rfl⟩
abbrev main_call4_cst_0 : Ref sig .tc := ⟨.hbm, 392, rfl⟩
abbrev main_call4_v2 : Ref sig .tc := ⟨.hbm, 393, rfl⟩
abbrev main_call4_v3 : Ref sig .tc := ⟨.hbm, 394, rfl⟩
abbrev main_call4_v4 : Ref sig .tc := ⟨.hbm, 395, rfl⟩
abbrev main_call4_v5 : Ref sig .tc := ⟨.hbm, 396, rfl⟩
abbrev main_call4_v6 : Ref sig .tc := ⟨.hbm, 397, rfl⟩
abbrev main_call4_v7 : Ref sig .tc := ⟨.hbm, 398, rfl⟩
abbrev main_call4_cst_1 : Ref sig .tc := ⟨.hbm, 399, rfl⟩
abbrev main_call4_v8 : Ref sig .tc := ⟨.hbm, 400, rfl⟩
abbrev main_call4_cst_2 : Ref sig .tc := ⟨.hbm, 401, rfl⟩
abbrev main_call4_v9 : Ref sig .tc := ⟨.hbm, 402, rfl⟩
abbrev main_call4_v10 : Ref sig .tc := ⟨.hbm, 403, rfl⟩
abbrev main_call4_v11 : Ref sig .tc := ⟨.hbm, 404, rfl⟩
abbrev main_call4_v12 : Ref sig .tc := ⟨.hbm, 405, rfl⟩
abbrev main_call4_cst_3 : Ref sig .tc := ⟨.hbm, 406, rfl⟩
abbrev main_call4_v13 : Ref sig .tc := ⟨.hbm, 407, rfl⟩
abbrev main_call4_cst_4 : Ref sig .tc := ⟨.hbm, 408, rfl⟩
abbrev main_call4_call0_v0 : Ref sig .tc := ⟨.hbm, 409, rfl⟩
abbrev main_call4_call0_v1 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_cst_25 : Ref sig .tc := ⟨.hbm, 414, rfl⟩
abbrev main_v261 : Ref sig .tc := ⟨.hbm, 415, rfl⟩
abbrev main_v262 : Ref sig .tc := ⟨.hbm, 416, rfl⟩
abbrev main_v263 : Ref sig .tc := ⟨.hbm, 417, rfl⟩
abbrev main_v264 : Ref sig .tc := ⟨.hbm, 418, rfl⟩
abbrev main_v265 : Ref sig .tc := ⟨.hbm, 419, rfl⟩
abbrev main_v266 : Ref sig .tc := ⟨.hbm, 420, rfl⟩
abbrev main_v267 : Ref sig .tc := ⟨.hbm, 421, rfl⟩
abbrev main_v268 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_v273 : Ref sig .tc := ⟨.hbm, 427, rfl⟩
abbrev main_v274 : Ref sig .tc := ⟨.hbm, 428, rfl⟩
abbrev main_v275 : Ref sig .tc := ⟨.hbm, 429, rfl⟩
abbrev main_v276 : Ref sig .tc := ⟨.hbm, 430, rfl⟩
abbrev main_v277 : Ref sig .tc := ⟨.hbm, 431, rfl⟩
abbrev main_v278 : Ref sig .tc := ⟨.hbm, 432, rfl⟩
abbrev main_v279 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_v300 : Ref sig .tc := ⟨.hbm, 454, rfl⟩
abbrev main_v301 : Ref sig .tc := ⟨.hbm, 455, rfl⟩
abbrev main_v302 : Ref sig .tc := ⟨.hbm, 456, rfl⟩
abbrev main_v303 : Ref sig .tc := ⟨.hbm, 457, rfl⟩
abbrev main_cst_26 : Ref sig .tc := ⟨.hbm, 458, rfl⟩
abbrev main_v304 : Ref sig .tc := ⟨.hbm, 459, rfl⟩
abbrev main_v305 : Ref sig .tc := ⟨.hbm, 460, rfl⟩
abbrev main_v306 : Ref sig .tc := ⟨.hbm, 461, rfl⟩
abbrev main_cst_27 : Ref sig .tc := ⟨.hbm, 462, rfl⟩
abbrev main_v307 : Ref sig .tc := ⟨.hbm, 463, rfl⟩
abbrev main_cst_28 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_v312 : Ref sig .tc := ⟨.hbm, 469, rfl⟩
abbrev main_v313 : Ref sig .tc := ⟨.hbm, 470, rfl⟩
abbrev main_cst_29 : Ref sig .tc := ⟨.hbm, 471, rfl⟩
abbrev main_v314 : Ref sig .tc := ⟨.hbm, 472, rfl⟩
abbrev main_v315 : Ref sig .tc := ⟨.hbm, 473, rfl⟩
abbrev main_v316 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_v320 : Ref sig .tc := ⟨.hbm, 478, rfl⟩
abbrev main_v321 : Ref sig .tc := ⟨.hbm, 479, rfl⟩
abbrev main_v322 : Ref sig .tc := ⟨.hbm, 480, rfl⟩
abbrev main_v323 : Ref sig .tc := ⟨.hbm, 481, rfl⟩
abbrev main_v324 : Ref sig .tc := ⟨.hbm, 482, rfl⟩
abbrev main_v325 : Ref sig .tc := ⟨.hbm, 483, rfl⟩
abbrev main_v326 : Ref sig .tc := ⟨.hbm, 484, rfl⟩
abbrev main_v327 : Ref sig .tc := ⟨.hbm, 485, rfl⟩
abbrev main_v328 : Ref sig .tc := ⟨.hbm, 486, rfl⟩
abbrev main_v329 : Ref sig .tc := ⟨.hbm, 487, rfl⟩
abbrev main_cst_30 : Ref sig .tc := ⟨.hbm, 488, rfl⟩
abbrev main_v330 : Ref sig .tc := ⟨.hbm, 489, rfl⟩
abbrev main_v331 : Ref sig .tc := ⟨.hbm, 490, rfl⟩
abbrev main_cst_31 : Ref sig .tc := ⟨.hbm, 491, rfl⟩
abbrev main_v332 : Ref sig .tc := ⟨.hbm, 492, rfl⟩
abbrev main_v333 : Ref sig .tc := ⟨.hbm, 493, rfl⟩
abbrev main_c_32 : Ref sig .tc := ⟨.hbm, 494, rfl⟩
abbrev main_call5_cst : Ref sig .tc := ⟨.hbm, 495, rfl⟩
abbrev main_call5_v0 : Ref sig .tc := ⟨.hbm, 496, rfl⟩
abbrev main_call5_v1 : Ref sig .tc := ⟨.hbm, 497, rfl⟩
abbrev main_call5_cst_0 : Ref sig .tc := ⟨.hbm, 498, rfl⟩
abbrev main_call5_v2 : Ref sig .tc := ⟨.hbm, 499, rfl⟩
abbrev main_call5_v3 : Ref sig .tc := ⟨.hbm, 500, rfl⟩
abbrev main_call5_v4 : Ref sig .tc := ⟨.hbm, 501, rfl⟩
abbrev main_call5_v5 : Ref sig .tc := ⟨.hbm, 502, rfl⟩
abbrev main_call5_v6 : Ref sig .tc := ⟨.hbm, 503, rfl⟩
abbrev main_call5_v7 : Ref sig .tc := ⟨.hbm, 504, rfl⟩
abbrev main_call5_cst_1 : Ref sig .tc := ⟨.hbm, 505, rfl⟩
abbrev main_call5_v8 : Ref sig .tc := ⟨.hbm, 506, rfl⟩
abbrev main_call5_cst_2 : Ref sig .tc := ⟨.hbm, 507, rfl⟩
abbrev main_call5_v9 : Ref sig .tc := ⟨.hbm, 508, rfl⟩
abbrev main_call5_v10 : Ref sig .tc := ⟨.hbm, 509, rfl⟩
abbrev main_call5_v11 : Ref sig .tc := ⟨.hbm, 510, rfl⟩
abbrev main_call5_v12 : Ref sig .tc := ⟨.hbm, 511, rfl⟩
abbrev main_call5_cst_3 : Ref sig .tc := ⟨.hbm, 512, rfl⟩
abbrev main_call5_v13 : Ref sig .tc := ⟨.hbm, 513, rfl⟩
abbrev main_call5_cst_4 : Ref sig .tc := ⟨.hbm, 514, rfl⟩
abbrev main_call5_call0_v0 : Ref sig .tc := ⟨.hbm, 515, rfl⟩
abbrev main_call5_call0_v1 : Ref sig .tc := ⟨.hbm, 516, rfl⟩
abbrev main_v334 : Ref sig .tc := ⟨.hbm, 517, rfl⟩
abbrev main_v335 : Ref sig .tc := ⟨.hbm, 518, rfl⟩
abbrev main_v336 : Ref sig .tc := ⟨.hbm, 519, rfl⟩
abbrev main_cst_33 : Ref sig .tc := ⟨.hbm, 520, rfl⟩
abbrev main_v337 : Ref sig .tc := ⟨.hbm, 521, rfl⟩
abbrev main_v338 : Ref sig .tc := ⟨.hbm, 522, rfl⟩
abbrev main_v339 : Ref sig .tc := ⟨.hbm, 523, rfl⟩
abbrev main_v340 : Ref sig .tc := ⟨.hbm, 524, rfl⟩
abbrev main_v341 : Ref sig .tc := ⟨.hbm, 525, rfl⟩
abbrev main_v342 : Ref sig .tc := ⟨.hbm, 526, rfl⟩
abbrev main_v343 : Ref sig .tc := ⟨.hbm, 527, rfl⟩
abbrev main_v344 : Ref sig .tc := ⟨.hbm, 528, rfl⟩
abbrev main_v345 : Ref sig .tc := ⟨.hbm, 529, rfl⟩
abbrev main_v346 : Ref sig .tc := ⟨.hbm, 530, rfl⟩
abbrev main_v347 : Ref sig .tc := ⟨.hbm, 531, rfl⟩
abbrev main_v348 : Ref sig .tc := ⟨.hbm, 532, rfl⟩
abbrev main_v349 : Ref sig .tc := ⟨.hbm, 533, rfl⟩
abbrev main_v350 : Ref sig .tc := ⟨.hbm, 534, rfl⟩
abbrev main_v351 : Ref sig .tc := ⟨.hbm, 535, rfl⟩
abbrev main_v352 : Ref sig .tc := ⟨.hbm, 536, rfl⟩
abbrev main_v353 : Ref sig .tc := ⟨.hbm, 537, rfl⟩
abbrev main_v354 : Ref sig .tc := ⟨.hbm, 538, rfl⟩
abbrev main_v355 : Ref sig .tc := ⟨.hbm, 539, rfl⟩
abbrev main_call6_cst : Ref sig .tc := ⟨.hbm, 540, rfl⟩
abbrev main_call6_v0 : Ref sig .tc := ⟨.hbm, 541, rfl⟩
abbrev main_v356 : Ref sig .tc := ⟨.hbm, 542, rfl⟩
abbrev main_v357 : Ref sig .tc := ⟨.hbm, 543, rfl⟩
abbrev main_v358 : Ref sig .tc := ⟨.hbm, 544, rfl⟩
abbrev main_v359 : Ref sig .tc := ⟨.hbm, 545, rfl⟩
abbrev main_v360 : Ref sig .tc := ⟨.hbm, 546, rfl⟩
abbrev main_v361 : Ref sig .tc := ⟨.hbm, 547, rfl⟩
abbrev main_v362 : Ref sig .tc := ⟨.hbm, 548, rfl⟩
abbrev main_v363 : Ref sig .tc := ⟨.hbm, 549, rfl⟩
abbrev main_v364 : Ref sig .tc := ⟨.hbm, 550, rfl⟩
abbrev main_v365 : Ref sig .tc := ⟨.hbm, 551, rfl⟩
abbrev main_v366 : Ref sig .tc := ⟨.hbm, 552, rfl⟩
abbrev main_v367 : Ref sig .tc := ⟨.hbm, 553, rfl⟩
abbrev main_v368 : Ref sig .tc := ⟨.hbm, 554, rfl⟩
abbrev main_v369 : Ref sig .tc := ⟨.hbm, 555, rfl⟩
abbrev main_cst_34 : Ref sig .tc := ⟨.hbm, 556, rfl⟩
abbrev main_v370 : Ref sig .tc := ⟨.hbm, 557, rfl⟩
abbrev main_v371 : Ref sig .tc := ⟨.hbm, 558, rfl⟩
abbrev main_cst_35 : Ref sig .tc := ⟨.hbm, 559, rfl⟩
abbrev main_v372 : Ref sig .tc := ⟨.hbm, 560, rfl⟩
abbrev main_v373 : Ref sig .tc := ⟨.hbm, 561, rfl⟩
abbrev main_c_36 : Ref sig .tc := ⟨.hbm, 562, rfl⟩
abbrev main_call7_cst : Ref sig .tc := ⟨.hbm, 563, rfl⟩
abbrev main_call7_v0 : Ref sig .tc := ⟨.hbm, 564, rfl⟩
abbrev main_call7_v1 : Ref sig .tc := ⟨.hbm, 565, rfl⟩
abbrev main_call7_cst_0 : Ref sig .tc := ⟨.hbm, 566, rfl⟩
abbrev main_call7_v2 : Ref sig .tc := ⟨.hbm, 567, rfl⟩
abbrev main_call7_v3 : Ref sig .tc := ⟨.hbm, 568, rfl⟩
abbrev main_call7_v4 : Ref sig .tc := ⟨.hbm, 569, rfl⟩
abbrev main_call7_v5 : Ref sig .tc := ⟨.hbm, 570, rfl⟩
abbrev main_call7_v6 : Ref sig .tc := ⟨.hbm, 571, rfl⟩
abbrev main_call7_v7 : Ref sig .tc := ⟨.hbm, 572, rfl⟩
abbrev main_call7_cst_1 : Ref sig .tc := ⟨.hbm, 573, rfl⟩
abbrev main_call7_v8 : Ref sig .tc := ⟨.hbm, 574, rfl⟩
abbrev main_call7_cst_2 : Ref sig .tc := ⟨.hbm, 575, rfl⟩
abbrev main_call7_v9 : Ref sig .tc := ⟨.hbm, 576, rfl⟩
abbrev main_call7_v10 : Ref sig .tc := ⟨.hbm, 577, rfl⟩
abbrev main_call7_v11 : Ref sig .tc := ⟨.hbm, 578, rfl⟩
abbrev main_call7_v12 : Ref sig .tc := ⟨.hbm, 579, rfl⟩
abbrev main_call7_cst_3 : Ref sig .tc := ⟨.hbm, 580, rfl⟩
abbrev main_call7_v13 : Ref sig .tc := ⟨.hbm, 581, rfl⟩
abbrev main_call7_cst_4 : Ref sig .tc := ⟨.hbm, 582, rfl⟩
abbrev main_call7_call0_v0 : Ref sig .tc := ⟨.hbm, 583, rfl⟩
abbrev main_call7_call0_v1 : Ref sig .tc := ⟨.hbm, 584, rfl⟩
abbrev main_v374 : Ref sig .tc := ⟨.hbm, 585, rfl⟩
abbrev main_v375 : Ref sig .tc := ⟨.hbm, 586, rfl⟩
abbrev main_v376 : Ref sig .tc := ⟨.hbm, 587, rfl⟩
abbrev main_cst_37 : Ref sig .tc := ⟨.hbm, 588, rfl⟩
abbrev main_v377 : Ref sig .tc := ⟨.hbm, 589, rfl⟩
abbrev main_v378 : Ref sig .tc := ⟨.hbm, 590, rfl⟩
abbrev main_v379 : Ref sig .tc := ⟨.hbm, 591, rfl⟩
abbrev main_v380 : Ref sig .tc := ⟨.hbm, 592, rfl⟩
abbrev main_v381 : Ref sig .tc := ⟨.hbm, 593, rfl⟩
abbrev main_v382 : Ref sig .tc := ⟨.hbm, 594, rfl⟩
abbrev main_v383 : Ref sig .tc := ⟨.hbm, 595, rfl⟩
abbrev main_v384 : Ref sig .tc := ⟨.hbm, 596, rfl⟩
abbrev main_v385 : Ref sig .tc := ⟨.hbm, 597, rfl⟩
abbrev main_v386 : Ref sig .tc := ⟨.hbm, 598, rfl⟩
abbrev main_v387 : Ref sig .tc := ⟨.hbm, 599, rfl⟩
abbrev main_v388 : Ref sig .tc := ⟨.hbm, 600, rfl⟩
abbrev main_v389 : Ref sig .tc := ⟨.hbm, 601, rfl⟩
abbrev main_v390 : Ref sig .tc := ⟨.hbm, 602, rfl⟩
abbrev main_v391 : Ref sig .tc := ⟨.hbm, 603, rfl⟩
abbrev main_v392 : Ref sig .tc := ⟨.hbm, 604, rfl⟩
abbrev main_v393 : Ref sig .tc := ⟨.hbm, 605, rfl⟩
abbrev main_v394 : Ref sig .tc := ⟨.hbm, 606, rfl⟩
abbrev main_v395 : Ref sig .tc := ⟨.hbm, 607, rfl⟩
abbrev main_v396 : Ref sig .tc := ⟨.hbm, 608, rfl⟩
abbrev main_v397 : Ref sig .tc := ⟨.hbm, 609, rfl⟩
abbrev main_v398 : Ref sig .tc := ⟨.hbm, 610, rfl⟩
abbrev main_v399 : Ref sig .tc := ⟨.hbm, 611, rfl⟩
abbrev main_v400 : Ref sig .tc := ⟨.hbm, 612, rfl⟩
abbrev main_v401 : Ref sig .tc := ⟨.hbm, 613, rfl⟩
abbrev main_v402 : Ref sig .tc := ⟨.hbm, 614, rfl⟩
abbrev main_v403 : Ref sig .tc := ⟨.hbm, 615, rfl⟩
abbrev main_v404 : Ref sig .tc := ⟨.hbm, 616, rfl⟩
abbrev main_v405 : Ref sig .tc := ⟨.hbm, 617, rfl⟩
abbrev main_v406 : Ref sig .tc := ⟨.hbm, 618, rfl⟩
abbrev main_v407 : Ref sig .tc := ⟨.hbm, 619, rfl⟩
abbrev main_v408 : Ref sig .tc := ⟨.hbm, 620, rfl⟩
abbrev main_v409 : Ref sig .tc := ⟨.hbm, 621, rfl⟩
abbrev main_v410 : Ref sig .tc := ⟨.hbm, 622, rfl⟩
abbrev main_v411 : Ref sig .tc := ⟨.hbm, 623, rfl⟩
abbrev main_v412 : Ref sig .tc := ⟨.hbm, 624, rfl⟩
abbrev main_v413 : Ref sig .tc := ⟨.hbm, 625, rfl⟩
abbrev main_v414 : Ref sig .tc := ⟨.hbm, 626, rfl⟩
abbrev main_v415 : Ref sig .tc := ⟨.hbm, 627, rfl⟩
abbrev main_v416 : Ref sig .tc := ⟨.hbm, 628, rfl⟩
abbrev main_v417 : Ref sig .tc := ⟨.hbm, 629, rfl⟩
abbrev main_v418 : Ref sig .tc := ⟨.hbm, 630, rfl⟩
abbrev main_v419 : Ref sig .tc := ⟨.hbm, 631, rfl⟩
abbrev main_cst_38 : Ref sig .tc := ⟨.hbm, 632, rfl⟩
abbrev main_v420 : Ref sig .tc := ⟨.hbm, 633, rfl⟩
abbrev main_v421 : Ref sig .tc := ⟨.hbm, 634, rfl⟩
abbrev main_v422 : Ref sig .tc := ⟨.hbm, 635, rfl⟩
abbrev main_cst_39 : Ref sig .tc := ⟨.hbm, 636, rfl⟩
abbrev main_v423 : Ref sig .tc := ⟨.hbm, 637, rfl⟩
abbrev main_cst_40 : Ref sig .tc := ⟨.hbm, 638, rfl⟩
abbrev main_v424 : Ref sig .tc := ⟨.hbm, 639, rfl⟩
abbrev main_v425 : Ref sig .tc := ⟨.hbm, 640, rfl⟩
abbrev main_v426 : Ref sig .tc := ⟨.hbm, 641, rfl⟩
abbrev main_v427 : Ref sig .tc := ⟨.hbm, 642, rfl⟩
abbrev main_v428 : Ref sig .tc := ⟨.hbm, 643, rfl⟩
abbrev main_v429 : Ref sig .tc := ⟨.hbm, 644, rfl⟩
abbrev main_cst_41 : Ref sig .tc := ⟨.hbm, 645, rfl⟩
abbrev main_v430 : Ref sig .tc := ⟨.hbm, 646, rfl⟩
abbrev main_v431 : Ref sig .tc := ⟨.hbm, 647, rfl⟩
abbrev main_v432 : Ref sig .tc := ⟨.hbm, 648, rfl⟩
abbrev main_v433 : Ref sig .tc := ⟨.hbm, 649, rfl⟩
abbrev main_v434 : Ref sig .tc := ⟨.hbm, 650, rfl⟩
abbrev main_v435 : Ref sig .tc := ⟨.hbm, 651, rfl⟩
abbrev main_v436 : Ref sig .tc := ⟨.hbm, 652, rfl⟩
abbrev main_v437 : Ref sig .tc := ⟨.hbm, 653, rfl⟩
abbrev main_v438 : Ref sig .tc := ⟨.hbm, 654, rfl⟩
abbrev main_v439 : Ref sig .tc := ⟨.hbm, 655, rfl⟩
abbrev main_v440 : Ref sig .tc := ⟨.hbm, 656, rfl⟩
abbrev main_v441 : Ref sig .tc := ⟨.hbm, 657, rfl⟩
abbrev main_v442 : Ref sig .tc := ⟨.hbm, 658, rfl⟩
abbrev main_v443 : Ref sig .tc := ⟨.hbm, 659, rfl⟩
abbrev main_v444 : Ref sig .tc := ⟨.hbm, 660, rfl⟩
abbrev main_v445 : Ref sig .tc := ⟨.hbm, 661, rfl⟩
abbrev main_cst_42 : Ref sig .tc := ⟨.hbm, 662, rfl⟩
abbrev main_v446 : Ref sig .tc := ⟨.hbm, 663, rfl⟩
abbrev main_v447 : Ref sig .tc := ⟨.hbm, 664, rfl⟩
abbrev main_cst_43 : Ref sig .tc := ⟨.hbm, 665, rfl⟩
abbrev main_v448 : Ref sig .tc := ⟨.hbm, 666, rfl⟩
abbrev main_v449 : Ref sig .tc := ⟨.hbm, 667, rfl⟩
abbrev main_c_44 : Ref sig .tc := ⟨.hbm, 668, rfl⟩
abbrev main_call8_cst : Ref sig .tc := ⟨.hbm, 669, rfl⟩
abbrev main_call8_v0 : Ref sig .tc := ⟨.hbm, 670, rfl⟩
abbrev main_call8_v1 : Ref sig .tc := ⟨.hbm, 671, rfl⟩
abbrev main_call8_cst_0 : Ref sig .tc := ⟨.hbm, 672, rfl⟩
abbrev main_call8_v2 : Ref sig .tc := ⟨.hbm, 673, rfl⟩
abbrev main_call8_v3 : Ref sig .tc := ⟨.hbm, 674, rfl⟩
abbrev main_call8_v4 : Ref sig .tc := ⟨.hbm, 675, rfl⟩
abbrev main_call8_v5 : Ref sig .tc := ⟨.hbm, 676, rfl⟩
abbrev main_call8_v6 : Ref sig .tc := ⟨.hbm, 677, rfl⟩
abbrev main_call8_v7 : Ref sig .tc := ⟨.hbm, 678, rfl⟩
abbrev main_call8_cst_1 : Ref sig .tc := ⟨.hbm, 679, rfl⟩
abbrev main_call8_v8 : Ref sig .tc := ⟨.hbm, 680, rfl⟩
abbrev main_call8_cst_2 : Ref sig .tc := ⟨.hbm, 681, rfl⟩
abbrev main_call8_v9 : Ref sig .tc := ⟨.hbm, 682, rfl⟩
abbrev main_call8_v10 : Ref sig .tc := ⟨.hbm, 683, rfl⟩
abbrev main_call8_v11 : Ref sig .tc := ⟨.hbm, 684, rfl⟩
abbrev main_call8_v12 : Ref sig .tc := ⟨.hbm, 685, rfl⟩
abbrev main_call8_cst_3 : Ref sig .tc := ⟨.hbm, 686, rfl⟩
abbrev main_call8_v13 : Ref sig .tc := ⟨.hbm, 687, rfl⟩
abbrev main_call8_cst_4 : Ref sig .tc := ⟨.hbm, 688, rfl⟩
abbrev main_call8_call0_v0 : Ref sig .tc := ⟨.hbm, 689, rfl⟩
abbrev main_call8_call0_v1 : Ref sig .tc := ⟨.hbm, 690, rfl⟩
abbrev main_v450 : Ref sig .tc := ⟨.hbm, 691, rfl⟩
abbrev main_v451 : Ref sig .tc := ⟨.hbm, 692, rfl⟩
abbrev main_v452 : Ref sig .tc := ⟨.hbm, 693, rfl⟩
abbrev main_cst_45 : Ref sig .tc := ⟨.hbm, 694, rfl⟩
abbrev main_v453 : Ref sig .tc := ⟨.hbm, 695, rfl⟩
abbrev main_v454 : Ref sig .tc := ⟨.hbm, 696, rfl⟩
abbrev main_v455 : Ref sig .tc := ⟨.hbm, 697, rfl⟩
abbrev main_v456 : Ref sig .tc := ⟨.hbm, 698, rfl⟩
abbrev main_v457 : Ref sig .tc := ⟨.hbm, 699, rfl⟩
abbrev main_v458 : Ref sig .tc := ⟨.hbm, 700, rfl⟩
abbrev main_v459 : Ref sig .tc := ⟨.hbm, 701, rfl⟩
abbrev main_v460 : Ref sig .tc := ⟨.hbm, 702, rfl⟩
abbrev main_v461 : Ref sig .tc := ⟨.hbm, 703, rfl⟩
abbrev main_v462 : Ref sig .tc := ⟨.hbm, 704, rfl⟩
abbrev main_v463 : Ref sig .tc := ⟨.hbm, 705, rfl⟩
abbrev main_v464 : Ref sig .tc := ⟨.hbm, 706, rfl⟩
abbrev main_v465 : Ref sig .tc := ⟨.hbm, 707, rfl⟩
abbrev main_v466 : Ref sig .tc := ⟨.hbm, 708, rfl⟩
abbrev main_v467 : Ref sig .tc := ⟨.hbm, 709, rfl⟩
abbrev main_v468 : Ref sig .tc := ⟨.hbm, 710, rfl⟩
abbrev main_v469 : Ref sig .tc := ⟨.hbm, 711, rfl⟩
abbrev main_v470 : Ref sig .tc := ⟨.hbm, 712, rfl⟩
abbrev main_v471 : Ref sig .tc := ⟨.hbm, 713, rfl⟩
abbrev main_v472 : Ref sig .tc := ⟨.hbm, 714, rfl⟩
abbrev main_v473 : Ref sig .tc := ⟨.hbm, 715, rfl⟩
abbrev main_v474 : Ref sig .tc := ⟨.hbm, 716, rfl⟩
abbrev main_v475 : Ref sig .tc := ⟨.hbm, 717, rfl⟩
abbrev main_v476 : Ref sig .tc := ⟨.hbm, 718, rfl⟩
abbrev main_v477 : Ref sig .tc := ⟨.hbm, 719, rfl⟩
abbrev main_v478 : Ref sig .tc := ⟨.hbm, 720, rfl⟩
abbrev main_v479 : Ref sig .tc := ⟨.hbm, 721, rfl⟩
abbrev main_v480 : Ref sig .tc := ⟨.hbm, 722, rfl⟩
abbrev main_v481 : Ref sig .tc := ⟨.hbm, 723, rfl⟩
abbrev main_v482 : Ref sig .tc := ⟨.hbm, 724, rfl⟩
abbrev main_v483 : Ref sig .tc := ⟨.hbm, 725, rfl⟩
abbrev main_v484 : Ref sig .tc := ⟨.hbm, 726, rfl⟩
abbrev main_v485 : Ref sig .tc := ⟨.hbm, 727, rfl⟩
abbrev main_v486 : Ref sig .tc := ⟨.hbm, 728, rfl⟩
abbrev main_v487 : Ref sig .tc := ⟨.hbm, 729, rfl⟩
abbrev main_v488 : Ref sig .tc := ⟨.hbm, 730, rfl⟩
abbrev main_v489 : Ref sig .tc := ⟨.hbm, 731, rfl⟩
abbrev main_v490 : Ref sig .tc := ⟨.hbm, 732, rfl⟩
abbrev main_v491 : Ref sig .tc := ⟨.hbm, 733, rfl⟩
abbrev main_v492 : Ref sig .tc := ⟨.hbm, 734, rfl⟩
abbrev main_v493 : Ref sig .tc := ⟨.hbm, 735, rfl⟩
abbrev main_v494 : Ref sig .tc := ⟨.hbm, 736, rfl⟩
abbrev main_v495 : Ref sig .tc := ⟨.hbm, 737, rfl⟩
abbrev main_cst_46 : Ref sig .tc := ⟨.hbm, 738, rfl⟩
abbrev main_v496 : Ref sig .tc := ⟨.hbm, 739, rfl⟩
abbrev main_v497 : Ref sig .tc := ⟨.hbm, 740, rfl⟩
abbrev main_v498 : Ref sig .tc := ⟨.hbm, 741, rfl⟩
abbrev main_cst_47 : Ref sig .tc := ⟨.hbm, 742, rfl⟩
abbrev main_v499 : Ref sig .tc := ⟨.hbm, 743, rfl⟩
abbrev main_cst_48 : Ref sig .tc := ⟨.hbm, 744, rfl⟩
abbrev main_v500 : Ref sig .tc := ⟨.hbm, 745, rfl⟩
abbrev main_v501 : Ref sig .tc := ⟨.hbm, 746, rfl⟩
abbrev main_v502 : Ref sig .tc := ⟨.hbm, 747, rfl⟩
abbrev main_v503 : Ref sig .tc := ⟨.hbm, 748, rfl⟩
abbrev main_v504 : Ref sig .tc := ⟨.hbm, 749, rfl⟩
abbrev main_v505 : Ref sig .tc := ⟨.hbm, 750, rfl⟩
abbrev main_cst_49 : Ref sig .tc := ⟨.hbm, 751, rfl⟩
abbrev main_v506 : Ref sig .tc := ⟨.hbm, 752, rfl⟩
abbrev main_v507 : Ref sig .tc := ⟨.hbm, 753, rfl⟩
abbrev main_v508 : Ref sig .tc := ⟨.hbm, 754, rfl⟩
abbrev main_v509 : Ref sig .tc := ⟨.hbm, 755, rfl⟩
abbrev main_v510 : Ref sig .tc := ⟨.hbm, 756, rfl⟩
abbrev main_v511 : Ref sig .tc := ⟨.hbm, 757, rfl⟩
abbrev main_v512 : Ref sig .tc := ⟨.hbm, 758, rfl⟩
abbrev main_v513 : Ref sig .tc := ⟨.hbm, 759, rfl⟩
abbrev main_v514 : Ref sig .tc := ⟨.hbm, 760, rfl⟩
abbrev main_v515 : Ref sig .tc := ⟨.hbm, 761, rfl⟩
abbrev main_v516 : Ref sig .tc := ⟨.hbm, 762, rfl⟩
abbrev main_v517 : Ref sig .tc := ⟨.hbm, 763, rfl⟩
abbrev main_v518 : Ref sig .tc := ⟨.hbm, 764, rfl⟩
abbrev main_v519 : Ref sig .tc := ⟨.hbm, 765, rfl⟩
abbrev main_v520 : Ref sig .tc := ⟨.hbm, 766, rfl⟩
abbrev main_v521 : Ref sig .tc := ⟨.hbm, 767, rfl⟩
abbrev main_cst_50 : Ref sig .tc := ⟨.hbm, 768, rfl⟩
abbrev main_v522 : Ref sig .tc := ⟨.hbm, 769, rfl⟩
abbrev main_v523 : Ref sig .tc := ⟨.hbm, 770, rfl⟩
abbrev main_cst_51 : Ref sig .tc := ⟨.hbm, 771, rfl⟩
abbrev main_v524 : Ref sig .tc := ⟨.hbm, 772, rfl⟩
abbrev main_v525 : Ref sig .tc := ⟨.hbm, 773, rfl⟩
abbrev main_c_52 : Ref sig .tc := ⟨.hbm, 774, rfl⟩
abbrev main_call9_cst : Ref sig .tc := ⟨.hbm, 775, rfl⟩
abbrev main_call9_v0 : Ref sig .tc := ⟨.hbm, 776, rfl⟩
abbrev main_call9_v1 : Ref sig .tc := ⟨.hbm, 777, rfl⟩
abbrev main_call9_cst_0 : Ref sig .tc := ⟨.hbm, 778, rfl⟩
abbrev main_call9_v2 : Ref sig .tc := ⟨.hbm, 779, rfl⟩
abbrev main_call9_v3 : Ref sig .tc := ⟨.hbm, 780, rfl⟩
abbrev main_call9_v4 : Ref sig .tc := ⟨.hbm, 781, rfl⟩
abbrev main_call9_v5 : Ref sig .tc := ⟨.hbm, 782, rfl⟩
abbrev main_call9_v6 : Ref sig .tc := ⟨.hbm, 783, rfl⟩
abbrev main_call9_v7 : Ref sig .tc := ⟨.hbm, 784, rfl⟩
abbrev main_call9_cst_1 : Ref sig .tc := ⟨.hbm, 785, rfl⟩
abbrev main_call9_v8 : Ref sig .tc := ⟨.hbm, 786, rfl⟩
abbrev main_call9_cst_2 : Ref sig .tc := ⟨.hbm, 787, rfl⟩
abbrev main_call9_v9 : Ref sig .tc := ⟨.hbm, 788, rfl⟩
abbrev main_call9_v10 : Ref sig .tc := ⟨.hbm, 789, rfl⟩
abbrev main_call9_v11 : Ref sig .tc := ⟨.hbm, 790, rfl⟩
abbrev main_call9_v12 : Ref sig .tc := ⟨.hbm, 791, rfl⟩
abbrev main_call9_cst_3 : Ref sig .tc := ⟨.hbm, 792, rfl⟩
abbrev main_call9_v13 : Ref sig .tc := ⟨.hbm, 793, rfl⟩
abbrev main_call9_cst_4 : Ref sig .tc := ⟨.hbm, 794, rfl⟩
abbrev main_call9_call0_v0 : Ref sig .tc := ⟨.hbm, 795, rfl⟩
abbrev main_call9_call0_v1 : Ref sig .tc := ⟨.hbm, 796, rfl⟩
abbrev main_v526 : Ref sig .tc := ⟨.hbm, 797, rfl⟩
abbrev main_v527 : Ref sig .tc := ⟨.hbm, 798, rfl⟩
abbrev main_v528 : Ref sig .tc := ⟨.hbm, 799, rfl⟩
abbrev main_cst_53 : Ref sig .tc := ⟨.hbm, 800, rfl⟩
abbrev main_v529 : Ref sig .tc := ⟨.hbm, 801, rfl⟩
abbrev main_v530 : Ref sig .tc := ⟨.hbm, 802, rfl⟩
abbrev main_v531 : Ref sig .tc := ⟨.hbm, 803, rfl⟩
abbrev main_v532 : Ref sig .tc := ⟨.hbm, 804, rfl⟩
abbrev main_v533 : Ref sig .tc := ⟨.hbm, 805, rfl⟩
abbrev main_v534 : Ref sig .tc := ⟨.hbm, 806, rfl⟩
abbrev main_v535 : Ref sig .tc := ⟨.hbm, 807, rfl⟩
abbrev main_v536 : Ref sig .tc := ⟨.hbm, 808, rfl⟩
abbrev main_v537 : Ref sig .tc := ⟨.hbm, 809, rfl⟩
abbrev main_v538 : Ref sig .tc := ⟨.hbm, 810, rfl⟩
abbrev main_v539 : Ref sig .tc := ⟨.hbm, 811, rfl⟩
abbrev main_v540 : Ref sig .tc := ⟨.hbm, 812, rfl⟩
abbrev main_v541 : Ref sig .tc := ⟨.hbm, 813, rfl⟩
abbrev main_v542 : Ref sig .tc := ⟨.hbm, 814, rfl⟩
abbrev main_v543 : Ref sig .tc := ⟨.hbm, 815, rfl⟩
abbrev main_v544 : Ref sig .tc := ⟨.hbm, 816, rfl⟩
abbrev main_v545 : Ref sig .tc := ⟨.hbm, 817, rfl⟩
abbrev main_v546 : Ref sig .tc := ⟨.hbm, 818, rfl⟩
abbrev main_v547 : Ref sig .tc := ⟨.hbm, 819, rfl⟩
abbrev main_call10_cst : Ref sig .tc := ⟨.hbm, 820, rfl⟩
abbrev main_call10_v0 : Ref sig .tc := ⟨.hbm, 821, rfl⟩
abbrev main_v548 : Ref sig .tc := ⟨.hbm, 822, rfl⟩
abbrev main_v549 : Ref sig .tc := ⟨.hbm, 823, rfl⟩
abbrev main_v550 : Ref sig .tc := ⟨.hbm, 824, rfl⟩
abbrev main_v551 : Ref sig .tc := ⟨.hbm, 825, rfl⟩
abbrev main_v552 : Ref sig .tc := ⟨.hbm, 826, rfl⟩
abbrev main_v553 : Ref sig .tc := ⟨.hbm, 827, rfl⟩
abbrev main_v554 : Ref sig .tc := ⟨.hbm, 828, rfl⟩
abbrev main_v555 : Ref sig .tc := ⟨.hbm, 829, rfl⟩
abbrev main_v556 : Ref sig .tc := ⟨.hbm, 830, rfl⟩
abbrev main_v557 : Ref sig .tc := ⟨.hbm, 831, rfl⟩
abbrev main_v558 : Ref sig .tc := ⟨.hbm, 832, rfl⟩
abbrev main_v559 : Ref sig .tc := ⟨.hbm, 833, rfl⟩
abbrev main_v560 : Ref sig .tc := ⟨.hbm, 834, rfl⟩
abbrev main_v561 : Ref sig .tc := ⟨.hbm, 835, rfl⟩
abbrev main_cst_54 : Ref sig .tc := ⟨.hbm, 836, rfl⟩
abbrev main_v562 : Ref sig .tc := ⟨.hbm, 837, rfl⟩
abbrev main_v563 : Ref sig .tc := ⟨.hbm, 838, rfl⟩
abbrev main_cst_55 : Ref sig .tc := ⟨.hbm, 839, rfl⟩
abbrev main_v564 : Ref sig .tc := ⟨.hbm, 840, rfl⟩
abbrev main_v565 : Ref sig .tc := ⟨.hbm, 841, rfl⟩
abbrev main_c_56 : Ref sig .tc := ⟨.hbm, 842, rfl⟩
abbrev main_call11_cst : Ref sig .tc := ⟨.hbm, 843, rfl⟩
abbrev main_call11_v0 : Ref sig .tc := ⟨.hbm, 844, rfl⟩
abbrev main_call11_v1 : Ref sig .tc := ⟨.hbm, 845, rfl⟩
abbrev main_call11_cst_0 : Ref sig .tc := ⟨.hbm, 846, rfl⟩
abbrev main_call11_v2 : Ref sig .tc := ⟨.hbm, 847, rfl⟩
abbrev main_call11_v3 : Ref sig .tc := ⟨.hbm, 848, rfl⟩
abbrev main_call11_v4 : Ref sig .tc := ⟨.hbm, 849, rfl⟩
abbrev main_call11_v5 : Ref sig .tc := ⟨.hbm, 850, rfl⟩
abbrev main_call11_v6 : Ref sig .tc := ⟨.hbm, 851, rfl⟩
abbrev main_call11_v7 : Ref sig .tc := ⟨.hbm, 852, rfl⟩
abbrev main_call11_cst_1 : Ref sig .tc := ⟨.hbm, 853, rfl⟩
abbrev main_call11_v8 : Ref sig .tc := ⟨.hbm, 854, rfl⟩
abbrev main_call11_cst_2 : Ref sig .tc := ⟨.hbm, 855, rfl⟩
abbrev main_call11_v9 : Ref sig .tc := ⟨.hbm, 856, rfl⟩
abbrev main_call11_v10 : Ref sig .tc := ⟨.hbm, 857, rfl⟩
abbrev main_call11_v11 : Ref sig .tc := ⟨.hbm, 858, rfl⟩
abbrev main_call11_v12 : Ref sig .tc := ⟨.hbm, 859, rfl⟩
abbrev main_call11_cst_3 : Ref sig .tc := ⟨.hbm, 860, rfl⟩
abbrev main_call11_v13 : Ref sig .tc := ⟨.hbm, 861, rfl⟩
abbrev main_call11_cst_4 : Ref sig .tc := ⟨.hbm, 862, rfl⟩
abbrev main_call11_call0_v0 : Ref sig .tc := ⟨.hbm, 863, rfl⟩
abbrev main_call11_call0_v1 : Ref sig .tc := ⟨.hbm, 864, rfl⟩
abbrev main_v566 : Ref sig .tc := ⟨.hbm, 865, rfl⟩
abbrev main_v567 : Ref sig .tc := ⟨.hbm, 866, rfl⟩
abbrev main_v568 : Ref sig .tc := ⟨.hbm, 867, rfl⟩
abbrev main_cst_57 : Ref sig .tc := ⟨.hbm, 868, rfl⟩
abbrev main_v569 : Ref sig .tc := ⟨.hbm, 869, rfl⟩
abbrev main_v570 : Ref sig .tc := ⟨.hbm, 870, rfl⟩
abbrev main_v571 : Ref sig .tc := ⟨.hbm, 871, rfl⟩
abbrev main_v572 : Ref sig .tc := ⟨.hbm, 872, rfl⟩
abbrev main_v573 : Ref sig .tc := ⟨.hbm, 873, rfl⟩
abbrev main_v574 : Ref sig .tc := ⟨.hbm, 874, rfl⟩
abbrev main_v575 : Ref sig .tc := ⟨.hbm, 875, rfl⟩
abbrev main_v576 : Ref sig .tc := ⟨.hbm, 876, rfl⟩
abbrev main_v577 : Ref sig .tc := ⟨.hbm, 877, rfl⟩
abbrev main_v578 : Ref sig .tc := ⟨.hbm, 878, rfl⟩
abbrev main_v579 : Ref sig .tc := ⟨.hbm, 879, rfl⟩
abbrev main_call12_v0 : Ref sig .tc := ⟨.hbm, 880, rfl⟩
abbrev main_call12_cst : Ref sig .tc := ⟨.hbm, 881, rfl⟩
abbrev main_call12_v1 : Ref sig .tc := ⟨.hbm, 882, rfl⟩
abbrev main_v580 : Ref sig .tc := ⟨.hbm, 883, rfl⟩
abbrev main_cst_58 : Ref sig .tc := ⟨.hbm, 884, rfl⟩
abbrev main_v581 : Ref sig .tc := ⟨.hbm, 885, rfl⟩
abbrev main_cst_59 : Ref sig .tc := ⟨.hbm, 886, rfl⟩
abbrev main_v582 : Ref sig .tc := ⟨.hbm, 887, rfl⟩
abbrev main_v583 : Ref sig .tc := ⟨.hbm, 888, rfl⟩
abbrev main_v584 : Ref sig .tc := ⟨.hbm, 889, rfl⟩
abbrev main_v585 : Ref sig .tc := ⟨.hbm, 890, rfl⟩
abbrev main_v586 : Ref sig .tc := ⟨.hbm, 891, rfl⟩
abbrev main_v587 : Ref sig .tc := ⟨.hbm, 892, rfl⟩
abbrev main_cst_60 : Ref sig .tc := ⟨.hbm, 893, rfl⟩
abbrev main_v588 : Ref sig .tc := ⟨.hbm, 894, rfl⟩
abbrev main_v589 : Ref sig .tc := ⟨.hbm, 895, rfl⟩
abbrev main_v590 : Ref sig .tc := ⟨.hbm, 896, rfl⟩
abbrev main_v591 : Ref sig .tc := ⟨.hbm, 897, rfl⟩
abbrev main_v592 : Ref sig .tc := ⟨.hbm, 898, rfl⟩
abbrev main_v593 : Ref sig .tc := ⟨.hbm, 899, rfl⟩
abbrev main_v594 : Ref sig .tc := ⟨.hbm, 900, rfl⟩
abbrev main_v595 : Ref sig .tc := ⟨.hbm, 901, rfl⟩
abbrev main_v596 : Ref sig .tc := ⟨.hbm, 902, rfl⟩
abbrev main_call13_cst : Ref sig .tc := ⟨.hbm, 903, rfl⟩
abbrev main_call13_v0 : Ref sig .tc := ⟨.hbm, 904, rfl⟩
abbrev main_v597 : Ref sig .tc := ⟨.hbm, 905, rfl⟩
abbrev main_v598 : Ref sig .tc := ⟨.hbm, 906, rfl⟩
abbrev main_v599 : Ref sig .tc := ⟨.hbm, 907, rfl⟩
abbrev main_v600 : Ref sig .tc := ⟨.hbm, 908, rfl⟩
abbrev main_v601 : Ref sig .tc := ⟨.hbm, 909, rfl⟩
abbrev main_call14_cst : Ref sig .tc := ⟨.hbm, 910, rfl⟩
abbrev main_call14_v0 : Ref sig .tc := ⟨.hbm, 911, rfl⟩
abbrev main_v602 : Ref sig .tc := ⟨.hbm, 912, rfl⟩
abbrev main_v603 : Ref sig .tc := ⟨.hbm, 913, rfl⟩
abbrev main_v604 : Ref sig .tc := ⟨.hbm, 914, rfl⟩
abbrev main_v605 : Ref sig .tc := ⟨.hbm, 915, rfl⟩
abbrev main_v606 : Ref sig .tc := ⟨.hbm, 916, rfl⟩

abbrev nD : Nat := 1
abbrev τ : Topo := Topo.v7x

variable {F : FTy → Type} [FloatOps F]
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)
theorem before0_24_of {c : Dev nD} (dat : Dat τ (Elt F) Unit ℕ (UR sig nD τ) ℕ cfg0 c) (hA : dat.A 24 = V c (Pipeline.arrRef spec0 24))
    (hafter : ∀ t, dat.after 24 t = iblk0 V c 24 t) (t : Fin cfg0.N) (d) : dat.before 24 t d = iblk0 V c 24 t :=
  (dat.before_in_eq_fetched 24 rfl (fun _ => rfl) (fun _ _ _ => rfl) (fun t => by rw [hafter]; unfold Dat.blockOf iblk0; rw [hA]; try rfl) t d).trans
    (by unfold Dat.fetched Dat.blockOf iblk0; rw [hA]; try rfl)
theorem before0_25_of {c : Dev nD} (dat : Dat τ (Elt F) Unit ℕ (UR sig nD τ) ℕ cfg0 c) (hA : dat.A 25 = V c (Pipeline.arrRef spec0 25))
    (hafter : ∀ t, dat.after 25 t = iblk0 V c 25 t) (t : Fin cfg0.N) (d) : dat.before 25 t d = iblk0 V c 25 t :=
  (dat.before_in_eq_fetched 25 rfl (fun _ => rfl) (fun _ _ _ => rfl) (fun t => by rw [hafter]; unfold Dat.blockOf iblk0; rw [hA]; try rfl) t d).trans
    (by unfold Dat.fetched Dat.blockOf iblk0; rw [hA]; try rfl)
theorem before0_26_of {c : Dev nD} (dat : Dat τ (Elt F) Unit ℕ (UR sig nD τ) ℕ cfg0 c) (hA : dat.A 26 = V c (Pipeline.arrRef spec0 26))
    (hafter : ∀ t, dat.after 26 t = iblk0 V c 26 t) (t : Fin cfg0.N) (d) : dat.before 26 t d = iblk0 V c 26 t :=
  (dat.before_in_eq_fetched 26 rfl (fun _ => rfl) (fun _ _ _ => rfl) (fun t => by rw [hafter]; unfold Dat.blockOf iblk0; rw [hA]; try rfl) t d).trans
    (by unfold Dat.fetched Dat.blockOf iblk0; rw [hA]; try rfl)
theorem before0_27_of {c : Dev nD} (dat : Dat τ (Elt F) Unit ℕ (UR sig nD τ) ℕ cfg0 c) (hA : dat.A 27 = V c (Pipeline.arrRef spec0 27))
    (hafter : ∀ t, dat.after 27 t = iblk0 V c 27 t) (t : Fin cfg0.N) (d) : dat.before 27 t d = iblk0 V c 27 t :=
  (dat.before_in_eq_fetched 27 rfl (fun _ => rfl) (fun _ _ _ => rfl) (fun t => by rw [hafter]; unfold Dat.blockOf iblk0; rw [hA]; try rfl) t d).trans
    (by unfold Dat.fetched Dat.blockOf iblk0; rw [hA]; try rfl)
theorem before0_28_of {c : Dev nD} (dat : Dat τ (Elt F) Unit ℕ (UR sig nD τ) ℕ cfg0 c) (hA : dat.A 28 = V c (Pipeline.arrRef spec0 28))
    (hafter : ∀ t, dat.after 28 t = iblk0 V c 28 t) (t : Fin cfg0.N) (d) : dat.before 28 t d = iblk0 V c 28 t :=
  (dat.before_in_eq_fetched 28 rfl (fun _ => rfl) (fun _ _ _ => rfl) (fun t => by rw [hafter]; unfold Dat.blockOf iblk0; rw [hA]; try rfl) t d).trans
    (by unfold Dat.fetched Dat.blockOf iblk0; rw [hA]; try rfl)
theorem before0_29_of {c : Dev nD} (dat : Dat τ (Elt F) Unit ℕ (UR sig nD τ) ℕ cfg0 c) (hA : dat.A 29 = V c (Pipeline.arrRef spec0 29))
    (hafter : ∀ t, dat.after 29 t = iblk0 V c 29 t) (t : Fin cfg0.N) (d) : dat.before 29 t d = iblk0 V c 29 t :=
  (dat.before_in_eq_fetched 29 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2x512x1024 := Rect.unit (s := S2x512x1024) ![0, 0, 0] S2x512x1024.size inb_S2x512x1024_S2x512x1024_0_0_0
abbrev r0_1 : Rect S1024x512 := Rect.unit (s := S1024x512) ![0, 0] S1024x512.size inb_S1024x512_S1024x512_0_0
abbrev r0_2 : Rect S1x512 := Rect.unit (s := S1x512) ![0, 0] S1x512.size inb_S1x512_S1x512_0_0
abbrev r0_3 : Rect S2x512x512 := Rect.unit (s := S2x512x512) ![0, 0, 0] S2x512x512.size inb_S2x512x512_S2x512x512_0_0_0
abbrev r0_4 : Rect S1x512x512 := Rect.unit (s := S1x512x512) ![0, 0, 0] S1x512x512.size inb_S1x512x512_S1x512x512_0_0_0
abbrev r0_5 : Rect S1x1x512 := Rect.unit (s := S1x1x512) ![0, 0, 0] S1x1x512.size inb_S1x1x512_S1x1x512_0_0_0
abbrev r0_6 : Rect S1x512x2048 := Rect.unit (s := S1x512x2048) ![0, 0, 0] S1x512x2048.size inb_S1x512x2048_S1x512x2048_0_0_0
abbrev r0_7 : Rect S1x1x2048 := Rect.unit (s := S1x1x2048) ![0, 0, 0] S1x1x2048.size inb_S1x1x2048_S1x1x2048_0_0_0
abbrev r0_8 : Rect S1x2048x512 := Rect.unit (s := S1x2048x512) ![0, 0, 0] S1x2048x512.size inb_S1x2048x512_S1x2048x512_0_0_0

/-! ## What the body leaves in each output window's buffer -/

/-! ### Values that the body binds, over the input windows' blocks -/

def k0_pay97 (x0 : Vec F S2x512x1024 .f32) (x1 : Vec F S1024x512 .f32) (x2 : Vec F S1x512 .f32) : FVec F S1024x512 .f32 :=
  k0_pay2 (View.ld x0 r0_0) (View.ld x1 r0_1) (View.ld x2 r0_2)
def k0_pay98 (x3 : Vec F S2x512x512 .f32) : FVec F S1024x512 .f32 :=
  k0_pay3 (View.ld x3 r0_3)
def k0_pay99 (x4 : Vec F S1x512x512 .f32) : FVec F S512x512 .f32 :=
  k0_pay4 (View.ld x4 r0_4)
def k0_pay100 (x5 : Vec F S1x1x512 .f32) : FVec F S1x512 .f32 :=
  k0_pay5 (View.ld x5 r0_5)
def k0_pay101 (x6 : Vec F S1x512x512 .f32) : FVec F S512x512 .f32 :=
  k0_pay6 (View.ld x6 r0_4)
def k0_pay102 (x7 : Vec F S1x1x512 .f32) : FVec F S1x512 .f32 :=
  k0_pay7 (View.ld x7 r0_5)
def k0_pay103 (x8 : Vec F S1x512x512 .f32) : FVec F S512x512 .f32 :=
  k0_pay8 (View.ld x8 r0_4)
def k0_pay104 (x9 : Vec F S1x1x512 .f32) : FVec F S1x512 .f32 :=
  k0_pay9 (View.ld x9 r0_5)
def k0_pay105 (x10 : Vec F S1x512x512 .f32) : FVec F S512x512 .f32 :=
  k0_pay10 (View.ld x10 r0_4)
def k0_pay106 (x11 : Vec F S1x1x512 .f32) : FVec F S1x512 .f32 :=
  k0_pay11 (View.ld x11 r0_5)
def k0_pay107 (x0 : Vec F S2x512x1024 .f32) (x1 : Vec F S1024x512 .f32) (x2 : Vec F S1x512 .f32) (x4 : Vec F S1x512x512 .f32) (x5 : Vec F S1x1x512 .f32) : FVec F S1024x512 .f32 :=
  k0_pay13 (k0_pay97 x0 x1 x2) (k0_pay99 x4) (k0_pay100 x5)
def k0_pay108 (x0 : Vec F S2x512x1024 .f32) (x1 : Vec F S1024x512 .f32) (x2 : Vec F S1x512 .f32) (x6 : Vec F S1x512x512 .f32) (x7 : Vec F S1x1x512 .f32) : FVec F S1024x512 .f32 :=
  k0_pay14 (k0_pay97 x0 x1 x2) (k0_pay101 x6) (k0_pay102 x7)
def k0_pay109 (x0 : Vec F S2x512x1024 .f32) (x1 : Vec F S1024x512 .f32) (x2 : Vec F S1x512 .f32) (x8 : Vec F S1x512x512 .f32) (x9 : Vec F S1x1x512 .f32) : FVec F S1024x512 .f32 :=
  k0_pay15 (k0_pay97 x0 x1 x2) (k0_pay103 x8) (k0_pay104 x9)
def k0_pay110 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x512 .f32 :=
  k0_pay30 (k0_pay12 (F := F)) (k0_pay108 x0 x1 x2 x6 x7) (k0_pay109 x0 x1 x2 x8 x9) (k0_pay16 (k0_pay97 x0 x1 x2) (k0_pay99 x4) (k0_pay100 x5) (k0_pay101 x6) (k0_pay102 x7) (k0_pay103 x8) (k0_pay104 x9)) (k0_pay20 (k0_pay17 (k0_pay97 x0 x1 x2) (k0_pay103 x8) (k0_pay104 x9)) (k0_pay18 (k0_pay97 x0 x1 x2) (k0_pay99 x4) (k0_pay100 x5) (k0_pay101 x6) (k0_pay102 x7)) (k0_pay19 (k0_pay97 x0 x1 x2) (k0_pay99 x4) (k0_pay100 x5) (k0_pay101 x6) (k0_pay102 x7))) (k0_pay21 (k0_pay12 (F := F)) (k0_pay107 x0 x1 x2 x4 x5) (k0_pay108 x0 x1 x2 x6 x7) (k0_pay109 x0 x1 x2 x8 x9)) (k0_pay22 (k0_pay12 (F := F)) (k0_pay107 x0 x1 x2 x4 x5) (k0_pay108 x0 x1 x2 x6 x7) (k0_pay109 x0 x1 x2 x8 x9)) (k0_pay26 (k0_pay23 (k0_pay109 x0 x1 x2 x8 x9)) (k0_pay24 (k0_pay12 (F := F)) (k0_pay107 x0 x1 x2 x4 x5) (k0_pay108 x0 x1 x2 x6 x7)) (k0_pay25 (k0_pay12 (F := F)) (k0_pay107 x0 x1 x2 x4 x5) (k0_pay108 x0 x1 x2 x6 x7))) (k0_pay27 (k0_pay12 (F := F)) (k0_pay107 x0 x1 x2 x4 x5) (k0_pay108 x0 x1 x2 x6 x7) (k0_pay109 x0 x1 x2 x8 x9)) (k0_pay28 (k0_pay12 (F := F)) (k0_pay107 x0 x1 x2 x4 x5) (k0_pay108 x0 x1 x2 x6 x7) (k0_pay109 x0 x1 x2 x8 x9)) (k0_pay29 (k0_pay107 x0 x1 x2 x4 x5))
def k0_pay111 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x64 .f32 :=
  k0_pay31 (k0_pay12 (F := F)) (k0_pay107 x0 x1 x2 x4 x5) (k0_pay108 x0 x1 x2 x6 x7) (k0_pay109 x0 x1 x2 x8 x9)
def k0_pay112 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x64 .f32 :=
  k0_pay34 (k0_pay32 (k0_pay109 x0 x1 x2 x8 x9)) (k0_pay33 (k0_pay12 (F := F)) (k0_pay107 x0 x1 x2 x4 x5) (k0_pay108 x0 x1 x2 x6 x7))
def k0_pay113 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x64 .f32 :=
  k0_pay35 (k0_pay12 (F := F)) (k0_pay107 x0 x1 x2 x4 x5) (k0_pay108 x0 x1 x2 x6 x7) (k0_pay109 x0 x1 x2 x8 x9)
def k0_pay114 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x64 .f32 :=
  k0_pay36 (k0_pay12 (F := F)) (k0_pay107 x0 x1 x2 x4 x5) (k0_pay108 x0 x1 x2 x6 x7) (k0_pay109 x0 x1 x2 x8 x9)
def k0_pay115 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x64 .f32 :=
  k0_pay39 (k0_pay12 (F := F)) (k0_pay37 (k0_pay109 x0 x1 x2 x8 x9)) (k0_pay38 (k0_pay107 x0 x1 x2 x4 x5) (k0_pay108 x0 x1 x2 x6 x7))
def k0_pay116 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) : FVec F S512x64 .f32 :=
  k0_pay40 (k0_pay12 (F := F)) (k0_pay107 x0 x1 x2 x4 x5) (k0_pay108 x0 x1 x2 x6 x7) (k0_pay109 x0 x1 x2 x8 x9)
def k0_pay117 (x0 : Vec F S2x512x1024 .f32) (x1 : Vec F S1024x512 .f32) (x2 : Vec F S1x512 .f32) (x8 : Vec F S1x512x512 .f32) (x9 : Vec F S1x1x512 .f32) : FVec F S512x64 .f32 :=
  k0_pay41 (k0_pay109 x0 x1 x2 x8 x9)
def k0_pay118 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) : FVec F S512x512 .f32 :=
  k0_pay42 (k0_pay12 (F := F)) (k0_pay107 x0 x1 x2 x4 x5) (k0_pay108 x0 x1 x2 x6 x7)
def k0_pay119 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) : FVec F S512x1 .f32 :=
  k0_pay43 (k0_pay12 (F := F)) (k0_pay107 x0 x1 x2 x4 x5) (k0_pay108 x0 x1 x2 x6 x7)
def k0_pay120 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) : FVec F S1024x512 .f32 :=
  k0_pay44 (k0_pay97 x0 x1 x2) (k0_pay105 x10) (k0_pay106 x11) (k0_pay12 (F := F)) (k0_pay107 x0 x1 x2 x4 x5) (k0_pay108 x0 x1 x2 x6 x7) (k0_pay109 x0 x1 x2 x8 x9) (k0_pay110 x0 x1 x2 x4 x5 x6 x7 x8 x9) (k0_pay111 x0 x1 x2 x4 x5 x6 x7 x8 x9) (k0_pay112 x0 x1 x2 x4 x5 x6 x7 x8 x9) (k0_pay113 x0 x1 x2 x4 x5 x6 x7 x8 x9) (k0_pay114 x0 x1 x2 x4 x5 x6 x7 x8 x9) (k0_pay115 x0 x1 x2 x4 x5 x6 x7 x8 x9) (k0_pay116 x0 x1 x2 x4 x5 x6 x7 x8 x9) (k0_pay117 x0 x1 x2 x8 x9) (k0_pay118 x0 x1 x2 x4 x5 x6 x7) (k0_pay119 x0 x1 x2 x4 x5 x6 x7)
def k0_pay121 (x24 : Vec F S1x1x512 .f32) : FVec F S1x512 .f32 :=
  k0_pay45 (View.ld x24 r0_5)
def k0_pay122 (x25 : Vec F S1x1x512 .f32) : FVec F S1x512 .f32 :=
  k0_pay46 (View.ld x25 r0_5)
def k0_pay123 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) : FVec F S1024x1 .f32 :=
  k0_pay48 (k0_pay97 x0 x1 x2) (k0_pay105 x10) (k0_pay106 x11) (k0_pay12 (F := F)) (k0_pay107 x0 x1 x2 x4 x5) (k0_pay108 x0 x1 x2 x6 x7) (k0_pay109 x0 x1 x2 x8 x9) (k0_pay110 x0 x1 x2 x4 x5 x6 x7 x8 x9) (k0_pay111 x0 x1 x2 x4 x5 x6 x7 x8 x9) (k0_pay112 x0 x1 x2 x4 x5 x6 x7 x8 x9) (k0_pay113 x0 x1 x2 x4 x5 x6 x7 x8 x9) (k0_pay114 x0 x1 x2 x4 x5 x6 x7 x8 x9) (k0_pay115 x0 x1 x2 x4 x5 x6 x7 x8 x9) (k0_pay116 x0 x1 x2 x4 x5 x6 x7 x8 x9) (k0_pay117 x0 x1 x2 x8 x9) (k0_pay118 x0 x1 x2 x4 x5 x6 x7) (k0_pay119 x0 x1 x2 x4 x5 x6 x7)
def k0_pay124 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) : FVec F S1024x512 .f32 :=
  k0_pay49 (k0_pay97 x0 x1 x2) (k0_pay105 x10) (k0_pay106 x11) (k0_pay12 (F := F)) (k0_pay107 x0 x1 x2 x4 x5) (k0_pay108 x0 x1 x2 x6 x7) (k0_pay109 x0 x1 x2 x8 x9) (k0_pay110 x0 x1 x2 x4 x5 x6 x7 x8 x9) (k0_pay111 x0 x1 x2 x4 x5 x6 x7 x8 x9) (k0_pay112 x0 x1 x2 x4 x5 x6 x7 x8 x9) (k0_pay113 x0 x1 x2 x4 x5 x6 x7 x8 x9) (k0_pay114 x0 x1 x2 x4 x5 x6 x7 x8 x9) (k0_pay115 x0 x1 x2 x4 x5 x6 x7 x8 x9) (k0_pay116 x0 x1 x2 x4 x5 x6 x7 x8 x9) (k0_pay117 x0 x1 x2 x8 x9) (k0_pay118 x0 x1 x2 x4 x5 x6 x7) (k0_pay119 x0 x1 x2 x4 x5 x6 x7)
def k0_pay125 : FVec F S1024x512 .f32 :=
  constant S1024x512 .f32 0x00000000#32
def k0_pay126 (x14 : Vec F S1x512x512 .f32) : FVec F S512x512 .f32 :=
  k0_pay51 (View.ld x14 r0_4)
def k0_pay127 (x15 : Vec F S1x1x512 .f32) : FVec F S1x512 .f32 :=
  k0_pay52 (View.ld x15 r0_5)
def k0_pay128 (x16 : Vec F S1x512x512 .f32) : FVec F S512x512 .f32 :=
  k0_pay53 (View.ld x16 r0_4)
def k0_pay129 (x17 : Vec F S1x1x512 .f32) : FVec F S1x512 .f32 :=
  k0_pay54 (View.ld x17 r0_5)
def k0_pay130 (x0 : Vec F S2x512x1024 .f32) (x1 : Vec F S1024x512 .f32) (x2 : Vec F S1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x24 : Vec F S1x1x512 .f32) (x25 : Vec F S1x1x512 .f32) : FVec F S1024x512 .f32 :=
  k0_pay58 (k0_pay120 x0 x1 x2 x4 x5 x6 x7 x8 x9 x10 x11) (k0_pay121 x24) (k0_pay122 x25) (k0_pay123 x0 x1 x2 x4 x5 x6 x7 x8 x9 x10 x11) (k0_pay124 x0 x1 x2 x4 x5 x6 x7 x8 x9 x10 x11) (View.ld x12 r0_4) (View.ld x13 r0_5)
def k0_pay131 (x3 : Vec F S2x512x512 .f32) (x14 : Vec F S1x512x512 .f32) (x15 : Vec F S1x1x512 .f32) : FVec F S1024x512 .f32 :=
  k0_pay59 (k0_pay98 x3) (k0_pay126 x14) (k0_pay127 x15) (k0_pay125 (F := F))
def k0_pay132 (x3 : Vec F S2x512x512 .f32) (x16 : Vec F S1x512x512 .f32) (x17 : Vec F S1x1x512 .f32) : FVec F S1024x512 .f32 :=
  k0_pay60 (k0_pay98 x3) (k0_pay128 x16) (k0_pay129 x17)
def k0_pay133 (x0 : Vec F S2x512x1024 .f32) (x1 : Vec F S1024x512 .f32) (x2 : Vec F S1x512 .f32) (x3 : Vec F S2x512x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x512 .f32) (x19 : Vec F S1x1x512 .f32) (x24 : Vec F S1x1x512 .f32) (x25 : Vec F S1x1x512 .f32) (x26 : Vec F S1x1x512 .f32) (x27 : Vec F S1x1x512 .f32) : FVec F S1024x512 .f32 :=
  k0_pay90 (k0_pay50 (k0_pay120 x0 x1 x2 x4 x5 x6 x7 x8 x9 x10 x11) (k0_pay121 x24) (k0_pay122 x25) (k0_pay123 x0 x1 x2 x4 x5 x6 x7 x8 x9 x10 x11) (k0_pay124 x0 x1 x2 x4 x5 x6 x7 x8 x9 x10 x11)) (k0_pay55 (View.ld x18 r0_4)) (k0_pay56 (View.ld x19 r0_5)) (k0_pay75 (k0_pay61 (k0_pay98 x3) (k0_pay126 x14) (k0_pay127 x15) (k0_pay128 x16) (k0_pay129 x17) (k0_pay57 (F := F)) (k0_pay130 x0 x1 x2 x4 x5 x6 x7 x8 x9 x10 x11 x12 x13 x24 x25) (k0_pay125 (F := F))) (k0_pay62 (k0_pay98 x3) (k0_pay126 x14) (k0_pay127 x15) (k0_pay128 x16) (k0_pay129 x17) (k0_pay57 (F := F)) (k0_pay130 x0 x1 x2 x4 x5 x6 x7 x8 x9 x10 x11 x12 x13 x24 x25) (k0_pay125 (F := F))) (k0_pay65 (k0_pay63 (k0_pay98 x3) (k0_pay128 x16) (k0_pay129 x17)) (k0_pay64 (k0_pay98 x3) (k0_pay126 x14) (k0_pay127 x15) (k0_pay57 (F := F)) (k0_pay130 x0 x1 x2 x4 x5 x6 x7 x8 x9 x10 x11 x12 x13 x24 x25) (k0_pay125 (F := F)))) (k0_pay66 (k0_pay57 (F := F)) (k0_pay130 x0 x1 x2 x4 x5 x6 x7 x8 x9 x10 x11 x12 x13 x24 x25) (k0_pay131 x3 x14 x15) (k0_pay132 x3 x16 x17)) (k0_pay70 (k0_pay68 (k0_pay57 (F := F)) (k0_pay130 x0 x1 x2 x4 x5 x6 x7 x8 x9 x10 x11 x12 x13 x24 x25) (k0_pay131 x3 x14 x15)) (k0_pay69 (k0_pay57 (F := F)) (k0_pay130 x0 x1 x2 x4 x5 x6 x7 x8 x9 x10 x11 x12 x13 x24 x25) (k0_pay131 x3 x14 x15) (k0_pay132 x3 x16 x17))) (k0_pay71 (k0_pay57 (F := F)) (k0_pay130 x0 x1 x2 x4 x5 x6 x7 x8 x9 x10 x11 x12 x13 x24 x25) (k0_pay131 x3 x14 x15) (k0_pay132 x3 x16 x17)) (k0_pay72 (k0_pay57 (F := F)) (k0_pay130 x0 x1 x2 x4 x5 x6 x7 x8 x9 x10 x11 x12 x13 x24 x25) (k0_pay131 x3 x14 x15) (k0_pay132 x3 x16 x17)) (k0_pay73 (k0_pay132 x3 x16 x17)) (k0_pay74 (k0_pay57 (F := F)) (k0_pay130 x0 x1 x2 x4 x5 x6 x7 x8 x9 x10 x11 x12 x13 x24 x25) (k0_pay131 x3 x14 x15))) (k0_pay76 (k0_pay57 (F := F)) (k0_pay130 x0 x1 x2 x4 x5 x6 x7 x8 x9 x10 x11 x12 x13 x24 x25) (k0_pay131 x3 x14 x15) (k0_pay132 x3 x16 x17)) (k0_pay77 (k0_pay57 (F := F)) (k0_pay130 x0 x1 x2 x4 x5 x6 x7 x8 x9 x10 x11 x12 x13 x24 x25) (k0_pay131 x3 x14 x15) (k0_pay132 x3 x16 x17)) (k0_pay80 (k0_pay57 (F := F)) (k0_pay132 x3 x16 x17) (k0_pay78 (k0_pay130 x0 x1 x2 x4 x5 x6 x7 x8 x9 x10 x11 x12 x13 x24 x25)) (k0_pay79 (k0_pay131 x3 x14 x15))) (k0_pay81 (k0_pay57 (F := F)) (k0_pay130 x0 x1 x2 x4 x5 x6 x7 x8 x9 x10 x11 x12 x13 x24 x25) (k0_pay131 x3 x14 x15) (k0_pay132 x3 x16 x17)) (k0_pay85 (k0_pay82 (k0_pay132 x3 x16 x17)) (k0_pay83 (k0_pay57 (F := F)) (k0_pay130 x0 x1 x2 x4 x5 x6 x7 x8 x9 x10 x11 x12 x13 x24 x25) (k0_pay131 x3 x14 x15)) (k0_pay84 (k0_pay57 (F := F)) (k0_pay130 x0 x1 x2 x4 x5 x6 x7 x8 x9 x10 x11 x12 x13 x24 x25) (k0_pay131 x3 x14 x15))) (k0_pay86 (k0_pay57 (F := F)) (k0_pay130 x0 x1 x2 x4 x5 x6 x7 x8 x9 x10 x11 x12 x13 x24 x25) (k0_pay131 x3 x14 x15) (k0_pay132 x3 x16 x17)) (k0_pay87 (k0_pay57 (F := F)) (k0_pay130 x0 x1 x2 x4 x5 x6 x7 x8 x9 x10 x11 x12 x13 x24 x25) (k0_pay131 x3 x14 x15) (k0_pay132 x3 x16 x17)) (k0_pay88 (k0_pay132 x3 x16 x17)) (k0_pay89 (k0_pay57 (F := F)) (k0_pay130 x0 x1 x2 x4 x5 x6 x7 x8 x9 x10 x11 x12 x13 x24 x25) (k0_pay131 x3 x14 x15)) (View.ld x26 r0_5) (View.ld x27 r0_5)

/-- Window 30's staging buffer after the body, from the input windows' blocks: its 1 store as pieces, LAST
    FIRST (Lib/Pipeline/FrameBody.lean `View.canon`; the payloads are the skeleton's and the values stated above). -/
def out0_30 (x0 : Vec F S2x512x1024 .f32) (x1 : Vec F S1024x512 .f32) (x2 : Vec F S1x512 .f32) (x3 : Vec F S2x512x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x512 .f32) (x19 : Vec F S1x1x512 .f32) (x20 : Vec F S1x512x2048 .f32) (x21 : Vec F S1x1x2048 .f32) (x22 : Vec F S1x2048x512 .f32) (x23 : Vec F S1x1x512 .f32) (x24 : Vec F S1x1x512 .f32) (x25 : Vec F S1x1x512 .f32) (x26 : Vec F S1x1x512 .f32) (x27 : Vec F S1x1x512 .f32) (x28 : Vec F S1x1x512 .f32) (x29 : Vec F S1x1x512 .f32) : Vec F S2x512x512 .f32 :=
  View.canon [⟨r0_3, k0_pay1 (k0_pay92 (View.ld x28 r0_5)) (k0_pay93 (View.ld x29 r0_5)) (k0_pay95 (k0_pay133 x0 x1 x2 x3 x4 x5 x6 x7 x8 x9 x10 x11 x12 x13 x14 x15 x16 x17 x18 x19 x24 x25 x26 x27) (View.ld x20 r0_6) (View.ld x21 r0_7) (View.ld x22 r0_8) (View.ld x23 r0_5)) (k0_pay96 (k0_pay133 x0 x1 x2 x3 x4 x5 x6 x7 x8 x9 x10 x11 x12 x13 x14 x15 x16 x17 x18 x19 x24 x25 x26 x27) (View.ld x20 r0_6) (View.ld x21 r0_7) (View.ld x22 r0_8) (View.ld x23 r0_5)) (Scalar.ofBits .f32 0x3727C5AC#32)⟩]

/-- Its stores tile the buffer (checked by evaluation), so they cover it. -/
theorem cover0_30 (p0 : Vec F S2x512x512 .f32) (y : S2x512x512.Idx) :
    ∃ pc ∈ ([⟨r0_3, p0⟩] : List (View.Piece (Elt F) S2x512x512 .f32)), y ∈ pc.1.set :=
  View.cover_of_tiled [⟨r0_3, p0⟩] S2x512x512.size (by rfl) y

/-! ## The body's triple -/

set_option maxHeartbeats 43401400 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2x512x512 .f32) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x512x512 .f32) (harg7 : arg7.IsWhole) (arg8 : Memref sig .tc .vmem S1x1x512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x512x512 .f32) (harg11 : arg11.IsWhole) (arg12 : Memref sig .tc .vmem S1x1x512 .f32) (harg12 : arg12.IsWhole) (arg13 : Memref sig .tc .vmem S1x512x512 .f32) (harg13 : arg13.IsWhole) (arg14 : Memref sig .tc .vmem S1x1x512 .f32) (harg14 : arg14.IsWhole) (arg15 : Memref sig .tc .vmem S1x512x512 .f32) (harg15 : arg15.IsWhole) (arg16 : Memref sig .tc .vmem S1x1x512 .f32) (harg16 : arg16.IsWhole) (arg17 : Memref sig .tc .vmem S1x512x512 .f32) (harg17 : arg17.IsWhole) (arg18 : Memref sig .tc .vmem S1x1x512 .f32) (harg18 : arg18.IsWhole) (arg19 : Memref sig .tc .vmem S1x512x512 .f32) (harg19 : arg19.IsWhole) (arg20 : Memref sig .tc .vmem S1x1x512 .f32) (harg20 : arg20.IsWhole) (arg21 : Memref sig .tc .vmem S1x512x2048 .f32) (harg21 : arg21.IsWhole) (arg22 : Memref sig .tc .vmem S1x1x2048 .f32) (harg22 : arg22.IsWhole) (arg23 : Memref sig .tc .vmem S1x2048x512 .f32) (harg23 : arg23.IsWhole) (arg24 : Memref sig .tc .vmem S1x1x512 .f32) (harg24 : arg24.IsWhole) (arg25 : Memref sig .tc .vmem S1x1x512 .f32) (harg25 : arg25.IsWhole) (arg26 : Memref sig .tc .vmem S1x1x512 .f32) (harg26 : arg26.IsWhole) (arg27 : Memref sig .tc .vmem S1x1x512 .f32) (harg27 : arg27.IsWhole) (arg28 : Memref sig .tc .vmem S1x1x512 .f32) (harg28 : arg28.IsWhole) (arg29 : Memref sig .tc .vmem S1x1x512 .f32) (harg29 : arg29.IsWhole) (arg30 : Memref sig .tc .vmem S1x1x512 .f32) (harg30 : arg30.IsWhole) (arg31 : Memref sig .tc .vmem S2x512x512 .f32) (harg31 : arg31.IsWhole)
    (x0 : Vec F S2x512x1024 .f32) (x1 : Vec F S1024x512 .f32) (x2 : Vec F S1x512 .f32) (x3 : Vec F S2x512x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x512 .f32) (x19 : Vec F S1x1x512 .f32) (x20 : Vec F S1x512x2048 .f32) (x21 : Vec F S1x1x2048 .f32) (x22 : Vec F S1x2048x512 .f32) (x23 : Vec F S1x1x512 .f32) (x24 : Vec F S1x1x512 .f32) (x25 : Vec F S1x1x512 .f32) (x26 : Vec F S1x1x512 .f32) (x27 : Vec F S1x1x512 .f32) (x28 : Vec F S1x1x512 .f32) (x29 : Vec F S1x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare (out0_30 x0 x1 x2 x3 x4 x5 x6 x7 x8 x9 x10 x11 x12 x13 x14 x15 x16 x17 x18 x19 x20 x21 x22 x23 x24 x25 x26 x27 x28 x29)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  iexists _; isplitr
  swap; · iexact H30
  ipureintro
  refine (View.read_writes_eq_canon _ _ _ (cover0_30 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => iblk0 V c 24 t
    | ⟨25, _⟩ => iblk0 V c 25 t
    | ⟨26, _⟩ => iblk0 V c 26 t
    | ⟨27, _⟩ => iblk0 V c 27 t
    | ⟨28, _⟩ => iblk0 V c 28 t
    | ⟨29, _⟩ => iblk0 V c 29 t
    | ⟨30, _⟩ => out0_30 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) (iblk0 V c 28 t) (iblk0 V c 29 t)
    | ⟨_ + 31, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = iblk0 V c 24 t := by dsimp only [dat0]
theorem after0_25 (c : Dev nD) (t : Fin cfg0.N) : (dat0 V c).after 25 t = iblk0 V c 25 t := by dsimp only [dat0]
theorem after0_26 (c : Dev nD) (t : Fin cfg0.N) : (dat0 V c).after 26 t = iblk0 V c 26 t := by dsimp only [dat0]
theorem after0_27 (c : Dev nD) (t : Fin cfg0.N) : (dat0 V c).after 27 t = iblk0 V c 27 t := by dsimp only [dat0]
theorem after0_28 (c : Dev nD) (t : Fin cfg0.N) : (dat0 V c).after 28 t = iblk0 V c 28 t := by dsimp only [dat0]
theorem after0_29 (c : Dev nD) (t : Fin cfg0.N) : (dat0 V c).after 29 t = iblk0 V c 29 t := by dsimp only [dat0]
theorem after0_30 (c : Dev nD) (t : Fin cfg0.N) : (dat0 V c).after 30 t = out0_30 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) (iblk0 V c 28 t) (iblk0 V c 29 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d
theorem before0_23 (c : Dev nD) (t : Fin cfg0.N) (d) : (dat0 V c).before 23 t d = iblk0 V c 23 t :=
  before0_23_of V (dat0 V c) (A_eq0 V c 23) (after0_23 V c) t d
theorem before0_24 (c : Dev nD) (t : Fin cfg0.N) (d) : (dat0 V c).before 24 t d = iblk0 V c 24 t :=
  before0_24_of V (dat0 V c) (A_eq0 V c 24) (after0_24 V c) t d
theorem before0_25 (c : Dev nD) (t : Fin cfg0.N) (d) : (dat0 V c).before 25 t d = iblk0 V c 25 t :=
  before0_25_of V (dat0 V c) (A_eq0 V c 25) (after0_25 V c) t d
theorem before0_26 (c : Dev nD) (t : Fin cfg0.N) (d) : (dat0 V c).before 26 t d = iblk0 V c 26 t :=
  before0_26_of V (dat0 V c) (A_eq0 V c 26) (after0_26 V c) t d
theorem before0_27 (c : Dev nD) (t : Fin cfg0.N) (d) : (dat0 V c).before 27 t d = iblk0 V c 27 t :=
  before0_27_of V (dat0 V c) (A_eq0 V c 27) (after0_27 V c) t d
theorem before0_28 (c : Dev nD) (t : Fin cfg0.N) (d) : (dat0 V c).before 28 t d = iblk0 V c 28 t :=
  before0_28_of V (dat0 V c) (A_eq0 V c 28) (after0_28 V c) t d
theorem before0_29 (c : Dev nD) (t : Fin cfg0.N) (d) : (dat0 V c).before 29 t d = iblk0 V c 29 t :=
  before0_29_of V (dat0 V c) (A_eq0 V c 29) (after0_29 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d))
    ∗ (∃ d, owns (c : Thread nD τ) (st0_28 t) fullShare ((dat0 V c).before 28 t d))
    ∗ (∃ d, owns (c : Thread nD τ) (st0_29 t) fullShare ((dat0 V c).before 29 t d))
    ∗ (∃ d, owns (c : Thread nD τ) (st0_30 t) fullShare ((dat0 V c).before 30 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t)
    ∗ owns (c : Thread nD τ) (st0_28 t) fullShare ((dat0 V c).after 28 t)
    ∗ owns (c : Thread nD τ) (st0_29 t) fullShare ((dat0 V c).after 29 t)
    ∗ owns (c : Thread nD τ) (st0_30 t) fullShare ((dat0 V c).after 30 t))

set_option maxHeartbeats 11102800 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) (iblk0 V c 28 t) (iblk0 V c 29 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 11102800 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)
theorem before1_26_of {c : Dev nD} (dat : Dat τ (Elt F) Unit ℕ (UR sig nD τ) ℕ cfg1 c) (hA : dat.A 26 = V c (Pipeline.arrRef spec1 26))
    (hafter : ∀ t, dat.after 26 t = iblk1 V c 26 t) (t : Fin cfg1.N) (d) : dat.before 26 t d = iblk1 V c 26 t :=
  (dat.before_in_eq_fetched 26 rfl (fun _ => rfl) (fun _ _ _ => rfl) (fun t => by rw [hafter]; unfold Dat.blockOf iblk1; rw [hA]; try rfl) t d).trans
    (by unfold Dat.fetched Dat.blockOf iblk1; rw [hA]; try rfl)
theorem before1_27_of {c : Dev nD} (dat : Dat τ (Elt F) Unit ℕ (UR sig nD τ) ℕ cfg1 c) (hA : dat.A 27 = V c (Pipeline.arrRef spec1 27))
    (hafter : ∀ t, dat.after 27 t = iblk1 V c 27 t) (t : Fin cfg1.N) (d) : dat.before 27 t d = iblk1 V c 27 t :=
  (dat.before_in_eq_fetched 27 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2x512x512 := Rect.unit (s := S2x512x512) ![0, 0, 0] S2x512x512.size inb_S2x512x512_S2x512x512_0_0_0
abbrev r1_1 : Rect S1x512x512 := Rect.unit (s := S1x512x512) ![0, 0, 0] S1x512x512.size inb_S1x512x512_S1x512x512_0_0_0
abbrev r1_2 : Rect S1x1x512 := Rect.unit (s := S1x1x512) ![0, 0, 0] S1x1x512.size inb_S1x1x512_S1x1x512_0_0_0
abbrev r1_3 : Rect S1x512x2048 := Rect.unit (s := S1x512x2048) ![0, 0, 0] S1x512x2048.size inb_S1x512x2048_S1x512x2048_0_0_0
abbrev r1_4 : Rect S1x1x2048 := Rect.unit (s := S1x1x2048) ![0, 0, 0] S1x1x2048.size inb_S1x1x2048_S1x1x2048_0_0_0
abbrev r1_5 : Rect S1x2048x512 := Rect.unit (s := S1x2048x512) ![0, 0, 0] S1x2048x512.size inb_S1x2048x512_S1x2048x512_0_0_0

/-! ## What the body leaves in each output window's buffer -/

/-! ### Values that the body binds, over the input windows' blocks -/

def k1_pay90 (x0 : Vec F S2x512x512 .f32) : FVec F S1024x512 .f32 :=
  k1_pay1 (View.ld x0 r1_0)
def k1_pay91 (x1 : Vec F S2x512x512 .f32) : FVec F S1024x512 .f32 :=
  k1_pay2 (View.ld x1 r1_0)
def k1_pay92 (x4 : Vec F S1x512x512 .f32) : FVec F S512x512 .f32 :=
  k1_pay3 (View.ld x4 r1_1)
def k1_pay93 (x5 : Vec F S1x1x512 .f32) : FVec F S1x512 .f32 :=
  k1_pay4 (View.ld x5 r1_2)
def k1_pay94 (x6 : Vec F S1x512x512 .f32) : FVec F S512x512 .f32 :=
  k1_pay5 (View.ld x6 r1_1)
def k1_pay95 (x7 : Vec F S1x1x512 .f32) : FVec F S1x512 .f32 :=
  k1_pay6 (View.ld x7 r1_2)
def k1_pay96 (x0 : Vec F S2x512x512 .f32) (x2 : Vec F S1x512x512 .f32) (x3 : Vec F S1x1x512 .f32) : FVec F S1024x512 .f32 :=
  k1_pay10 (View.ld x0 r1_0) (View.ld x2 r1_1) (View.ld x3 r1_2)
def k1_pay97 (x0 : Vec F S2x512x512 .f32) (x4 : Vec F S1x512x512 .f32) (x5 : Vec F S1x1x512 .f32) : FVec F S1024x512 .f32 :=
  k1_pay11 (k1_pay90 x0) (k1_pay92 x4) (k1_pay93 x5)
def k1_pay98 (x0 : Vec F S2x512x512 .f32) (x6 : Vec F S1x512x512 .f32) (x7 : Vec F S1x1x512 .f32) : FVec F S1024x512 .f32 :=
  k1_pay12 (k1_pay90 x0) (k1_pay94 x6) (k1_pay95 x7)
def k1_pay99 (x0 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x22 : Vec F S1x1x512 .f32) : FVec F S1024x512 .f32 :=
  k1_pay44 (k1_pay90 x0) (k1_pay7 (View.ld x8 r1_1)) (k1_pay8 (View.ld x9 r1_2)) (k1_pay29 (k1_pay13 (k1_pay90 x0) (k1_pay92 x4) (k1_pay93 x5) (k1_pay94 x6) (k1_pay95 x7) (k1_pay9 (F := F)) (k1_pay96 x0 x2 x3)) (k1_pay14 (k1_pay90 x0) (k1_pay92 x4) (k1_pay93 x5) (k1_pay94 x6) (k1_pay95 x7) (k1_pay9 (F := F)) (k1_pay96 x0 x2 x3)) (k1_pay18 (k1_pay15 (k1_pay90 x0) (k1_pay94 x6) (k1_pay95 x7)) (k1_pay16 (k1_pay90 x0) (k1_pay92 x4) (k1_pay93 x5) (k1_pay96 x0 x2 x3)) (k1_pay17 (k1_pay9 (F := F)))) (k1_pay19 (k1_pay9 (F := F)) (k1_pay96 x0 x2 x3) (k1_pay97 x0 x4 x5) (k1_pay98 x0 x6 x7)) (k1_pay23 (k1_pay20 (k1_pay98 x0 x6 x7)) (k1_pay21 (k1_pay9 (F := F)) (k1_pay96 x0 x2 x3) (k1_pay97 x0 x4 x5)) (k1_pay22 (k1_pay9 (F := F)) (k1_pay96 x0 x2 x3) (k1_pay97 x0 x4 x5)) (constant S512x64 .f32 0x00000000#32)) (k1_pay24 (k1_pay9 (F := F)) (k1_pay96 x0 x2 x3) (k1_pay97 x0 x4 x5) (k1_pay98 x0 x6 x7)) (k1_pay25 (k1_pay9 (F := F)) (k1_pay96 x0 x2 x3) (k1_pay97 x0 x4 x5) (k1_pay98 x0 x6 x7)) (k1_pay26 (k1_pay98 x0 x6 x7)) (k1_pay27 (k1_pay9 (F := F)) (k1_pay96 x0 x2 x3) (k1_pay97 x0 x4 x5)) (k1_pay28 (k1_pay9 (F := F)) (k1_pay96 x0 x2 x3) (k1_pay97 x0 x4 x5))) (k1_pay30 (k1_pay9 (F := F)) (k1_pay96 x0 x2 x3) (k1_pay97 x0 x4 x5) (k1_pay98 x0 x6 x7)) (k1_pay31 (k1_pay9 (F := F)) (k1_pay96 x0 x2 x3) (k1_pay97 x0 x4 x5) (k1_pay98 x0 x6 x7)) (k1_pay33 (k1_pay9 (F := F)) (k1_pay97 x0 x4 x5) (k1_pay98 x0 x6 x7) (k1_pay32 (k1_pay96 x0 x2 x3))) (k1_pay34 (k1_pay9 (F := F)) (k1_pay96 x0 x2 x3) (k1_pay97 x0 x4 x5) (k1_pay98 x0 x6 x7)) (k1_pay38 (k1_pay35 (k1_pay98 x0 x6 x7)) (k1_pay36 (k1_pay9 (F := F)) (k1_pay96 x0 x2 x3) (k1_pay97 x0 x4 x5)) (k1_pay37 (k1_pay9 (F := F)) (k1_pay96 x0 x2 x3) (k1_pay97 x0 x4 x5))) (k1_pay39 (k1_pay9 (F := F)) (k1_pay96 x0 x2 x3) (k1_pay97 x0 x4 x5) (k1_pay98 x0 x6 x7)) (k1_pay40 (k1_pay9 (F := F)) (k1_pay96 x0 x2 x3) (k1_pay97 x0 x4 x5) (k1_pay98 x0 x6 x7)) (k1_pay41 (k1_pay98 x0 x6 x7)) (k1_pay42 (k1_pay96 x0 x2 x3) (k1_pay97 x0 x4 x5)) (k1_pay43 (k1_pay9 (F := F))) (View.ld x22 r1_2)
def k1_pay100 (x23 : Vec F S1x1x512 .f32) : FVec F S1024x512 .f32 :=
  k1_pay45 (View.ld x23 r1_2)
def k1_pay101 (x0 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x22 : Vec F S1x1x512 .f32) (x23 : Vec F S1x1x512 .f32) : FVec F S1024x512 .f32 :=
  k1_pay46 (k1_pay99 x0 x2 x3 x4 x5 x6 x7 x8 x9 x22) (k1_pay100 x23)
def k1_pay102 (x16 : Vec F S1x512x512 .f32) : FVec F S512x512 .f32 :=
  k1_pay47 (View.ld x16 r1_1)
def k1_pay103 (x17 : Vec F S1x1x512 .f32) : FVec F S1x512 .f32 :=
  k1_pay48 (View.ld x17 r1_2)
def k1_pay104 (x0 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x22 : Vec F S1x1x512 .f32) (x23 : Vec F S1x1x512 .f32) : FVec F S1024x512 .f32 :=
  k1_pay50 (k1_pay99 x0 x2 x3 x4 x5 x6 x7 x8 x9 x22) (k1_pay100 x23) (View.ld x10 r1_1) (View.ld x11 r1_2)
def k1_pay105 (x1 : Vec F S2x512x512 .f32) (x12 : Vec F S1x512x512 .f32) (x13 : Vec F S1x1x512 .f32) : FVec F S1024x512 .f32 :=
  k1_pay51 (k1_pay91 x1) (View.ld x12 r1_1) (View.ld x13 r1_2)
def k1_pay106 (x1 : Vec F S2x512x512 .f32) (x14 : Vec F S1x512x512 .f32) (x15 : Vec F S1x1x512 .f32) : FVec F S1024x512 .f32 :=
  k1_pay52 (k1_pay91 x1) (View.ld x14 r1_1) (View.ld x15 r1_2)
def k1_pay107 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x512 .f32 :=
  k1_pay71 (k1_pay56 (k1_pay49 (F := F)) (k1_pay53 (k1_pay99 x0 x2 x3 x4 x5 x6 x7 x8 x9 x22) (k1_pay100 x23) (View.ld x10 r1_1) (View.ld x11 r1_2)) (k1_pay54 (k1_pay91 x1) (View.ld x12 r1_1) (View.ld x13 r1_2)) (k1_pay55 (k1_pay91 x1) (View.ld x14 r1_1) (View.ld x15 r1_2))) (k1_pay57 (k1_pay49 (F := F)) (k1_pay104 x0 x2 x3 x4 x5 x6 x7 x8 x9 x10 x11 x22 x23) (k1_pay105 x1 x12 x13) (k1_pay106 x1 x14 x15)) (k1_pay61 (k1_pay58 (k1_pay106 x1 x14 x15)) (k1_pay59 (k1_pay49 (F := F)) (k1_pay104 x0 x2 x3 x4 x5 x6 x7 x8 x9 x10 x11 x22 x23) (k1_pay105 x1 x12 x13)) (k1_pay60 (k1_pay49 (F := F)) (k1_pay104 x0 x2 x3 x4 x5 x6 x7 x8 x9 x10 x11 x22 x23) (k1_pay105 x1 x12 x13)) (Scalar.ofBits .f32 0x3F800000#32)) (k1_pay62 (k1_pay49 (F := F)) (k1_pay104 x0 x2 x3 x4 x5 x6 x7 x8 x9 x10 x11 x22 x23) (k1_pay105 x1 x12 x13) (k1_pay106 x1 x14 x15)) (k1_pay63 (k1_pay49 (F := F)) (k1_pay104 x0 x2 x3 x4 x5 x6 x7 x8 x9 x10 x11 x22 x23) (k1_pay105 x1 x12 x13) (k1_pay106 x1 x14 x15)) (k1_pay66 (k1_pay64 (k1_pay106 x1 x14 x15)) (k1_pay65 (k1_pay49 (F := F)) (k1_pay104 x0 x2 x3 x4 x5 x6 x7 x8 x9 x10 x11 x22 x23) (k1_pay105 x1 x12 x13))) (k1_pay67 (k1_pay49 (F := F)) (k1_pay104 x0 x2 x3 x4 x5 x6 x7 x8 x9 x10 x11 x22 x23) (k1_pay105 x1 x12 x13) (k1_pay106 x1 x14 x15)) (k1_pay69 (k1_pay49 (F := F)) (k1_pay104 x0 x2 x3 x4 x5 x6 x7 x8 x9 x10 x11 x22 x23) (k1_pay105 x1 x12 x13) (k1_pay106 x1 x14 x15)) (k1_pay70 (k1_pay49 (F := F)) (k1_pay104 x0 x2 x3 x4 x5 x6 x7 x8 x9 x10 x11 x22 x23) (k1_pay105 x1 x12 x13))
def k1_pay108 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay72 (k1_pay49 (F := F)) (k1_pay104 x0 x2 x3 x4 x5 x6 x7 x8 x9 x10 x11 x22 x23) (k1_pay105 x1 x12 x13) (k1_pay106 x1 x14 x15)
def k1_pay109 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay73 (k1_pay49 (F := F)) (k1_pay104 x0 x2 x3 x4 x5 x6 x7 x8 x9 x10 x11 x22 x23) (k1_pay105 x1 x12 x13) (k1_pay106 x1 x14 x15)
def k1_pay110 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay76 (k1_pay74 (k1_pay106 x1 x14 x15)) (k1_pay75 (k1_pay49 (F := F)) (k1_pay104 x0 x2 x3 x4 x5 x6 x7 x8 x9 x10 x11 x22 x23) (k1_pay105 x1 x12 x13))
def k1_pay111 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay77 (k1_pay49 (F := F)) (k1_pay104 x0 x2 x3 x4 x5 x6 x7 x8 x9 x10 x11 x22 x23) (k1_pay105 x1 x12 x13) (k1_pay106 x1 x14 x15)
def k1_pay112 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay78 (k1_pay49 (F := F)) (k1_pay104 x0 x2 x3 x4 x5 x6 x7 x8 x9 x10 x11 x22 x23) (k1_pay105 x1 x12 x13) (k1_pay106 x1 x14 x15)
def k1_pay113 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay82 (k1_pay49 (F := F)) (k1_pay79 (k1_pay104 x0 x2 x3 x4 x5 x6 x7 x8 x9 x10 x11 x22 x23)) (k1_pay80 (k1_pay105 x1 x12 x13)) (k1_pay81 (k1_pay106 x1 x14 x15))
def k1_pay114 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x22 : Vec F S1x1x512 .f32) (x23 : Vec F S1x1x512 .f32) : FVec F S512x64 .f32 :=
  k1_pay83 (k1_pay49 (F := F)) (k1_pay104 x0 x2 x3 x4 x5 x6 x7 x8 x9 x10 x11 x22 x23) (k1_pay105 x1 x12 x13) (k1_pay106 x1 x14 x15)
def k1_pay115 (x1 : Vec F S2x512x512 .f32) (x14 : Vec F S1x512x512 .f32) (x15 : Vec F S1x1x512 .f32) : FVec F S512x64 .f32 :=
  k1_pay84 (k1_pay106 x1 x14 x15)
def k1_pay116 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x22 : Vec F S1x1x512 .f32) (x23 : Vec F S1x1x512 .f32) : FVec F S512x512 .f32 :=
  k1_pay85 (k1_pay49 (F := F)) (k1_pay104 x0 x2 x3 x4 x5 x6 x7 x8 x9 x10 x11 x22 x23) (k1_pay105 x1 x12 x13)
def k1_pay117 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x22 : Vec F S1x1x512 .f32) (x23 : Vec F S1x1x512 .f32) : FVec F S512x1 .f32 :=
  k1_pay86 (k1_pay49 (F := F)) (k1_pay104 x0 x2 x3 x4 x5 x6 x7 x8 x9 x10 x11 x22 x23) (k1_pay105 x1 x12 x13)

/-- Window 28's staging buffer after the body, from the input windows' blocks: its 1 store as pieces, LAST
    FIRST (Lib/Pipeline/FrameBody.lean `View.canon`; the payloads are the skeleton's and the values stated above). -/
def out1_28 (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) (x26 : Vec F S1x1x512 .f32) (x27 : Vec F S1x1x512 .f32) : Vec F S2x512x512 .f32 :=
  View.canon [⟨r1_0, k1_pay89 (k1_pay87 (k1_pay101 x0 x2 x3 x4 x5 x6 x7 x8 x9 x22 x23) (k1_pay102 x16) (k1_pay103 x17) (k1_pay107 x0 x1 x2 x3 x4 x5 x6 x7 x8 x9 x10 x11 x12 x13 x14 x15 x22 x23) (k1_pay108 x0 x1 x2 x3 x4 x5 x6 x7 x8 x9 x10 x11 x12 x13 x14 x15 x22 x23) (k1_pay109 x0 x1 x2 x3 x4 x5 x6 x7 x8 x9 x10 x11 x12 x13 x14 x15 x22 x23) (k1_pay110 x0 x1 x2 x3 x4 x5 x6 x7 x8 x9 x10 x11 x12 x13 x14 x15 x22 x23) (k1_pay111 x0 x1 x2 x3 x4 x5 x6 x7 x8 x9 x10 x11 x12 x13 x14 x15 x22 x23) (k1_pay112 x0 x1 x2 x3 x4 x5 x6 x7 x8 x9 x10 x11 x12 x13 x14 x15 x22 x23) (k1_pay113 x0 x1 x2 x3 x4 x5 x6 x7 x8 x9 x10 x11 x12 x13 x14 x15 x22 x23) (k1_pay114 x0 x1 x2 x3 x4 x5 x6 x7 x8 x9 x10 x11 x12 x13 x14 x15 x22 x23) (k1_pay115 x1 x14 x15) (k1_pay116 x0 x1 x2 x3 x4 x5 x6 x7 x8 x9 x10 x11 x12 x13 x22 x23) (k1_pay117 x0 x1 x2 x3 x4 x5 x6 x7 x8 x9 x10 x11 x12 x13 x22 x23) (Scalar.ofBits .f32 0x3F800000#32) (View.ld x24 r1_2) (View.ld x25 r1_2)) (k1_pay88 (k1_pay101 x0 x2 x3 x4 x5 x6 x7 x8 x9 x22 x23) (k1_pay102 x16) (k1_pay103 x17) (k1_pay107 x0 x1 x2 x3 x4 x5 x6 x7 x8 x9 x10 x11 x12 x13 x14 x15 x22 x23) (k1_pay108 x0 x1 x2 x3 x4 x5 x6 x7 x8 x9 x10 x11 x12 x13 x14 x15 x22 x23) (k1_pay109 x0 x1 x2 x3 x4 x5 x6 x7 x8 x9 x10 x11 x12 x13 x14 x15 x22 x23) (k1_pay110 x0 x1 x2 x3 x4 x5 x6 x7 x8 x9 x10 x11 x12 x13 x14 x15 x22 x23) (k1_pay111 x0 x1 x2 x3 x4 x5 x6 x7 x8 x9 x10 x11 x12 x13 x14 x15 x22 x23) (k1_pay112 x0 x1 x2 x3 x4 x5 x6 x7 x8 x9 x10 x11 x12 x13 x14 x15 x22 x23) (k1_pay113 x0 x1 x2 x3 x4 x5 x6 x7 x8 x9 x10 x11 x12 x13 x14 x15 x22 x23) (k1_pay114 x0 x1 x2 x3 x4 x5 x6 x7 x8 x9 x10 x11 x12 x13 x14 x15 x22 x23) (k1_pay115 x1 x14 x15) (k1_pay116 x0 x1 x2 x3 x4 x5 x6 x7 x8 x9 x10 x11 x12 x13 x22 x23) (k1_pay117 x0 x1 x2 x3 x4 x5 x6 x7 x8 x9 x10 x11 x12 x13 x22 x23) (Scalar.ofBits .f32 0x3F800000#32) (View.ld x24 r1_2) (View.ld x25 r1_2) (View.ld x18 r1_3)) (View.ld x19 r1_4) (View.ld x20 r1_5) (View.ld x21 r1_2) (View.ld x26 r1_2) (View.ld x27 r1_2)⟩]

/-- Its stores tile the buffer (checked by evaluation), so they cover it. -/
theorem cover1_28 (p0 : Vec F S2x512x512 .f32) (y : S2x512x512.Idx) :
    ∃ pc ∈ ([⟨r1_0, p0⟩] : List (View.Piece (Elt F) S2x512x512 .f32)), y ∈ pc.1.set :=
  View.cover_of_tiled [⟨r1_0, p0⟩] S2x512x512.size (by rfl) y

/-! ## The body's triple -/

set_option maxHeartbeats 11102800 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S2x512x512 .f32) (harg1 : arg1.IsWhole) (arg2 : Memref sig .tc .vmem S2x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x512x512 .f32) (harg7 : arg7.IsWhole) (arg8 : Memref sig .tc .vmem S1x1x512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x512x512 .f32) (harg11 : arg11.IsWhole) (arg12 : Memref sig .tc .vmem S1x1x512 .f32) (harg12 : arg12.IsWhole) (arg13 : Memref sig .tc .vmem S1x512x512 .f32) (harg13 : arg13.IsWhole) (arg14 : Memref sig .tc .vmem S1x1x512 .f32) (harg14 : arg14.IsWhole) (arg15 : Memref sig .tc .vmem S1x512x512 .f32) (harg15 : arg15.IsWhole) (arg16 : Memref sig .tc .vmem S1x1x512 .f32) (harg16 : arg16.IsWhole) (arg17 : Memref sig .tc .vmem S1x512x512 .f32) (harg17 : arg17.IsWhole) (arg18 : Memref sig .tc .vmem S1x1x512 .f32) (harg18 : arg18.IsWhole) (arg19 : Memref sig .tc .vmem S1x512x2048 .f32) (harg19 : arg19.IsWhole) (arg20 : Memref sig .tc .vmem S1x1x2048 .f32) (harg20 : arg20.IsWhole) (arg21 : Memref sig .tc .vmem S1x2048x512 .f32) (harg21 : arg21.IsWhole) (arg22 : Memref sig .tc .vmem S1x1x512 .f32) (harg22 : arg22.IsWhole) (arg23 : Memref sig .tc .vmem S1x1x512 .f32) (harg23 : arg23.IsWhole) (arg24 : Memref sig .tc .vmem S1x1x512 .f32) (harg24 : arg24.IsWhole) (arg25 : Memref sig .tc .vmem S1x1x512 .f32) (harg25 : arg25.IsWhole) (arg26 : Memref sig .tc .vmem S1x1x512 .f32) (harg26 : arg26.IsWhole) (arg27 : Memref sig .tc .vmem S1x1x512 .f32) (harg27 : arg27.IsWhole) (arg28 : Memref sig .tc .vmem S1x1x512 .f32) (harg28 : arg28.IsWhole) (arg29 : Memref sig .tc .vmem S2x512x512 .f32) (harg29 : arg29.IsWhole)
    (x0 : Vec F S2x512x512 .f32) (x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) (x26 : Vec F S1x1x512 .f32) (x27 : Vec F S1x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare (out1_28 x0 x1 x2 x3 x4 x5 x6 x7 x8 x9 x10 x11 x12 x13 x14 x15 x16 x17 x18 x19 x20 x21 x22 x23 x24 x25 x26 x27)) -∗ K ⟨⟩))
      ⊢ wp frame (wpE (defs₀ (F := F)) Variants.none c none) E (cc1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc1_body_eq_skeleton]; unfold cc1_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  iexists _; isplitr
  swap; · iexact H28
  ipureintro
  refine (View.read_writes_eq_canon _ _ _ (cover1_28 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => out1_28 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t)
    | ⟨_ + 29, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = iblk1 V c 26 t := by dsimp only [dat1]
theorem after1_27 (c : Dev nD) (t : Fin cfg1.N) : (dat1 V c).after 27 t = iblk1 V c 27 t := by dsimp only [dat1]
theorem after1_28 (c : Dev nD) (t : Fin cfg1.N) : (dat1 V c).after 28 t = out1_28 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d
theorem before1_26 (c : Dev nD) (t : Fin cfg1.N) (d) : (dat1 V c).before 26 t d = iblk1 V c 26 t :=
  before1_26_of V (dat1 V c) (A_eq1 V c 26) (after1_26 V c) t d
theorem before1_27 (c : Dev nD) (t : Fin cfg1.N) (d) : (dat1 V c).before 27 t d = iblk1 V c 27 t :=
  before1_27_of V (dat1 V c) (A_eq1 V c 27) (after1_27 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t))

set_option maxHeartbeats 11102800 in
/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 11102800 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
theorem before2_19_of {c : Dev nD} (dat : Dat τ (Elt F) Unit ℕ (UR sig nD τ) ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
theorem before2_20_of {c : Dev nD} (dat : Dat τ (Elt F) Unit ℕ (UR sig nD τ) ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
theorem before2_21_of {c : Dev nD} (dat : Dat τ (Elt F) Unit ℕ (UR sig nD τ) ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)
theorem before2_22_of {c : Dev nD} (dat : Dat τ (Elt F) Unit ℕ (UR sig nD τ) ℕ cfg2 c) (hA : dat.A 22 = V c (Pipeline.arrRef spec2 22))
    (hafter : ∀ t, dat.after 22 t = iblk2 V c 22 t) (t : Fin cfg2.N) (d) : dat.before 22 t d = iblk2 V c 22 t :=
  (dat.before_in_eq_fetched 22 rfl (fun _ => rfl) (fun _ _ _ => rfl) (fun t => by rw [hafter]; unfold Dat.blockOf iblk2; rw [hA]; try rfl) t d).trans
    (by unfold Dat.fetched Dat.blockOf iblk2; rw [hA]; try rfl)
theorem before2_23_of {c : Dev nD} (dat : Dat τ (Elt F) Unit ℕ (UR sig nD τ) ℕ cfg2 c) (hA : dat.A 23 = V c (Pipeline.arrRef spec2 23))
    (hafter : ∀ t, dat.after 23 t = iblk2 V c 23 t) (t : Fin cfg2.N) (d) : dat.before 23 t d = iblk2 V c 23 t :=
  (dat.before_in_eq_fetched 23 rfl (fun _ => rfl) (fun _ _ _ => rfl) (fun t => by rw [hafter]; unfold Dat.blockOf iblk2; rw [hA]; try rfl) t d).trans
    (by unfold Dat.fetched Dat.blockOf iblk2; rw [hA]; try rfl)
theorem before2_24_of {c : Dev nD} (dat : Dat τ (Elt F) Unit ℕ (UR sig nD τ) ℕ cfg2 c) (hA : dat.A 24 = V c (Pipeline.arrRef spec2 24))
    (hafter : ∀ t, dat.after 24 t = iblk2 V c 24 t) (t : Fin cfg2.N) (d) : dat.before 24 t d = iblk2 V c 24 t :=
  (dat.before_in_eq_fetched 24 rfl (fun _ => rfl) (fun _ _ _ => rfl) (fun t => by rw [hafter]; unfold Dat.blockOf iblk2; rw [hA]; try rfl) t d).trans
    (by unfold Dat.fetched Dat.blockOf iblk2; rw [hA]; try rfl)
theorem before2_25_of {c : Dev nD} (dat : Dat τ (Elt F) Unit ℕ (UR sig nD τ) ℕ cfg2 c) (hA : dat.A 25 = V c (Pipeline.arrRef spec2 25))
    (hafter : ∀ t, dat.after 25 t = iblk2 V c 25 t) (t : Fin cfg2.N) (d) : dat.before 25 t d = iblk2 V c 25 t :=
  (dat.before_in_eq_fetched 25 rfl (fun _ => rfl) (fun _ _ _ => rfl) (fun t => by rw [hafter]; unfold Dat.blockOf iblk2; rw [hA]; try rfl) t d).trans
    (by unfold Dat.fetched Dat.blockOf iblk2; rw [hA]; try rfl)
theorem before2_26_of {c : Dev nD} (dat : Dat τ (Elt F) Unit ℕ (UR sig nD τ) ℕ cfg2 c) (hA : dat.A 26 = V c (Pipeline.arrRef spec2 26))
    (hafter : ∀ t, dat.after 26 t = iblk2 V c 26 t) (t : Fin cfg2.N) (d) : dat.before 26 t d = iblk2 V c 26 t :=
  (dat.before_in_eq_fetched 26 rfl (fun _ => rfl) (fun _ _ _ => rfl) (fun t => by rw [hafter]; unfold Dat.blockOf iblk2; rw [hA]; try rfl) t d).trans
    (by unfold Dat.fetched Dat.blockOf iblk2; rw [hA]; try rfl)
theorem before2_27_of {c : Dev nD} (dat : Dat τ (Elt F) Unit ℕ (UR sig nD τ) ℕ cfg2 c) (hA : dat.A 27 = V c (Pipeline.arrRef spec2 27))
    (hafter : ∀ t, dat.after 27 t = iblk2 V c 27 t) (t : Fin cfg2.N) (d) : dat.before 27 t d = iblk2 V c 27 t :=
  (dat.before_in_eq_fetched 27 rfl (fun _ => rfl) (fun _ _ _ => rfl) (fun t => by rw [hafter]; unfold Dat.blockOf iblk2; rw [hA]; try rfl) t d).trans
    (by unfold Dat.fetched Dat.blockOf iblk2; rw [hA]; try rfl)
theorem before2_28_of {c : Dev nD} (dat : Dat τ (Elt F) Unit ℕ (UR sig nD τ) ℕ cfg2 c) (hA : dat.A 28 = V c (Pipeline.arrRef spec2 28))
    (hafter : ∀ t, dat.after 28 t = iblk2 V c 28 t) (t : Fin cfg2.N) (d) : dat.before 28 t d = iblk2 V c 28 t :=
  (dat.before_in_eq_fetched 28 rfl (fun _ => rfl) (fun _ _ _ => rfl) (fun t => by rw [hafter]; unfold Dat.blockOf iblk2; rw [hA]; try rfl) t d).trans
    (by unfold Dat.fetched Dat.blockOf iblk2; rw [hA]; try rfl)
theorem before2_29_of {c : Dev nD} (dat : Dat τ (Elt F) Unit ℕ (UR sig nD τ) ℕ cfg2 c) (hA : dat.A 29 = V c (Pipeline.arrRef spec2 29))
    (hafter : ∀ t, dat.after 29 t = iblk2 V c 29 t) (t : Fin cfg2.N) (d) : dat.before 29 t d = iblk2 V c 29 t :=
  (dat.before_in_eq_fetched 29 rfl (fun _ => rfl) (fun _ _ _ => rfl) (fun t => by rw [hafter]; unfold Dat.blockOf iblk2; rw [hA]; try rfl) t d).trans
    (by unfold Dat.fetched Dat.blockOf iblk2; rw [hA]; try rfl)
theorem before2_30_of {c : Dev nD} (dat : Dat τ (Elt F) Unit ℕ (UR sig nD τ) ℕ cfg2 c) (hA : dat.A 30 = V c (Pipeline.arrRef spec2 30))
    (hafter : ∀ t, dat.after 30 t = iblk2 V c 30 t) (t : Fin cfg2.N) (d) : dat.before 30 t d = iblk2 V c 30 t :=
  (dat.before_in_eq_fetched 30 rfl (fun _ => rfl) (fun _ _ _ => rfl) (fun t => by rw [hafter]; unfold Dat.blockOf iblk2; rw [hA]; try rfl) t d).trans
    (by unfold Dat.fetched Dat.blockOf iblk2; rw [hA]; try rfl)
theorem before2_31_of {c : Dev nD} (dat : Dat τ (Elt F) Unit ℕ (UR sig nD τ) ℕ cfg2 c) (hA : dat.A 31 = V c (Pipeline.arrRef spec2 31))
    (hafter : ∀ t, dat.after 31 t = iblk2 V c 31 t) (t : Fin cfg2.N) (d) : dat.before 31 t d = iblk2 V c 31 t :=
  (dat.before_in_eq_fetched 31 rfl (fun _ => rfl) (fun _ _ _ => rfl) (fun t => by rw [hafter]; unfold Dat.blockOf iblk2; rw [hA]; try rfl) t d).trans
    (by unfold Dat.fetched Dat.blockOf iblk2; rw [hA]; try rfl)
theorem before2_32_of {c : Dev nD} (dat : Dat τ (Elt F) Unit ℕ (UR sig nD τ) ℕ cfg2 c) (hA : dat.A 32 = V c (Pipeline.arrRef spec2 32))
    (hafter : ∀ t, dat.after 32 t = iblk2 V c 32 t) (t : Fin cfg2.N) (d) : dat.before 32 t d = iblk2 V c 32 t :=
  (dat.before_in_eq_fetched 32 rfl (fun _ => rfl) (fun _ _ _ => rfl) (fun t => by rw [hafter]; unfold Dat.blockOf iblk2; rw [hA]; try rfl) t d).trans
    (by unfold Dat.fetched Dat.blockOf iblk2; rw [hA]; try rfl)
theorem before2_33_of {c : Dev nD} (dat : Dat τ (Elt F) Unit ℕ (UR sig nD τ) ℕ cfg2 c) (hA : dat.A 33 = V c (Pipeline.arrRef spec2 33))
    (hafter : ∀ t, dat.after 33 t = iblk2 V c 33 t) (t : Fin cfg2.N) (d) : dat.before 33 t d = iblk2 V c 33 t :=
  (dat.before_in_eq_fetched 33 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x512x512 := Rect.unit (s := S1x512x512) ![0, 0, 0] S1x512x512.size inb_S1x512x512_S1x512x512_0_0_0
abbrev r2_1 : Rect S1x1x512 := Rect.unit (s := S1x1x512) ![0, 0, 0] S1x1x512.size inb_S1x1x512_S1x1x512_0_0_0
abbrev r2_2 : Rect S1x8x512x512 := Rect.unit (s := S1x8x512x512) ![0, 0, 0, 0] S1x1x512x512.size inb_S1x8x512x512_S1x1x512x512_0_0_0_0
abbrev r2_3 : Rect S1x8x512x512 := Rect.unit (s := S1x8x512x512) ![0, 1, 0, 0] S1x1x512x512.size inb_S1x8x512x512_S1x1x512x512_0_1_0_0
abbrev r2_4 : Rect S1x8x512x512 := Rect.unit (s := S1x8x512x512) ![0, 2, 0, 0] S1x1x512x512.size inb_S1x8x512x512_S1x1x512x512_0_2_0_0
abbrev r2_5 : Rect S1x8x512x512 := Rect.unit (s := S1x8x512x512) ![0, 3, 0, 0] S1x1x512x512.size inb_S1x8x512x512_S1x1x512x512_0_3_0_0
abbrev r2_6 : Rect S1x8x512x512 := Rect.unit (s := S1x8x512x512) ![0, 4, 0, 0] S1x1x512x512.size inb_S1x8x512x512_S1x1x512x512_0_4_0_0
abbrev r2_7 : Rect S1x8x512x512 := Rect.unit (s := S1x8x512x512) ![0, 5, 0, 0] S1x1x512x512.size inb_S1x8x512x512_S1x1x512x512_0_5_0_0
abbrev r2_8 : Rect S1x8x512x512 := Rect.unit (s := S1x8x512x512) ![0, 6, 0, 0] S1x1x512x512.size inb_S1x8x512x512_S1x1x512x512_0_6_0_0
abbrev r2_9 : Rect S1x8x512x512 := Rect.unit (s := S1x8x512x512) ![0, 7, 0, 0] S1x1x512x512.size inb_S1x8x512x512_S1x1x512x512_0_7_0_0
abbrev r2_10 : Rect S1x512x2048 := Rect.unit (s := S1x512x2048) ![0, 0, 0] S1x512x2048.size inb_S1x512x2048_S1x512x2048_0_0_0
abbrev r2_11 : Rect S1x1x2048 := Rect.unit (s := S1x1x2048) ![0, 0, 0] S1x1x2048.size inb_S1x1x2048_S1x1x2048_0_0_0
abbrev r2_12 : Rect S1x2048x512 := Rect.unit (s := S1x2048x512) ![0, 0, 0] S1x2048x512.size inb_S1x2048x512_S1x2048x512_0_0_0
abbrev r2_13 : Rect S512x256 := Rect.unit (s := S512x256) ![0, 0] S512x256.size inb_S512x256_S512x256_0_0
abbrev r2_14 : Rect S1x256 := Rect.unit (s := S1x256) ![0, 0] S1x256.size inb_S1x256_S1x256_0_0
abbrev r2_15 : Rect S256x64 := Rect.unit (s := S256x64) ![0, 0] S256x64.size inb_S256x64_S256x64_0_0
abbrev r2_16 : Rect S1x64 := Rect.unit (s := S1x64) ![0, 0] S1x64.size inb_S1x64_S1x64_0_0
abbrev r2_17 : Rect S64x2 := Rect.unit (s := S64x2) ![0, 0] S64x2.size inb_S64x2_S64x2_0_0
abbrev r2_18 : Rect S1x2 := Rect.unit (s := S1x2) ![0, 0] S1x2.size inb_S1x2_S1x2_0_0
abbrev r2_19 : Rect S1x1x2 := Rect.unit (s := S1x1x2) ![0, 0, 0] S1x1x2.size inb_S1x1x2_S1x1x2_0_0_0

/-! ## What the body leaves in each output window's buffer -/

/-! ### Values that the body binds, over the input windows' blocks -/

def k2_pay92 (x0 : Vec F S1x512x512 .f32) : FVec F S512x512 .f32 :=
  k2_pay3 (View.ld x0 r2_0)
def k2_pay93 (x1 : Vec F S1x512x512 .f32) : FVec F S512x512 .f32 :=
  k2_pay4 (View.ld x1 r2_0)
def k2_pay94 (x4 : Vec F S1x512x512 .f32) : FVec F S512x512 .f32 :=
  k2_pay5 (View.ld x4 r2_0)
def k2_pay95 (x5 : Vec F S1x1x512 .f32) : FVec F S1x512 .f32 :=
  k2_pay6 (View.ld x5 r2_1)
def k2_pay96 (x6 : Vec F S1x512x512 .f32) : FVec F S512x512 .f32 :=
  k2_pay7 (View.ld x6 r2_0)
def k2_pay97 (x7 : Vec F S1x1x512 .f32) : FVec F S1x512 .f32 :=
  k2_pay8 (View.ld x7 r2_1)
def k2_pay98 (x0 : Vec F S1x512x512 .f32) (x2 : Vec F S1x512x512 .f32) (x3 : Vec F S1x1x512 .f32) : FVec F S512x512 .f32 :=
  k2_pay12 (View.ld x0 r2_0) (View.ld x2 r2_0) (View.ld x3 r2_1)
def k2_pay99 (x0 : Vec F S1x512x512 .f32) (x4 : Vec F S1x512x512 .f32) (x5 : Vec F S1x1x512 .f32) : FVec F S512x512 .f32 :=
  k2_pay13 (k2_pay92 x0) (k2_pay94 x4) (k2_pay95 x5)
def k2_pay100 (x0 : Vec F S1x512x512 .f32) (x6 : Vec F S1x512x512 .f32) (x7 : Vec F S1x1x512 .f32) : FVec F S512x512 .f32 :=
  k2_pay14 (k2_pay92 x0) (k2_pay96 x6) (k2_pay97 x7)
def k2_pay101 (x0 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x22 : Vec F S1x1x512 .f32) (x23 : Vec F S1x1x512 .f32) : FVec F S512x512 .f32 :=
  k2_pay31 (k2_pay92 x0) (k2_pay9 (View.ld x8 r2_0)) (k2_pay10 (View.ld x9 r2_1)) (k2_pay15 (k2_pay92 x0) (k2_pay94 x4) (k2_pay95 x5) (k2_pay96 x6) (k2_pay97 x7) (k2_pay11 (F := F)) (k2_pay98 x0 x2 x3)) (k2_pay16 (k2_pay92 x0) (k2_pay94 x4) (k2_pay95 x5) (k2_pay96 x6) (k2_pay97 x7) (k2_pay11 (F := F)) (k2_pay98 x0 x2 x3)) (k2_pay20 (k2_pay17 (k2_pay92 x0) (k2_pay96 x6) (k2_pay97 x7)) (k2_pay18 (k2_pay92 x0) (k2_pay94 x4) (k2_pay95 x5) (k2_pay98 x0 x2 x3)) (k2_pay19 (k2_pay11 (F := F)))) (k2_pay21 (k2_pay11 (F := F)) (k2_pay98 x0 x2 x3) (k2_pay99 x0 x4 x5) (k2_pay100 x0 x6 x7)) (k2_pay25 (k2_pay22 (k2_pay100 x0 x6 x7)) (k2_pay23 (k2_pay11 (F := F)) (k2_pay98 x0 x2 x3) (k2_pay99 x0 x4 x5)) (k2_pay24 (k2_pay11 (F := F)) (k2_pay98 x0 x2 x3) (k2_pay99 x0 x4 x5)) (constant S512x64 .f32 0x00000000#32)) (k2_pay26 (k2_pay11 (F := F)) (k2_pay98 x0 x2 x3) (k2_pay99 x0 x4 x5) (k2_pay100 x0 x6 x7)) (k2_pay27 (k2_pay11 (F := F)) (k2_pay98 x0 x2 x3) (k2_pay99 x0 x4 x5) (k2_pay100 x0 x6 x7)) (k2_pay28 (k2_pay100 x0 x6 x7)) (k2_pay29 (k2_pay11 (F := F)) (k2_pay98 x0 x2 x3) (k2_pay99 x0 x4 x5)) (k2_pay30 (k2_pay11 (F := F)) (k2_pay98 x0 x2 x3) (k2_pay99 x0 x4 x5)) (View.ld x22 r2_1) (View.ld x23 r2_1)
def k2_pay102 (x10 : Vec F S1x512x512 .f32) : FVec F S512x512 .f32 :=
  k2_pay32 (View.ld x10 r2_0)
def k2_pay103 (x0 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x22 : Vec F S1x1x512 .f32) (x23 : Vec F S1x1x512 .f32) : FVec F S512x512 .f32 :=
  k2_pay36 (k2_pay101 x0 x2 x3 x4 x5 x6 x7 x8 x9 x22 x23) (k2_pay102 x10) (View.ld x11 r2_1)
def k2_pay104 (x1 : Vec F S1x512x512 .f32) (x12 : Vec F S1x512x512 .f32) (x13 : Vec F S1x1x512 .f32) : FVec F S512x512 .f32 :=
  k2_pay37 (k2_pay93 x1) (View.ld x12 r2_0) (View.ld x13 r2_1)
def k2_pay105 (x1 : Vec F S1x512x512 .f32) (x14 : Vec F S1x512x512 .f32) (x15 : Vec F S1x1x512 .f32) : FVec F S512x512 .f32 :=
  k2_pay38 (k2_pay93 x1) (View.ld x14 r2_0) (View.ld x15 r2_1)
def k2_pay106 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x22 : Vec F S1x1x512 .f32) (x23 : Vec F S1x1x512 .f32) : FVec F S512x512 .f32 :=
  k2_pay40 (k2_pay93 x1) (k2_pay101 x0 x2 x3 x4 x5 x6 x7 x8 x9 x22 x23) (k2_pay102 x10) (View.ld x11 r2_1) (View.ld x12 r2_0) (View.ld x13 r2_1)
def k2_pay107 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x22 : Vec F S1x1x512 .f32) (x23 : Vec F S1x1x512 .f32) : FVec F S512 .f32 :=
  k2_pay41 (k2_pay93 x1) (k2_pay101 x0 x2 x3 x4 x5 x6 x7 x8 x9 x22 x23) (k2_pay102 x10) (View.ld x11 r2_1) (View.ld x12 r2_0) (View.ld x13 r2_1)
def k2_pay108 (x0 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x22 : Vec F S1x1x512 .f32) (x23 : Vec F S1x1x512 .f32) : FVec F S512x64 .f32 :=
  k2_pay50 (k2_pay103 x0 x2 x3 x4 x5 x6 x7 x8 x9 x10 x11 x22 x23)
def k2_pay109 (x1 : Vec F S1x512x512 .f32) (x12 : Vec F S1x512x512 .f32) (x13 : Vec F S1x1x512 .f32) : FVec F S512x64 .f32 :=
  k2_pay51 (k2_pay104 x1 x12 x13)
def k2_pay110 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x22 : Vec F S1x1x512 .f32) (x23 : Vec F S1x1x512 .f32) : FVec F S512x512 .f32 :=
  k2_pay77 (k2_pay35 (F := F)) (k2_pay103 x0 x2 x3 x4 x5 x6 x7 x8 x9 x10 x11 x22 x23) (k2_pay104 x1 x12 x13)
def k2_pay111 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x22 : Vec F S1x1x512 .f32) (x23 : Vec F S1x1x512 .f32) : FVec F S512x1 .f32 :=
  k2_pay78 (k2_pay35 (F := F)) (k2_pay103 x0 x2 x3 x4 x5 x6 x7 x8 x9 x10 x11 x22 x23) (k2_pay104 x1 x12 x13)
def k2_pay112 : FVec F S512x1 .f32 :=
  k2_pay79 (F := F)
def k2_pay113 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x22 : Vec F S1x1x512 .f32) (x23 : Vec F S1x1x512 .f32) (x24 : Vec F S1x1x512 .f32) (x25 : Vec F S1x1x512 .f32) : FVec F S512x512 .f32 :=
  k2_pay82 (k2_pay101 x0 x2 x3 x4 x5 x6 x7 x8 x9 x22 x23) (k2_pay33 (View.ld x16 r2_0)) (k2_pay34 (View.ld x17 r2_1)) (k2_pay45 (k2_pay39 (k2_pay93 x1) (View.ld x14 r2_0) (View.ld x15 r2_1)) (k2_pay106 x0 x1 x2 x3 x4 x5 x6 x7 x8 x9 x10 x11 x12 x13 x22 x23) (k2_pay107 x0 x1 x2 x3 x4 x5 x6 x7 x8 x9 x10 x11 x12 x13 x22 x23)) (k2_pay49 (k2_pay35 (F := F)) (k2_pay103 x0 x2 x3 x4 x5 x6 x7 x8 x9 x10 x11 x22 x23) (k2_pay104 x1 x12 x13) (k2_pay105 x1 x14 x15)) (k2_pay56 (k2_pay35 (F := F)) (k2_pay108 x0 x2 x3 x4 x5 x6 x7 x8 x9 x10 x11 x22 x23) (k2_pay109 x1 x12 x13) (k2_pay52 (k2_pay105 x1 x14 x15))) (k2_pay61 (k2_pay57 (k2_pay105 x1 x14 x15)) (k2_pay58 (k2_pay35 (F := F)) (k2_pay103 x0 x2 x3 x4 x5 x6 x7 x8 x9 x10 x11 x22 x23) (k2_pay104 x1 x12 x13)) (k2_pay59 (k2_pay35 (F := F)) (k2_pay103 x0 x2 x3 x4 x5 x6 x7 x8 x9 x10 x11 x22 x23) (k2_pay104 x1 x12 x13)) (constant S512x64 .f32 0x00000000#32)) (k2_pay65 (k2_pay35 (F := F)) (k2_pay103 x0 x2 x3 x4 x5 x6 x7 x8 x9 x10 x11 x22 x23) (k2_pay104 x1 x12 x13) (k2_pay105 x1 x14 x15)) (k2_pay71 (k2_pay66 (k2_pay105 x1 x14 x15)) (k2_pay67 (k2_pay35 (F := F)) (k2_pay103 x0 x2 x3 x4 x5 x6 x7 x8 x9 x10 x11 x22 x23) (k2_pay104 x1 x12 x13)) (k2_pay68 (k2_pay35 (F := F)) (k2_pay103 x0 x2 x3 x4 x5 x6 x7 x8 x9 x10 x11 x22 x23) (k2_pay104 x1 x12 x13))) (k2_pay75 (k2_pay35 (F := F)) (k2_pay103 x0 x2 x3 x4 x5 x6 x7 x8 x9 x10 x11 x22 x23) (k2_pay104 x1 x12 x13) (k2_pay105 x1 x14 x15)) (k2_pay76 (k2_pay105 x1 x14 x15)) (k2_pay110 x0 x1 x2 x3 x4 x5 x6 x7 x8 x9 x10 x11 x12 x13 x22 x23) (k2_pay111 x0 x1 x2 x3 x4 x5 x6 x7 x8 x9 x10 x11 x12 x13 x22 x23) (k2_pay112 (F := F)) (View.ld x24 r2_1) (View.ld x25 r2_1)
def k2_pay114 (x26 : Vec F S1x1x512 .f32) : FVec F S1x512 .f32 :=
  k2_pay84 (View.ld x26 r2_1)
def k2_pay115 (x27 : Vec F S1x1x512 .f32) : FVec F S1x512 .f32 :=
  k2_pay85 (View.ld x27 r2_1)
def k2_pay116 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) : FVec F S512x512 .f32 :=
  k2_pay87 (k2_pay113 x0 x1 x2 x3 x4 x5 x6 x7 x8 x9 x10 x11 x12 x13 x14 x15 x16 x17 x22 x23 x24 x25) (View.ld x18 r2_10) (View.ld x19 r2_11) (View.ld x20 r2_12) (View.ld x21 r2_1)
def k2_pay117 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) : FVec F S512x1 .f32 :=
  k2_pay88 (k2_pay113 x0 x1 x2 x3 x4 x5 x6 x7 x8 x9 x10 x11 x12 x13 x14 x15 x16 x17 x22 x23 x24 x25) (View.ld x18 r2_10) (View.ld x19 r2_11) (View.ld x20 r2_12) (View.ld x21 r2_1)

/-- Window 34's staging buffer after the body, from the input windows' blocks: its 8 stores as pieces, LAST
    FIRST (Lib/Pipeline/FrameBody.lean `View.canon`; the payloads are the skeleton's and the values stated above). -/
def out2_34 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) (x26 : Vec F S1x1x512 .f32) (x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) : Vec F S1x8x512x512 .f32 :=
  View.canon [⟨r2_9, k2_pay81 (k2_pay110 x0 x1 x2 x3 x4 x5 x6 x7 x8 x9 x10 x11 x12 x13 x22 x23) (k2_pay111 x0 x1 x2 x3 x4 x5 x6 x7 x8 x9 x10 x11 x12 x13 x22 x23) (k2_pay112 (F := F))⟩,
    ⟨r2_8, k2_pay74 (k2_pay35 (F := F)) (k2_pay103 x0 x2 x3 x4 x5 x6 x7 x8 x9 x10 x11 x22 x23) (k2_pay104 x1 x12 x13)⟩,
    ⟨r2_7, k2_pay70 (k2_pay69 (k2_pay35 (F := F)) (k2_pay103 x0 x2 x3 x4 x5 x6 x7 x8 x9 x10 x11 x22 x23) (k2_pay104 x1 x12 x13))⟩,
    ⟨r2_6, k2_pay64 (k2_pay35 (F := F)) (k2_pay103 x0 x2 x3 x4 x5 x6 x7 x8 x9 x10 x11 x22 x23) (k2_pay104 x1 x12 x13)⟩,
    ⟨r2_5, k2_pay60 (k2_pay35 (F := F)) (k2_pay103 x0 x2 x3 x4 x5 x6 x7 x8 x9 x10 x11 x22 x23) (k2_pay104 x1 x12 x13)⟩,
    ⟨r2_4, k2_pay55 (k2_pay35 (F := F)) (k2_pay108 x0 x2 x3 x4 x5 x6 x7 x8 x9 x10 x11 x22 x23) (k2_pay109 x1 x12 x13)⟩,
    ⟨r2_3, k2_pay48 (k2_pay35 (F := F)) (k2_pay103 x0 x2 x3 x4 x5 x6 x7 x8 x9 x10 x11 x22 x23) (k2_pay104 x1 x12 x13)⟩,
    ⟨r2_2, k2_pay44 (k2_pay106 x0 x1 x2 x3 x4 x5 x6 x7 x8 x9 x10 x11 x12 x13 x22 x23) (k2_pay107 x0 x1 x2 x3 x4 x5 x6 x7 x8 x9 x10 x11 x12 x13 x22 x23)⟩]

/-- Its stores tile the buffer (checked by evaluation), so they cover it. -/
theorem cover2_34 (p0 : Vec F S1x1x512x512 .f32) (p1 : Vec F S1x1x512x512 .f32) (p2 : Vec F S1x1x512x512 .f32) (p3 : Vec F S1x1x512x512 .f32) (p4 : Vec F S1x1x512x512 .f32) (p5 : Vec F S1x1x512x512 .f32) (p6 : Vec F S1x1x512x512 .f32) (p7 : Vec F S1x1x512x512 .f32) (y : S1x8x512x512.Idx) :
    ∃ pc ∈ ([⟨r2_9, p0⟩, ⟨r2_8, p1⟩, ⟨r2_7, p2⟩, ⟨r2_6, p3⟩, ⟨r2_5, p4⟩, ⟨r2_4, p5⟩, ⟨r2_3, p6⟩, ⟨r2_2, p7⟩] : List (View.Piece (Elt F) S1x8x512x512 .f32)), y ∈ pc.1.set :=
  View.cover_of_tiled [⟨r2_9, p0⟩, ⟨r2_8, p1⟩, ⟨r2_7, p2⟩, ⟨r2_6, p3⟩, ⟨r2_5, p4⟩, ⟨r2_4, p5⟩, ⟨r2_3, p6⟩, ⟨r2_2, p7⟩] S1x1x512x512.size (by rfl) y

/-- Window 35's staging buffer after the body, from the input windows' blocks: its 1 store as pieces, LAST
    FIRST (Lib/Pipeline/FrameBody.lean `View.canon`; the payloads are the skeleton's and the values stated above). -/
def out2_35 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) (x26 : Vec F S1x1x512 .f32) (x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) : Vec F S1x1x512 .f32 :=
  View.canon [⟨r2_1, k2_pay1 (k2_pay89 (k2_pay114 x26) (k2_pay115 x27) (k2_pay116 x0 x1 x2 x3 x4 x5 x6 x7 x8 x9 x10 x11 x12 x13 x14 x15 x16 x17 x18 x19 x20 x21 x22 x23 x24 x25) (k2_pay117 x0 x1 x2 x3 x4 x5 x6 x7 x8 x9 x10 x11 x12 x13 x14 x15 x16 x17 x18 x19 x20 x21 x22 x23 x24 x25))⟩]

/-- Its stores tile the buffer (checked by evaluation), so they cover it. -/
theorem cover2_35 (p0 : Vec F S1x1x512 .f32) (y : S1x1x512.Idx) :
    ∃ pc ∈ ([⟨r2_1, p0⟩] : List (View.Piece (Elt F) S1x1x512 .f32)), y ∈ pc.1.set :=
  View.cover_of_tiled [⟨r2_1, p0⟩] S1x1x512.size (by rfl) y

/-- Window 36's staging buffer after the body, from the input windows' blocks: its 1 store as pieces, LAST
    FIRST (Lib/Pipeline/FrameBody.lean `View.canon`; the payloads are the skeleton's and the values stated above). -/
def out2_36 (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) (x26 : Vec F S1x1x512 .f32) (x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) : Vec F S1x1x2 .f32 :=
  View.canon [⟨r2_19, k2_pay2 (k2_pay90 (k2_pay114 x26) (k2_pay115 x27) (k2_pay116 x0 x1 x2 x3 x4 x5 x6 x7 x8 x9 x10 x11 x12 x13 x14 x15 x16 x17 x18 x19 x20 x21 x22 x23 x24 x25) (k2_pay117 x0 x1 x2 x3 x4 x5 x6 x7 x8 x9 x10 x11 x12 x13 x14 x15 x16 x17 x18 x19 x20 x21 x22 x23 x24 x25) (View.ld x28 r2_13) (View.ld x29 r2_14) (View.ld x30 r2_15) (View.ld x31 r2_16) (View.ld x32 r2_17)) (k2_pay91 (View.ld x33 r2_18))⟩]

/-- Its stores tile the buffer (checked by evaluation), so they cover it. -/
theorem cover2_36 (p0 : Vec F S1x1x2 .f32) (y : S1x1x2.Idx) :
    ∃ pc ∈ ([⟨r2_19, p0⟩] : List (View.Piece (Elt F) S1x1x2 .f32)), y ∈ pc.1.set :=
  View.cover_of_tiled [⟨r2_19, p0⟩] S1x1x2.size (by rfl) y

/-! ## The body's triple -/

set_option maxHeartbeats 9315100 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x512x512 .f32) (harg7 : arg7.IsWhole) (arg8 : Memref sig .tc .vmem S1x1x512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x512x512 .f32) (harg11 : arg11.IsWhole) (arg12 : Memref sig .tc .vmem S1x1x512 .f32) (harg12 : arg12.IsWhole) (arg13 : Memref sig .tc .vmem S1x512x512 .f32) (harg13 : arg13.IsWhole) (arg14 : Memref sig .tc .vmem S1x1x512 .f32) (harg14 : arg14.IsWhole) (arg15 : Memref sig .tc .vmem S1x512x512 .f32) (harg15 : arg15.IsWhole) (arg16 : Memref sig .tc .vmem S1x1x512 .f32) (harg16 : arg16.IsWhole) (arg17 : Memref sig .tc .vmem S1x512x512 .f32) (harg17 : arg17.IsWhole) (arg18 : Memref sig .tc .vmem S1x1x512 .f32) (harg18 : arg18.IsWhole) (arg19 : Memref sig .tc .vmem S1x512x2048 .f32) (harg19 : arg19.IsWhole) (arg20 : Memref sig .tc .vmem S1x1x2048 .f32) (harg20 : arg20.IsWhole) (arg21 : Memref sig .tc .vmem S1x2048x512 .f32) (harg21 : arg21.IsWhole) (arg22 : Memref sig .tc .vmem S1x1x512 .f32) (harg22 : arg22.IsWhole) (arg23 : Memref sig .tc .vmem S1x1x512 .f32) (harg23 : arg23.IsWhole) (arg24 : Memref sig .tc .vmem S1x1x512 .f32) (harg24 : arg24.IsWhole) (arg25 : Memref sig .tc .vmem S1x1x512 .f32) (harg25 : arg25.IsWhole) (arg26 : Memref sig .tc .vmem S1x1x512 .f32) (harg26 : arg26.IsWhole) (arg27 : Memref sig .tc .vmem S1x1x512 .f32) (harg27 : arg27.IsWhole) (arg28 : Memref sig .tc .vmem S1x1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S256x64 .f32) (harg31 : arg31.IsWhole) (arg32 : Memref sig .tc .vmem S1x64 .f32) (harg32 : arg32.IsWhole) (arg33 : Memref sig .tc .vmem S64x2 .f32) (harg33 : arg33.IsWhole) (arg34 : Memref sig .tc .vmem S1x2 .f32) (harg34 : arg34.IsWhole) (arg35 : Memref sig .tc .vmem S1x8x512x512 .f32) (harg35 : arg35.IsWhole) (arg36 : Memref sig .tc .vmem S1x1x512 .f32) (harg36 : arg36.IsWhole) (arg37 : Memref sig .tc .vmem S1x1x2 .f32) (harg37 : arg37.IsWhole)
    (x0 : Vec F S1x512x512 .f32) (x1 : Vec F S1x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 : Vec F S1x1x512 .f32) (x22 : Vec F S1x1x512 .f32) (x23 : Vec F S1x1x512 .f32) (x24 : Vec F S1x1x512 .f32) (x25 : Vec F S1x1x512 .f32) (x26 : Vec F S1x1x512 .f32) (x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ (∃ d, owns (c : Thread nD τ) arg35 fullShare d) ∗ (∃ d, owns (c : Thread nD τ) arg36 fullShare d) ∗ (∃ d, owns (c : Thread nD τ) arg37 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare (out2_34 x0 x1 x2 x3 x4 x5 x6 x7 x8 x9 x10 x11 x12 x13 x14 x15 x16 x17 x18 x19 x20 x21 x22 x23 x24 x25 x26 x27 x28 x29 x30 x31 x32 x33) ∗ owns (c : Thread nD τ) arg36 fullShare (out2_35 x0 x1 x2 x3 x4 x5 x6 x7 x8 x9 x10 x11 x12 x13 x14 x15 x16 x17 x18 x19 x20 x21 x22 x23 x24 x25 x26 x27 x28 x29 x30 x31 x32 x33) ∗ owns (c : Thread nD τ) arg37 fullShare (out2_36 x0 x1 x2 x3 x4 x5 x6 x7 x8 x9 x10 x11 x12 x13 x14 x15 x16 x17 x18 x19 x20 x21 x22 x23 x24 x25 x26 x27 x28 x29 x30 x31 x32 x33)) -∗ K ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc2_body_eq_skeleton]; unfold cc2_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, ⟨%d36, %f36, -, H36⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists _; isplitr
    swap; · iexact H34
    ipureintro
    refine (View.read_writes_eq_canon _ _ _ (cover2_34 _ _ _ _ _ _ _ _)).trans ?_
    rfl
  isplitl [H35]
  · iexists _; isplitr
    swap; · iexact H35
    ipureintro
    refine (View.read_writes_eq_canon _ _ _ (cover2_35 _)).trans ?_
    rfl
  iexists _; isplitr
  swap; · iexact H36
  ipureintro
  refine (View.read_writes_eq_canon _ _ _ (cover2_36 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => iblk2 V c 23 t
    | ⟨24, _⟩ => iblk2 V c 24 t
    | ⟨25, _⟩ => iblk2 V c 25 t
    | ⟨26, _⟩ => iblk2 V c 26 t
    | ⟨27, _⟩ => iblk2 V c 27 t
    | ⟨28, _⟩ => iblk2 V c 28 t
    | ⟨29, _⟩ => iblk2 V c 29 t
    | ⟨30, _⟩ => iblk2 V c 30 t
    | ⟨31, _⟩ => iblk2 V c 31 t
    | ⟨32, _⟩ => iblk2 V c 32 t
    | ⟨33, _⟩ => iblk2 V c 33 t
    | ⟨34, _⟩ => out2_34 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t)
    | ⟨35, _⟩ => out2_35 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t)
    | ⟨36, _⟩ => out2_36 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t)
    | ⟨_ + 37, h⟩ => absurd h (Nat.not_lt.2 (Nat.le_add_left _ _))
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = iblk2 V c 19 t := by dsimp only [dat2]
theorem after2_20 (c : Dev nD) (t : Fin cfg2.N) : (dat2 V c).after 20 t = iblk2 V c 20 t := by dsimp only [dat2]
theorem after2_21 (c : Dev nD) (t : Fin cfg2.N) : (dat2 V c).after 21 t = iblk2 V c 21 t := by dsimp only [dat2]
theorem after2_22 (c : Dev nD) (t : Fin cfg2.N) : (dat2 V c).after 22 t = iblk2 V c 22 t := by dsimp only [dat2]
theorem after2_23 (c : Dev nD) (t : Fin cfg2.N) : (dat2 V c).after 23 t = iblk2 V c 23 t := by dsimp only [dat2]
theorem after2_24 (c : Dev nD) (t : Fin cfg2.N) : (dat2 V c).after 24 t = iblk2 V c 24 t := by dsimp only [dat2]
theorem after2_25 (c : Dev nD) (t : Fin cfg2.N) : (dat2 V c).after 25 t = iblk2 V c 25 t := by dsimp only [dat2]
theorem after2_26 (c : Dev nD) (t : Fin cfg2.N) : (dat2 V c).after 26 t = iblk2 V c 26 t := by dsimp only [dat2]
theorem after2_27 (c : Dev nD) (t : Fin cfg2.N) : (dat2 V c).after 27 t = iblk2 V c 27 t := by dsimp only [dat2]
theorem after2_28 (c : Dev nD) (t : Fin cfg2.N) : (dat2 V c).after 28 t = iblk2 V c 28 t := by dsimp only [dat2]
theorem after2_29 (c : Dev nD) (t : Fin cfg2.N) : (dat2 V c).after 29 t = iblk2 V c 29 t := by dsimp only [dat2]
theorem after2_30 (c : Dev nD) (t : Fin cfg2.N) : (dat2 V c).after 30 t = iblk2 V c 30 t := by dsimp only [dat2]
theorem after2_31 (c : Dev nD) (t : Fin cfg2.N) : (dat2 V c).after 31 t = iblk2 V c 31 t := by dsimp only [dat2]
theorem after2_32 (c : Dev nD) (t : Fin cfg2.N) : (dat2 V c).after 32 t = iblk2 V c 32 t := by dsimp only [dat2]
theorem after2_33 (c : Dev nD) (t : Fin cfg2.N) : (dat2 V c).after 33 t = iblk2 V c 33 t := by dsimp only [dat2]
theorem after2_34 (c : Dev nD) (t : Fin cfg2.N) : (dat2 V c).after 34 t = out2_34 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t) := by dsimp only [dat2]
theorem after2_35 (c : Dev nD) (t : Fin cfg2.N) : (dat2 V c).after 35 t = out2_35 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t) := by dsimp only [dat2]
theorem after2_36 (c : Dev nD) (t : Fin cfg2.N) : (dat2 V c).after 36 t = out2_36 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d
theorem before2_19 (c : Dev nD) (t : Fin cfg2.N) (d) : (dat2 V c).before 19 t d = iblk2 V c 19 t :=
  before2_19_of V (dat2 V c) (A_eq2 V c 19) (after2_19 V c) t d
theorem before2_20 (c : Dev nD) (t : Fin cfg2.N) (d) : (dat2 V c).before 20 t d = iblk2 V c 20 t :=
  before2_20_of V (dat2 V c) (A_eq2 V c 20) (after2_20 V c) t d
theorem before2_21 (c : Dev nD) (t : Fin cfg2.N) (d) : (dat2 V c).before 21 t d = iblk2 V c 21 t :=
  before2_21_of V (dat2 V c) (A_eq2 V c 21) (after2_21 V c) t d
theorem before2_22 (c : Dev nD) (t : Fin cfg2.N) (d) : (dat2 V c).before 22 t d = iblk2 V c 22 t :=
  before2_22_of V (dat2 V c) (A_eq2 V c 22) (after2_22 V c) t d
theorem before2_23 (c : Dev nD) (t : Fin cfg2.N) (d) : (dat2 V c).before 23 t d = iblk2 V c 23 t :=
  before2_23_of V (dat2 V c) (A_eq2 V c 23) (after2_23 V c) t d
theorem before2_24 (c : Dev nD) (t : Fin cfg2.N) (d) : (dat2 V c).before 24 t d = iblk2 V c 24 t :=
  before2_24_of V (dat2 V c) (A_eq2 V c 24) (after2_24 V c) t d
theorem before2_25 (c : Dev nD) (t : Fin cfg2.N) (d) : (dat2 V c).before 25 t d = iblk2 V c 25 t :=
  before2_25_of V (dat2 V c) (A_eq2 V c 25) (after2_25 V c) t d
theorem before2_26 (c : Dev nD) (t : Fin cfg2.N) (d) : (dat2 V c).before 26 t d = iblk2 V c 26 t :=
  before2_26_of V (dat2 V c) (A_eq2 V c 26) (after2_26 V c) t d
theorem before2_27 (c : Dev nD) (t : Fin cfg2.N) (d) : (dat2 V c).before 27 t d = iblk2 V c 27 t :=
  before2_27_of V (dat2 V c) (A_eq2 V c 27) (after2_27 V c) t d
theorem before2_28 (c : Dev nD) (t : Fin cfg2.N) (d) : (dat2 V c).before 28 t d = iblk2 V c 28 t :=
  before2_28_of V (dat2 V c) (A_eq2 V c 28) (after2_28 V c) t d
theorem before2_29 (c : Dev nD) (t : Fin cfg2.N) (d) : (dat2 V c).before 29 t d = iblk2 V c 29 t :=
  before2_29_of V (dat2 V c) (A_eq2 V c 29) (after2_29 V c) t d
theorem before2_30 (c : Dev nD) (t : Fin cfg2.N) (d) : (dat2 V c).before 30 t d = iblk2 V c 30 t :=
  before2_30_of V (dat2 V c) (A_eq2 V c 30) (after2_30 V c) t d
theorem before2_31 (c : Dev nD) (t : Fin cfg2.N) (d) : (dat2 V c).before 31 t d = iblk2 V c 31 t :=
  before2_31_of V (dat2 V c) (A_eq2 V c 31) (after2_31 V c) t d
theorem before2_32 (c : Dev nD) (t : Fin cfg2.N) (d) : (dat2 V c).before 32 t d = iblk2 V c 32 t :=
  before2_32_of V (dat2 V c) (A_eq2 V c 32) (after2_32 V c) t d
theorem before2_33 (c : Dev nD) (t : Fin cfg2.N) (d) : (dat2 V c).before 33 t d = iblk2 V c 33 t :=
  before2_33_of V (dat2 V c) (A_eq2 V c 33) (after2_33 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d))
    ∗ (∃ d, owns (c : Thread nD τ) (st2_21 t) fullShare ((dat2 V c).before 21 t d))
    ∗ (∃ d, owns (c : Thread nD τ) (st2_22 t) fullShare ((dat2 V c).before 22 t d))
    ∗ (∃ d, owns (c : Thread nD τ) (st2_23 t) fullShare ((dat2 V c).before 23 t d))
    ∗ (∃ d, owns (c : Thread nD τ) (st2_24 t) fullShare ((dat2 V c).before 24 t d))
    ∗ (∃ d, owns (c : Thread nD τ) (st2_25 t) fullShare ((dat2 V c).before 25 t d))
    ∗ (∃ d, owns (c : Thread nD τ) (st2_26 t) fullShare ((dat2 V c).before 26 t d))
    ∗ (∃ d, owns (c : Thread nD τ) (st2_27 t) fullShare ((dat2 V c).before 27 t d))
    ∗ (∃ d, owns (c : Thread nD τ) (st2_28 t) fullShare ((dat2 V c).before 28 t d))
    ∗ (∃ d, owns (c : Thread nD τ) (st2_29 t) fullShare ((dat2 V c).before 29 t d))
    ∗ (∃ d, owns (c : Thread nD τ) (st2_30 t) fullShare ((dat2 V c).before 30 t d))
    ∗ (∃ d, owns (c : Thread nD τ) (st2_31 t) fullShare ((dat2 V c).before 31 t d))
    ∗ (∃ d, owns (c : Thread nD τ) (st2_32 t) fullShare ((dat2 V c).before 32 t d))
    ∗ (∃ d, owns (c : Thread nD τ) (st2_33 t) fullShare ((dat2 V c).before 33 t d))
    ∗ (∃ d, owns (c : Thread nD τ) (st2_34 t) fullShare ((dat2 V c).before 34 t d))
    ∗ (∃ d, owns (c : Thread nD τ) (st2_35 t) fullShare ((dat2 V c).before 35 t d))
    ∗ (∃ d, owns (c : Thread nD τ) (st2_36 t) fullShare ((dat2 V c).before 36 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t)
    ∗ owns (c : Thread nD τ) (st2_21 t) fullShare ((dat2 V c).after 21 t)
    ∗ owns (c : Thread nD τ) (st2_22 t) fullShare ((dat2 V c).after 22 t)
    ∗ owns (c : Thread nD τ) (st2_23 t) fullShare ((dat2 V c).after 23 t)
    ∗ owns (c : Thread nD τ) (st2_24 t) fullShare ((dat2 V c).after 24 t)
    ∗ owns (c : Thread nD τ) (st2_25 t) fullShare ((dat2 V c).after 25 t)
    ∗ owns (c : Thread nD τ) (st2_26 t) fullShare ((dat2 V c).after 26 t)
    ∗ owns (c : Thread nD τ) (st2_27 t) fullShare ((dat2 V c).after 27 t)
    ∗ owns (c : Thread nD τ) (st2_28 t) fullShare ((dat2 V c).after 28 t)
    ∗ owns (c : Thread nD τ) (st2_29 t) fullShare ((dat2 V c).after 29 t)
    ∗ owns (c : Thread nD τ) (st2_30 t) fullShare ((dat2 V c).after 30 t)
    ∗ owns (c : Thread nD τ) (st2_31 t) fullShare ((dat2 V c).after 31 t)
    ∗ owns (c : Thread nD τ) (st2_32 t) fullShare ((dat2 V c).after 32 t)
    ∗ owns (c : Thread nD τ) (st2_33 t) fullShare ((dat2 V c).after 33 t)
    ∗ owns (c : Thread nD τ) (st2_34 t) fullShare ((dat2 V c).after 34 t)
    ∗ owns (c : Thread nD τ) (st2_35 t) fullShare ((dat2 V c).after 35 t)
    ∗ owns (c : Thread nD τ) (st2_36 t) fullShare ((dat2 V c).after 36 t))

set_option maxHeartbeats 11102800 in
/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21, before2_22, before2_23, before2_24, before2_25, before2_26, before2_27, before2_28, before2_29, before2_30, before2_31, before2_32, before2_33]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23, after2_24, after2_25, after2_26, after2_27, after2_28, after2_29, after2_30, after2_31, after2_32, after2_33, after2_34, after2_35, after2_36]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply (sound_kernel2 c Set.univ (grid2.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t) (iblk2 V c 28 t) (iblk2 V c 29 t) (iblk2 V c 30 t) (iblk2 V c 31 t) (iblk2 V c 32 t) (iblk2 V c 33 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

set_option maxHeartbeats 11102800 in
/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Hand

end
-- ==== Proof.Fold0.lean ====
module

public import proofs.«01_k».proof.Proof.Region0
public import proofs.«01_k».proof.Proof.Region1
public import proofs.«01_k».proof.Proof.Region2
public import proofs.«01_k».proof.Proof.Gen.KernelIdeal.Frame.Hosts0

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)
theorem W5_main_arg17 (c : Dev nD) : W5 m ρ c (Proc.devRef .tc main_arg17) = m ((c : Thread nD τ).loc main_arg17) :=
  W5_args m ρ c main_arg17 (by decide)
theorem W5_main_arg18 (c : Dev nD) : W5 m ρ c (Proc.devRef .tc main_arg18) = m ((c : Thread nD τ).loc main_arg18) :=
  W5_args m ρ c main_arg18 (by decide)
theorem W5_main_arg19 (c : Dev nD) : W5 m ρ c (Proc.devRef .tc main_arg19) = m ((c : Thread nD τ).loc main_arg19) :=
  W5_args m ρ c main_arg19 (by decide)
theorem W5_main_arg20 (c : Dev nD) : W5 m ρ c (Proc.devRef .tc main_arg20) = m ((c : Thread nD τ).loc main_arg20) :=
  W5_args m ρ c main_arg20 (by decide)
theorem W5_main_arg21 (c : Dev nD) : W5 m ρ c (Proc.devRef .tc main_arg21) = m ((c : Thread nD τ).loc main_arg21) :=
  W5_args m ρ c main_arg21 (by decide)
theorem W5_main_arg22 (c : Dev nD) : W5 m ρ c (Proc.devRef .tc main_arg22) = m ((c : Thread nD τ).loc main_arg22) :=
  W5_args m ρ c main_arg22 (by decide)
theorem W5_main_arg23 (c : Dev nD) : W5 m ρ c (Proc.devRef .tc main_arg23) = m ((c : Thread nD τ).loc main_arg23) :=
  W5_args m ρ c main_arg23 (by decide)
theorem W5_main_arg24 (c : Dev nD) : W5 m ρ c (Proc.devRef .tc main_arg24) = m ((c : Thread nD τ).loc main_arg24) :=
  W5_args m ρ c main_arg24 (by decide)
theorem W5_main_arg25 (c : Dev nD) : W5 m ρ c (Proc.devRef .tc main_arg25) = m ((c : Thread nD τ).loc main_arg25) :=
  W5_args m ρ c main_arg25 (by decide)
theorem W5_main_arg26 (c : Dev nD) : W5 m ρ c (Proc.devRef .tc main_arg26) = m ((c : Thread nD τ).loc main_arg26) :=
  W5_args m ρ c main_arg26 (by decide)
theorem W5_main_arg27 (c : Dev nD) : W5 m ρ c (Proc.devRef .tc main_arg27) = m ((c : Thread nD τ).loc main_arg27) :=
  W5_args m ρ c main_arg27 (by decide)
theorem W5_main_arg28 (c : Dev nD) : W5 m ρ c (Proc.devRef .tc main_arg28) = m ((c : Thread nD τ).loc main_arg28) :=
  W5_args m ρ c main_arg28 (by decide)
theorem W5_main_arg29 (c : Dev nD) : W5 m ρ c (Proc.devRef .tc main_arg29) = m ((c : Thread nD τ).loc main_arg29) :=
  W5_args m ρ c main_arg29 (by decide)
theorem W5_main_arg30 (c : Dev nD) : W5 m ρ c (Proc.devRef .tc main_arg30) = m ((c : Thread nD τ).loc main_arg30) :=
  W5_args m ρ c main_arg30 (by decide)
theorem W5_main_arg31 (c : Dev nD) : W5 m ρ c (Proc.devRef .tc main_arg31) = m ((c : Thread nD τ).loc main_arg31) :=
  W5_args m ρ c main_arg31 (by decide)
theorem W5_main_arg32 (c : Dev nD) : W5 m ρ c (Proc.devRef .tc main_arg32) = m ((c : Thread nD τ).loc main_arg32) :=
  W5_args m ρ c main_arg32 (by decide)
theorem W5_main_arg33 (c : Dev nD) : W5 m ρ c (Proc.devRef .tc main_arg33) = m ((c : Thread nD τ).loc main_arg33) :=
  W5_args m ρ c main_arg33 (by decide)
theorem W5_main_arg34 (c : Dev nD) : W5 m ρ c (Proc.devRef .tc main_arg34) = m ((c : Thread nD τ).loc main_arg34) :=
  W5_args m ρ c main_arg34 (by decide)
theorem W5_main_arg35 (c : Dev nD) : W5 m ρ c (Proc.devRef .tc main_arg35) = m ((c : Thread nD τ).loc main_arg35) :=
  W5_args m ρ c main_arg35 (by decide)
end Cert.KernelIdeal.Hand

end
-- ==== Proof.State.lean ====
module

public import proofs.«01_k».proof.Proof.Fold0

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Hand

end
-- ==== Proof.Record0.lean ====
module

public import proofs.«01_k».proof.Proof.State

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Record1.lean ====
module

public import proofs.«01_k».proof.Proof.State

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Record2.lean ====
module

public import proofs.«01_k».proof.Proof.State

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Launched.lean ====
module

public import proofs.«01_k».proof.Proof.Record0
public import proofs.«01_k».proof.Proof.Record1
public import proofs.«01_k».proof.Proof.Record2

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main on the TensorCores terminates, nothing faulting, and every final state has each
    of the TensorCores' buffers at what the items of @main leave in it and every semaphore counter of the machine at zero:
    the kit's launch over the segments, the last thread state read against the final state (`pointsTo_read_all`). -/
theorem finals : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- A memory that agrees with the last one has the argument arrays as they were. -/
theorem kept (c : Dev nD) (μ : (ℓ : Loc nD τ sig) → Buf (Elt F) ℓ)
    (h : ∀ b ∈ Pipeline.ucRefs τ sig, μ (((c : Thread nD τ)).1, b) = W5 m ρ c b) :
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12)
      ∧ μ ((c.tc : Thread nD τ).loc main_arg13) = m ((c.tc : Thread nD τ).loc main_arg13)
      ∧ μ ((c.tc : Thread nD τ).loc main_arg14) = m ((c.tc : Thread nD τ).loc main_arg14)
      ∧ μ ((c.tc : Thread nD τ).loc main_arg15) = m ((c.tc : Thread nD τ).loc main_arg15)
      ∧ μ ((c.tc : Thread nD τ).loc main_arg16) = m ((c.tc : Thread nD τ).loc main_arg16)
      ∧ μ ((c.tc : Thread nD τ).loc main_arg17) = m ((c.tc : Thread nD τ).loc main_arg17)
      ∧ μ ((c.tc : Thread nD τ).loc main_arg18) = m ((c.tc : Thread nD τ).loc main_arg18)
      ∧ μ ((c.tc : Thread nD τ).loc main_arg19) = m ((c.tc : Thread nD τ).loc main_arg19)
      ∧ μ ((c.tc : Thread nD τ).loc main_arg20) = m ((c.tc : Thread nD τ).loc main_arg20)
      ∧ μ ((c.tc : Thread nD τ).loc main_arg21) = m ((c.tc : Thread nD τ).loc main_arg21)
      ∧ μ ((c.tc : Thread nD τ).loc main_arg22) = m ((c.tc : Thread nD τ).loc main_arg22)
      ∧ μ ((c.tc : Thread nD τ).loc main_arg23) = m ((c.tc : Thread nD τ).loc main_arg23)
      ∧ μ ((c.tc : Thread nD τ).loc main_arg24) = m ((c.tc : Thread nD τ).loc main_arg24)
      ∧ μ ((c.tc : Thread nD τ).loc main_arg25) = m ((c.tc : Thread nD τ).loc main_arg25)
      ∧ μ ((c.tc : Thread nD τ).loc main_arg26) = m ((c.tc : Thread nD τ).loc main_arg26)
      ∧ μ ((c.tc : Thread nD τ).loc main_arg27) = m ((c.tc : Thread nD τ).loc main_arg27)
      ∧ μ ((c.tc : Thread nD τ).loc main_arg28) = m ((c.tc : Thread nD τ).loc main_arg28)
      ∧ μ ((c.tc : Thread nD τ).loc main_arg29) = m ((c.tc : Thread nD τ).loc main_arg29)
      ∧ μ ((c.tc : Thread nD τ).loc main_arg30) = m ((c.tc : Thread nD τ).loc main_arg30)
      ∧ μ ((c.tc : Thread nD τ).loc main_arg31) = m ((c.tc : Thread nD τ).loc main_arg31)
      ∧ μ ((c.tc : Thread nD τ).loc main_arg32) = m ((c.tc : Thread nD τ).loc main_arg32)
      ∧ μ ((c.tc : Thread nD τ).loc main_arg33) = m ((c.tc : Thread nD τ).loc main_arg33)
      ∧ μ ((c.tc : Thread nD τ).loc main_arg34) = m ((c.tc : Thread nD τ).loc main_arg34)
      ∧ μ ((c.tc : Thread nD τ).loc main_arg35) = m ((c.tc : Thread nD τ).loc main_arg35) :=
  ⟨(h _ (mem_uc main_arg0 (by decide))).trans (W5_main_arg0 m ρ c),
   (h _ (mem_uc main_arg1 (by decide))).trans (W5_main_arg1 m ρ c),
   (h _ (mem_uc main_arg2 (by decide))).trans (W5_main_arg2 m ρ c),
   (h _ (mem_uc main_arg3 (by decide))).trans (W5_main_arg3 m ρ c),
   (h _ (mem_uc main_arg4 (by decide))).trans (W5_main_arg4 m ρ c),
   (h _ (mem_uc main_arg5 (by decide))).trans (W5_main_arg5 m ρ c),
   (h _ (mem_uc main_arg6 (by decide))).trans (W5_main_arg6 m ρ c),
   (h _ (mem_uc main_arg7 (by decide))).trans (W5_main_arg7 m ρ c),
   (h _ (mem_uc main_arg8 (by decide))).trans (W5_main_arg8 m ρ c),
   (h _ (mem_uc main_arg9 (by decide))).trans (W5_main_arg9 m ρ c),
   (h _ (mem_uc main_arg10 (by decide))).trans (W5_main_arg10 m ρ c),
   (h _ (mem_uc main_arg11 (by decide))).trans (W5_main_arg11 m ρ c),
   (h _ (mem_uc main_arg12 (by decide))).trans (W5_main_arg12 m ρ c),
   (h _ (mem_uc main_arg13 (by decide))).trans (W5_main_arg13 m ρ c),
   (h _ (mem_uc main_arg14 (by decide))).trans (W5_main_arg14 m ρ c),
   (h _ (mem_uc main_arg15 (by decide))).trans (W5_main_arg15 m ρ c),
   (h _ (mem_uc main_arg16 (by decide))).trans (W5_main_arg16 m ρ c),
   (h _ (mem_uc main_arg17 (by decide))).trans (W5_main_arg17 m ρ c),
   (h _ (mem_uc main_arg18 (by decide))).trans (W5_main_arg18 m ρ c),
   (h _ (mem_uc main_arg19 (by decide))).trans (W5_main_arg19 m ρ c),
   (h _ (mem_uc main_arg20 (by decide))).trans (W5_main_arg20 m ρ c),
   (h _ (mem_uc main_arg21 (by decide))).trans (W5_main_arg21 m ρ c),
   (h _ (mem_uc main_arg22 (by decide))).trans (W5_main_arg22 m ρ c),
   (h _ (mem_uc main_arg23 (by decide))).trans (W5_main_arg23 m ρ c),
   (h _ (mem_uc main_arg24 (by decide))).trans (W5_main_arg24 m ρ c),
   (h _ (mem_uc main_arg25 (by decide))).trans (W5_main_arg25 m ρ c),
   (h _ (mem_uc main_arg26 (by decide))).trans (W5_main_arg26 m ρ c),
   (h _ (mem_uc main_arg27 (by decide))).trans (W5_main_arg27 m ρ c),
   (h _ (mem_uc main_arg28 (by decide))).trans (W5_main_arg28 m ρ c),
   (h _ (mem_uc main_arg29 (by decide))).trans (W5_main_arg29 m ρ c),
   (h _ (mem_uc main_arg30 (by decide))).trans (W5_main_arg30 m ρ c),
   (h _ (mem_uc main_arg31 (by decide))).trans (W5_main_arg31 m ρ c),
   (h _ (mem_uc main_arg32 (by decide))).trans (W5_main_arg32 m ρ c),
   (h _ (mem_uc main_arg33 (by decide))).trans (W5_main_arg33 m ρ c),
   (h _ (mem_uc main_arg34 (by decide))).trans (W5_main_arg34 m ρ c),
   (h _ (mem_uc main_arg35 (by decide))).trans (W5_main_arg35 m ρ c)⟩

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0) :=
  (θ_run defs _ _).mono (fun r H => ⟨fun c => kept m ρ c r.2.mem (H.1 c), H.2⟩) (finals m ρ)

end Cert.KernelIdeal.Hand

end
-- ==== Proof.SameKernel.lean ====
module

public import proofs.«01_k».proof.Proof.Gen.Kernel
public import proofs.«01_k».proof.Proof.Launched

@[expose] public section

set_option maxRecDepth 16384

noncomputable section

namespace Cert.Kernel.Same

open Idealize.ShloMosaic Idealize.SL.Sem

variable {F : FTy → Type} [FloatOps F]

/-! The kernel and its ideal reading are printed as one program twice: no operation is rewritten between them. So a run of
    the one is a run of the other. -/

set_option maxHeartbeats 2000000 in
/-- Running the kernel's program is running the ideal kernel's. -/
theorem run_eq : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) := by
  sl_kernel_rfl

set_option maxHeartbeats 2000000 in
/-- The kernel runs to its end, leaves its arguments as they were and every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0) := by
  rw [run_eq]; exact Cert.KernelIdeal.Hand.frame m ρ

end Cert.Kernel.Same
-- ==== Proof.Model.lean ====
/-
  The decoder's mathematics over the real numbers: one batch at a time, a matrix being a function of a row
  and a column. Both programs are shown to compute these functions when every argument is finite.
-/
module

public import Idealize.ShloMosaic.PureOps.Ideal
public import Idealize.ShloMosaic.PureOps.Ideal.Laws
public import Idealize.ShloMosaic.Lib.IdealHost

@[expose] public section

noncomputable section

namespace Cert.Model

open Idealize.ShloMosaic
open scoped BigOperators

abbrev Mat (m n : ℕ) : Type := Fin m → Fin n → ℝ

/-- A matrix product with a row of biases added. -/
def lin {m k n : ℕ} (x : Mat m k) (w : Mat k n) (b : Fin n → ℝ) : Mat m n :=
  fun i j => (∑ t, x i t * w t j) + b j

/-- Column `d` of head `h`. -/
def hcol (h : Fin 8) (d : Fin 64) : Fin 512 := ⟨64 * h.val + d.val, by omega⟩

/-- The head a column belongs to. -/
def headOf (c : Fin 512) : Fin 8 := ⟨c.val / 64, by omega⟩

/-- A column's position in its head. -/
def inHead (c : Fin 512) : Fin 64 := ⟨c.val % 64, by omega⟩

theorem hcol_headOf (c : Fin 512) : hcol (headOf c) (inHead c) = c := by
  apply Fin.ext; show 64 * (c.val / 64) + c.val % 64 = c.val; omega

/-- The scaled scores of one head. -/
def score (q k : Mat 512 512) (h : Fin 8) (i j : Fin 512) : ℝ :=
  (∑ d, q i (hcol h d) * k j (hcol h d)) * (1 / 8)

/-- The attention weights of one head. -/
def prob (q k : Mat 512 512) (h : Fin 8) (i j : Fin 512) : ℝ :=
  Real.exp (score q k h i j) / ∑ l, Real.exp (score q k h i l)

/-- The heads' outputs side by side. -/
def mix (q k v : Mat 512 512) : Mat 512 512 :=
  fun i c => ∑ j, prob q k (headOf c) i j * v j c

structure AttW where
  wq : Mat 512 512
  bq : Fin 512 → ℝ
  wk : Mat 512 512
  bk : Fin 512 → ℝ
  wv : Mat 512 512
  bv : Fin 512 → ℝ
  wo : Mat 512 512
  bo : Fin 512 → ℝ

/-- Multi-head attention of the rows `x` to the rows `s`. -/
def mha (A : AttW) (x s : Mat 512 512) : Mat 512 512 :=
  lin (mix (lin x A.wq A.bq) (lin s A.wk A.bk) (lin s A.wv A.bv)) A.wo A.bo

/-- The attention weights of that attention. -/
def weights (A : AttW) (x s : Mat 512 512) (h : Fin 8) : Mat 512 512 :=
  prob (lin x A.wq A.bq) (lin s A.wk A.bk) h

def mean (r : Fin 512 → ℝ) : ℝ := (∑ c, r c) / 512

def var (r : Fin 512 → ℝ) : ℝ := (∑ c, (r c - mean r) * (r c - mean r)) / 512

/-- The number added to the variance: what the programs' literal denotes. -/
def eps : ℝ := (Ideal.ofBits .f32 0x3727C5AC#32).toReal

/-- Layer normalization of each row. -/
def ln {m : ℕ} (x : Mat m 512) (g b : Fin 512 → ℝ) : Mat m 512 :=
  fun i c => (x i c - mean (x i)) * (Real.sqrt (var (x i) + eps))⁻¹ * g c + b c

def add {m n : ℕ} (x y : Mat m n) : Mat m n := fun i j => x i j + y i j

def relu {m n : ℕ} (x : Mat m n) : Mat m n := fun i j => max (x i j) 0

structure LayerW where
  sa : AttW
  ea : AttW
  w1 : Mat 512 2048
  b1 : Fin 2048 → ℝ
  w2 : Mat 2048 512
  b2 : Fin 512 → ℝ
  g1 : Fin 512 → ℝ
  c1 : Fin 512 → ℝ
  g2 : Fin 512 → ℝ
  c2 : Fin 512 → ℝ
  g3 : Fin 512 → ℝ
  c3 : Fin 512 → ℝ

/-- The rows after a layer's self-attention. -/
def half (L : LayerW) (x : Mat 512 512) : Mat 512 512 := ln (add x (mha L.sa x x)) L.g1 L.c1

/-- The rows after the attention to `s` as well. -/
def both (L : LayerW) (x s : Mat 512 512) : Mat 512 512 :=
  ln (add (half L x) (mha L.ea (half L x) s)) L.g2 L.c2

/-- The feed-forward step with its residual and normalization. -/
def feed {m : ℕ} (L : LayerW) (y : Mat m 512) : Mat m 512 :=
  ln (add y (lin (relu (lin y L.w1 L.b1)) L.w2 L.b2)) L.g3 L.c3

/-- A whole layer. -/
def layer (L : LayerW) (x s : Mat 512 512) : Mat 512 512 := feed L (both L x s)

/-- The length of a row. -/
def norm (r : Fin 512 → ℝ) : ℝ := Real.sqrt (∑ c, r c * r c)

/-- The rows' average, each weighted by the exponential of its length. -/
def pool (x : Mat 512 512) (c : Fin 512) : ℝ :=
  ∑ i, (Real.exp (norm (x i)) / ∑ l, Real.exp (norm (x l))) * x i c

structure TailW where
  w1 : Mat 512 256
  b1 : Fin 256 → ℝ
  w2 : Mat 256 64
  b2 : Fin 64 → ℝ
  w3 : Mat 64 2
  b3 : Fin 2 → ℝ

/-- The classifier applied to each row. -/
def tail {m : ℕ} (T : TailW) (x : Mat m 512) : Mat m 2 :=
  lin (relu (lin (relu (lin x T.w1 T.b1)) T.w2 T.b2)) T.w3 T.b3

/-! ## Facts of the real numbers -/

/-- The mean of the squares less the square of the mean is the variance. -/
theorem var_eq (r : Fin 512 → ℝ) : (∑ c, r c * r c) / 512 - mean r * mean r = var r := by
  have h : ∑ c, (r c - mean r) * (r c - mean r) = (∑ c, r c * r c) - 2 * mean r * (∑ c, r c) + 512 * (mean r * mean r) := by
    have e : ∀ c, (r c - mean r) * (r c - mean r) = r c * r c - 2 * mean r * r c + mean r * mean r := fun c => by ring
    simp only [e, Finset.sum_add_distrib, Finset.sum_sub_distrib, ← Finset.mul_sum, Finset.sum_const, Finset.card_univ,
      Fintype.card_fin, nsmul_eq_mul]
    push_cast; ring
  have hm : ∑ c, r c = 512 * mean r := by unfold mean; ring
  unfold var; rw [h, hm]; ring

theorem var_nonneg (r : Fin 512 → ℝ) : 0 ≤ var r :=
  div_nonneg (Finset.sum_nonneg fun _ _ => mul_self_nonneg _) (by norm_num)

/-- A softmax does not change when every score is lowered by the same number. -/
theorem softmax_shift {n : ℕ} (s : Fin n → ℝ) (m : ℝ) (j : Fin n) :
    Real.exp (s j - m) / ∑ l, Real.exp (s l - m) = Real.exp (s j) / ∑ l, Real.exp (s l) := by
  simp only [Real.exp_sub, ← Finset.sum_div]
  rw [div_div_div_cancel_right₀ (Real.exp_ne_zero m)]

theorem sum_exp_pos {n : ℕ} (f : Fin (n + 1) → ℝ) : 0 < ∑ l, Real.exp (f l) :=
  Finset.sum_pos (fun _ _ => Real.exp_pos _) Finset.univ_nonempty

/-! ## Facts of the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The greatest of finitely many reals, and at least one, is a real. -/
theorem fold_max {n : ℕ} (f : Fin (n + 1) → EReal) (g : Fin (n + 1) → ℝ) (h : ∀ i, f i = (g i : EReal)) :
    ∃ m : ℝ, (Finset.univ : Finset (Fin (n + 1))).fold max (⊥ : EReal) f = (m : EReal) := by
  have key : ∀ s : Finset (Fin (n + 1)), s.fold max (⊥ : EReal) f = ⊥ ∧ s = ∅ ∨ ∃ m : ℝ, s.fold max (⊥ : EReal) f = (m : EReal) := by
    intro s
    induction s using Finset.cons_induction with
    | empty => exact .inl ⟨rfl, rfl⟩
    | cons a s ha ih =>
      refine .inr ?_
      rw [Finset.fold_cons, h a]
      rcases ih with ⟨e, _⟩ | ⟨m, e⟩
      · exact ⟨g a, by rw [e]; exact max_bot_right _⟩
      · exact ⟨max (g a) m, by rw [e, coe_max]⟩
  rcases key Finset.univ with ⟨_, e⟩ | e
  · exact absurd e Finset.univ_nonempty.ne_empty
  · exact e

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem sqrt_coe (x : ℝ) (hx : 0 ≤ x) : Ideal.sqrt (x : EReal) = ((Real.sqrt x : ℝ) : EReal) := by
  show (if x < 0 then ⊥ else (Real.sqrt x : EReal)) = _
  rw [if_neg (not_lt.2 hx)]

theorem rsqrt_coe (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 hx.le), if_neg hx.ne']

theorem exp_coe (x : ℝ) : Ideal.exp (x : EReal) = ((Real.exp x : ℝ) : EReal) := rfl

/-! ## The programs' literals -/

theorem lit_neg_inf : Ideal.ofBits .f32 0xFF800000#32 = ⊥ := by
  simp [Ideal.ofBits, Ideal.ieee]

theorem lit_inf : Ideal.ofBits .f32 0x7F800000#32 = ⊤ := by
  simp [Ideal.ofBits, Ideal.ieee]

theorem lit_512 : Ideal.ofBits .f32 0x44000000#32 = ((512 : ℝ) : EReal) := by
  simp [Ideal.ofBits, Ideal.ieee]; rw [← EReal.coe_mul]; norm_num

theorem lit_64 : Ideal.ofBits .f32 0x42800000#32 = ((64 : ℝ) : EReal) := by
  simp [Ideal.ofBits, Ideal.ieee]; rw [← EReal.coe_mul]; norm_num

theorem lit_eps_pos : ∃ e : ℝ, 0 < e ∧ Ideal.ofBits .f32 0x3727C5AC#32 = (e : EReal) := by
  refine ⟨10995116 * 2 ^ (-40 : ℤ), by positivity, ?_⟩
  simp [Ideal.ofBits, Ideal.ieee]

theorem eps_pos : 0 < eps := by
  obtain ⟨e, he, h⟩ := lit_eps_pos
  unfold eps; rw [h]; exact he

theorem lit_eps : Ideal.ofBits .f32 0x3727C5AC#32 = (eps : EReal) := by
  obtain ⟨e, _, h⟩ := lit_eps_pos
  unfold eps; rw [h]; rfl

theorem sqrt_64 : Ideal.sqrt ((64 : ℝ) : EReal) = ((8 : ℝ) : EReal) := by
  rw [sqrt_coe _ (by norm_num), show (64 : ℝ) = 8 * 8 by norm_num, Real.sqrt_mul_self (by norm_num)]

end Cert.Model

end
-- ==== Proof.Ops.lean ====
/-
  The kernel's building blocks as functions of arrays, over any reading of the floats, and what each computes over
  the reals: a product with a row of biases, a head of attention, the heads side by side, a layer normalization, a
  feed-forward step, the pooling and the classifier. `M` is the number of rows: two batches stacked, or one.
-/
module

public import proofs.«01_k».proof.Proof.Model
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.Ops

open Idealize.ShloMosaic Idealize.ShloMosaic.ValueIdx Cert.Model
open scoped BigOperators

abbrev S2 (a b : ℕ) : Shape := ⟨2, ![a, b]⟩
abbrev S1 (a : ℕ) : Shape := ⟨1, ![a]⟩

section Defs

variable {F : FTy → Type} [FloatOps F]

/-- A product with a row of biases. -/
def kLin {M K N : ℕ} (x : FVec F (S2 M K) .f32) (w : FVec F (S2 K N) .f32) (b : FVec F (S2 1 N) .f32)
    (hb : (S2 1 N).Broadcasts (S2 M N)) : FVec F (S2 M N) .f32 :=
  addf (matmul (DotDims.plain M K N) none x w (constant (S2 M N) .f32 0x00000000#32)) (broadcastTo (S2 M N) b hb)

/-- The scale of the scores. -/
def kScale : F .f32 := Scalar.divf (Scalar.ofBits .f32 0x3F800000#32) (Scalar.sqrt (Scalar.ofBits .f32 0x42800000#32))

/-- The rows `o … o + 511` and columns `c … c + 63`. -/
def kCut {M : ℕ} (o c : ℕ) (x : FVec F (S2 M 512) .f32) (hs : (S2 M 512).Slices ![o, c] (S2 512 64)) : FVec F (S2 512 64) .f32 :=
  extractStridedSlice (S2 512 64) ![o, c] x hs

/-- The scaled scores of a head. -/
def kScore (q k : FVec F (S2 512 64) .f32) : FVec F (S2 512 512) .f32 :=
  mulf (matmul (DotDims.transposedRhs 512 64 512) none q k (constant (S2 512 512) .f32 0x00000000#32))
    (broadcast (S2 512 512) kScale)

/-- The exponentials of the scores less their row's greatest. -/
def kExp (s : FVec F (S2 512 512) .f32) (hr : (S2 512 512).Reduces [1] (S1 512)) (hc : (S1 512).ShapeCasts (S2 512 1))
    (hb : (S2 512 1).Broadcasts (S2 512 512)) : FVec F (S2 512 512) .f32 :=
  exp (subf s (broadcastTo (S2 512 512)
    (shapeCast (S2 512 1) (multiReduction .maximumf [1] (S1 512) s 0xFF800000#32 hr (.inl rfl) rfl) hc) hb))

/-- One over each row's sum. -/
def kRecip (e : FVec F (S2 512 512) .f32) (hr : (S2 512 512).Reduces [1] (S1 512)) (hc : (S1 512).ShapeCasts (S2 512 1)) :
    FVec F (S2 512 1) .f32 :=
  divf (broadcast (S2 512 1) (Scalar.ofBits .f32 0x3F800000#32))
    (shapeCast (S2 512 1) (multiReduction .add [1] (S1 512) e 0x00000000#32 hr (.inl rfl) rfl) hc)

/-- The shape relations the blocks use. -/
structure Shapes : Prop where
  red : (S2 512 512).Reduces [1] (S1 512)
  col : (S1 512).ShapeCasts (S2 512 1)
  wide : (S2 512 1).Broadcasts (S2 512 512)
  head : (S2 512 1).Broadcasts (S2 512 64)

/-- The attention weights of a head. -/
def kProb (H : Shapes) (q k : FVec F (S2 512 64) .f32) : FVec F (S2 512 512) .f32 :=
  have e := kExp (kScore q k) H.red H.col H.wide
  mulf e (broadcastTo (S2 512 512) (kRecip e H.red H.col) H.wide)

/-- The output of a head. -/
def kHead (H : Shapes) (q k v : FVec F (S2 512 64) .f32) : FVec F (S2 512 64) .f32 :=
  have e := kExp (kScore q k) H.red H.col H.wide
  mulf (matmul (DotDims.plain 512 512 64) none e v (constant (S2 512 64) .f32 0x00000000#32))
    (broadcastTo (S2 512 64) (kRecip e H.red H.col) H.head)

abbrev cat8 : List Shape := [S2 512 64, S2 512 64, S2 512 64, S2 512 64, S2 512 64, S2 512 64, S2 512 64, S2 512 64]

/-- The eight heads of the rows from `o` on, side by side. -/
def kMix (H : Shapes) {M : ℕ} (o : ℕ) (q k v : FVec F (S2 M 512) .f32)
    (hs : ∀ h : Fin 8, (S2 M 512).Slices ![o, 64 * h.val] (S2 512 64)) (hc : Shape.Concatenates cat8 (S2 512 512) 1) :
    FVec F (S2 512 512) .f32 :=
  concatenate (S2 512 512) 1
    [⟨S2 512 64, kHead H (kCut o 0 q (hs 0)) (kCut o 0 k (hs 0)) (kCut o 0 v (hs 0))⟩,
     ⟨S2 512 64, kHead H (kCut o 64 q (hs 1)) (kCut o 64 k (hs 1)) (kCut o 64 v (hs 1))⟩,
     ⟨S2 512 64, kHead H (kCut o 128 q (hs 2)) (kCut o 128 k (hs 2)) (kCut o 128 v (hs 2))⟩,
     ⟨S2 512 64, kHead H (kCut o 192 q (hs 3)) (kCut o 192 k (hs 3)) (kCut o 192 v (hs 3))⟩,
     ⟨S2 512 64, kHead H (kCut o 256 q (hs 4)) (kCut o 256 k (hs 4)) (kCut o 256 v (hs 4))⟩,
     ⟨S2 512 64, kHead H (kCut o 320 q (hs 5)) (kCut o 320 k (hs 5)) (kCut o 320 v (hs 5))⟩,
     ⟨S2 512 64, kHead H (kCut o 384 q (hs 6)) (kCut o 384 k (hs 6)) (kCut o 384 v (hs 6))⟩,
     ⟨S2 512 64, kHead H (kCut o 448 q (hs 7)) (kCut o 448 k (hs 7)) (kCut o 448 v (hs 7))⟩] hc

/-- The shape relations of `M` rows. -/
structure Rows (M : ℕ) : Prop where
  bias : (S2 1 512).Broadcasts (S2 M 512)
  bias4 : (S2 1 2048).Broadcasts (S2 M 2048)
  red : (S2 M 512).Reduces [1] (S1 M)
  col : (S1 M).ShapeCasts (S2 M 1)
  wide : (S2 M 1).Broadcasts (S2 M 512)

/-- A layer normalization of `M` rows. -/
def kNorm {M : ℕ} (R : Rows M) (x : FVec F (S2 M 512) .f32) (g b : FVec F (S2 1 512) .f32) : FVec F (S2 M 512) .f32 :=
  have m := divf (shapeCast (S2 M 1) (multiReduction .add [1] (S1 M) x 0x00000000#32 R.red (.inl rfl) rfl) R.col)
    (broadcast (S2 M 1) (Scalar.ofBits .f32 0x44000000#32))
  have s := divf (shapeCast (S2 M 1) (multiReduction .add [1] (S1 M) (mulf x x) 0x00000000#32 R.red (.inl rfl) rfl) R.col)
    (broadcast (S2 M 1) (Scalar.ofBits .f32 0x44000000#32))
  have r := rsqrt (addf (subf s (mulf m m)) (broadcast (S2 M 1) (Scalar.ofBits .f32 0x3727C5AC#32)))
  addf (mulf (mulf (subf x (broadcastTo (S2 M 512) m R.wide)) (broadcastTo (S2 M 512) r R.wide))
    (broadcastTo (S2 M 512) g R.bias)) (broadcastTo (S2 M 512) b R.bias)

/-- The part below zero taken away. -/
def kRelu {s : Shape} (x : FVec F s .f32) : FVec F s .f32 :=
  maximumf x (broadcast s (Scalar.ofBits .f32 0x00000000#32))

/-- The feed-forward step with its residual and normalization. -/
def kFeed {M : ℕ} (R : Rows M) (y : FVec F (S2 M 512) .f32) (w1 : FVec F (S2 512 2048) .f32) (b1 : FVec F (S2 1 2048) .f32)
    (w2 : FVec F (S2 2048 512) .f32) (b2 g c : FVec F (S2 1 512) .f32) : FVec F (S2 M 512) .f32 :=
  kNorm R (addf y (kLin (kRelu (kLin y w1 b1 R.bias4)) w2 b2 R.bias)) g c

end Defs

/-! ## Values over the reals -/

/-- A matrix's entries are the reals `x`. -/
def Is2 {a b : ℕ} (X : (S2 a b).Idx → EReal) (x : Mat a b) : Prop := ∀ i j, X (ix2 i j) = (x i j : EReal)

/-- A one-row matrix's entries are the reals `x`. -/
def IsRow {b : ℕ} (X : (S2 1 b).Idx → EReal) (x : Fin b → ℝ) : Prop := ∀ j, X (ix2 0 j) = (x j : EReal)

theorem broadcastTo_col_apply {α : Type} {a b : ℕ} (v : (S2 a 1).Idx → α) (h : (S2 a 1).Broadcasts (S2 a b)) (p : Fin a) (c : Fin b) :
    broadcastTo (S2 a b) v h (ix2 p c) = v (ix2 p (0 : Fin 1)) := by
  unfold broadcastTo
  congr 1
  funext d
  apply Fin.ext
  match d with
  | ⟨0, _⟩ =>
    show (if _ : _ then _ else _ : Fin _).val = p.val
    split
    · rename_i e
      have e' : a = 1 := e
      have := p.isLt
      show 0 = p.val
      omega
    · rfl
  | ⟨1, _⟩ => rfl

theorem lin_is {M K N : ℕ} {X : FVec Ideal (S2 M K) .f32} {W : FVec Ideal (S2 K N) .f32} {B : FVec Ideal (S2 1 N) .f32}
    {x : Mat M K} {w : Mat K N} {b : Fin N → ℝ} (hb : (S2 1 N).Broadcasts (S2 M N)) (hX : Is2 X x) (hW : Is2 W w) (hB : IsRow B b) :
    Is2 (kLin (F := Ideal) X W B hb) (lin x w b) := by
  intro i j
  show FloatOps.matmul (DotDims.plain M K N) none X W (constant (F := Ideal) (S2 M N) .f32 0x00000000#32) (ix2 i j) + broadcastTo (S2 M N) B hb (ix2 i j) = _
  rw [Ideal.matmul_plain_apply, broadcastTo_1b_ab_apply, hB j, constant_apply, Ideal.ofBits_zero_f32, zero_add]
  simp only [hX i, hW _ j, ← EReal.coe_mul, coe_sum, ← EReal.coe_add]
  rfl

theorem scale_val : (kScale : Ideal .f32) = ((1 / 8 : ℝ) : EReal) := by
  show Ideal.div (Ideal.ofBits .f32 0x3F800000#32) (Ideal.sqrt (Ideal.ofBits .f32 0x42800000#32)) = _
  rw [lit_64, sqrt_64, Ideal.ofBits_one_f32, ← EReal.coe_one, div_coe _ _ (by norm_num)]

theorem cut_is {M : ℕ} {X : FVec Ideal (S2 M 512) .f32} {x : Mat M 512} (o c : ℕ) (hs : (S2 M 512).Slices ![o, c] (S2 512 64))
    (hX : Is2 X x) (r : Fin 512 → Fin M) (hr : ∀ i, (r i).val = o + i.val) (l : Fin 64 → Fin 512) (hl : ∀ d, (l d).val = c + d.val) :
    Is2 (kCut (F := Ideal) o c X hs) (fun i d => x (r i) (l d)) := by
  intro i d
  rw [← hX]
  exact extractStridedSlice_apply _ _ _ _ _ (fun ax => by
    match ax with
    | ⟨0, _⟩ => exact hr i
    | ⟨1, _⟩ => exact hl d)

theorem score_is {Q K : FVec Ideal (S2 512 64) .f32} {q k : Mat 512 64} (hQ : Is2 Q q) (hK : Is2 K k) :
    Is2 (kScore (F := Ideal) Q K) (fun i j => (∑ d, q i d * k j d) * (1 / 8)) := by
  intro i j
  show FloatOps.matmul (DotDims.transposedRhs 512 64 512) none Q K (constant (F := Ideal) (S2 512 512) .f32 0x00000000#32) (ix2 i j) * kScale = _
  rw [Ideal.matmul_transposedRhs_apply, constant_apply, Ideal.ofBits_zero_f32, zero_add, scale_val]
  simp only [hQ i, hK j, ← EReal.coe_mul, coe_sum]

/-- A sum along the rows. -/
theorem rowsum_apply {M N : ℕ} (X : FVec Ideal (S2 M N) .f32) (hr : (S2 M N).Reduces [1] (S1 M)) (i : Fin M) :
    multiReduction (F := Ideal) .add [1] (S1 M) X 0x00000000#32 hr (.inl rfl) rfl (ix1 i) = ∑ j : Fin N, X (ix2 i j) := by
  refine (Ideal.multiReduction_add_single X _ hr (.inl rfl) rfl (ix1 i)).trans ?_
  refine Finset.sum_congr rfl fun k _ => congrArg X ?_
  funext d; apply Fin.ext
  match d with
  | ⟨0, _⟩ => rfl
  | ⟨1, _⟩ => rfl

theorem rowsum_is {M N : ℕ} {X : FVec Ideal (S2 M N) .f32} {x : Mat M N} (hr : (S2 M N).Reduces [1] (S1 M))
    (hc : (S1 M).ShapeCasts (S2 M 1)) (hX : Is2 X x) (i : Fin M) :
    shapeCast (S2 M 1) (multiReduction (F := Ideal) .add [1] (S1 M) X 0x00000000#32 hr (.inl rfl) rfl) hc (ix2 i 0) = ((∑ j, x i j : ℝ) : EReal) := by
  rw [shapeCast_a_a1_apply, rowsum_apply]
  simp only [hX i, coe_sum]

theorem exp_is {X : FVec Ideal (S2 512 512) .f32} {x : Mat 512 512} (H : Shapes) (hX : Is2 X x) :
    ∃ m : Fin 512 → ℝ, Is2 (kExp (F := Ideal) X H.red H.col H.wide) (fun i j => Real.exp (x i j - m i)) := by
  have hm : ∀ i : Fin 512, ∃ m : ℝ, multiReduction (F := Ideal) .maximumf [1] (S1 512) X 0xFF800000#32 H.red (.inl rfl) rfl (ix1 i) = (m : EReal) := by
    intro i
    obtain ⟨m, e⟩ := fold_max (n := 511) (fun j => X (ix2 i j)) (x i) (hX i)
    refine ⟨m, ((Ideal.multiReduction_maximumf_single X _ H.red (.inl rfl) rfl (ix1 i)).trans ?_).trans e⟩
    show Finset.fold max (Ideal.ofBits .f32 0xFF800000#32) _ _ = _
    rw [lit_neg_inf]
    refine Finset.fold_congr fun k _ => congrArg X ?_
    funext d; apply Fin.ext
    match d with
    | ⟨0, _⟩ => rfl
    | ⟨1, _⟩ => rfl
  choose m hm using hm
  refine ⟨m, fun i j => ?_⟩
  show Ideal.exp (X (ix2 i j) - broadcastTo (S2 512 512) _ H.wide (ix2 i j)) = _
  rw [broadcastTo_col_apply, shapeCast_a_a1_apply, hm, hX, ← EReal.coe_sub, exp_coe]

theorem recip_is {E : FVec Ideal (S2 512 512) .f32} {e : Mat 512 512} (H : Shapes) (hE : Is2 E e) (hp : ∀ i, ∑ j, e i j ≠ 0) (i : Fin 512) :
    kRecip (F := Ideal) E H.red H.col (ix2 i 0) = ((1 / ∑ j, e i j : ℝ) : EReal) := by
  show Ideal.div (Ideal.ofBits .f32 0x3F800000#32) (shapeCast (S2 512 1) _ H.col (ix2 i 0)) = _
  rw [rowsum_is H.red H.col hE, Ideal.ofBits_one_f32, ← EReal.coe_one, div_coe _ _ (hp i)]

/-- The weights of a head, from its columns of queries and keys. -/
def prob1 (q k : Mat 512 64) : Mat 512 512 := fun i j =>
  Real.exp ((∑ d, q i d * k j d) * (1 / 8)) / ∑ l, Real.exp ((∑ d, q i d * k l d) * (1 / 8))

theorem prob_is {Q K : FVec Ideal (S2 512 64) .f32} {q k : Mat 512 64} (H : Shapes) (hQ : Is2 Q q) (hK : Is2 K k) :
    Is2 (kProb (F := Ideal) H Q K) (prob1 q k) := by
  obtain ⟨m, hm⟩ := exp_is H (score_is hQ hK)
  intro i j
  show kExp (F := Ideal) _ H.red H.col H.wide (ix2 i j) * broadcastTo (S2 512 512) _ H.wide (ix2 i j) = _
  rw [broadcastTo_col_apply, recip_is H hm (fun i => (sum_exp_pos _).ne'), hm i j, ← EReal.coe_mul, mul_one_div,
    softmax_shift (fun j => (∑ d, q i d * k j d) * (1 / 8)) (m i) j]
  rfl

theorem head_is {Q K V : FVec Ideal (S2 512 64) .f32} {q k v : Mat 512 64} (H : Shapes) (hQ : Is2 Q q) (hK : Is2 K k) (hV : Is2 V v) :
    Is2 (kHead (F := Ideal) H Q K V) (fun i d => ∑ j, prob1 q k i j * v j d) := by
  obtain ⟨m, hm⟩ := exp_is H (score_is hQ hK)
  intro i d
  show FloatOps.matmul (DotDims.plain 512 512 64) none (kExp (F := Ideal) _ H.red H.col H.wide) V (constant (F := Ideal) (S2 512 64) .f32 0x00000000#32) (ix2 i d)
    * broadcastTo (S2 512 64) _ H.head (ix2 i d) = _
  rw [broadcastTo_col_apply, recip_is H hm (fun i => (sum_exp_pos _).ne'), Ideal.matmul_plain_apply, constant_apply, Ideal.ofBits_zero_f32, zero_add]
  simp only [hm i, hV _ d, ← EReal.coe_mul, coe_sum, EReal.coe_eq_coe_iff]
  rw [Finset.sum_mul]
  refine Finset.sum_congr rfl fun j _ => ?_
  show _ = Real.exp _ / _ * _
  rw [← softmax_shift (fun j => (∑ d, q i d * k j d) * (1 / 8)) (m i) j]
  ring

end Cert.Ops

end
-- ==== Proof.Blocks.lean ====
/-
  What each launch leaves in its output blocks, as the building blocks of `Ops` applied to the launch's input
  blocks: the decoder layer on two stacked batches, the layer on one batch, the pooling and the classifier.
-/
module

public import proofs.«01_k».proof.Proof.Ops
public import proofs.«01_k».proof.Proof.Region0
public import proofs.«01_k».proof.Proof.Region1
public import proofs.«01_k».proof.Proof.Region2

@[expose] public section

set_option maxRecDepth 16384

noncomputable section

namespace Cert.Blocks

open Idealize.ShloMosaic Idealize.ShloMosaic.Tactic Cert.Ops
open Cert.KernelIdeal Cert.KernelIdeal.Gen Cert.KernelIdeal.Hand

/-! ## Shape relations -/

theorem shapes : Shapes := ⟨by decide, by decide, by decide, by decide⟩
theorem rows1 : Rows 512 := ⟨by decide, by decide, by decide, by decide, by decide⟩
theorem rows2 : Rows 1024 := ⟨by decide, by decide, by decide, by decide, by decide⟩
theorem cuts1 : ∀ h : Fin 8, (S2 512 512).Slices ![0, 64 * h.val] (S2 512 64) := by decide
theorem cuts2 : ∀ h : Fin 8, (S2 1024 512).Slices ![0, 64 * h.val] (S2 512 64) := by decide
theorem cuts2' : ∀ h : Fin 8, (S2 1024 512).Slices ![512, 64 * h.val] (S2 512 64) := by decide
theorem cats : Shape.Concatenates cat8 (S2 512 512) 1 := by decide
theorem piled : Shape.Concatenates [S2 512 512, S2 512 512] (S2 1024 512) 0 := by decide

variable {F : FTy → Type} [FloatOps F]

/-! ## A layer -/

/-- The arrays of an attention. -/
structure KAtt (F : FTy → Type) where
  wq : FVec F (S2 512 512) .f32
  bq : FVec F (S2 1 512) .f32
  wk : FVec F (S2 512 512) .f32
  bk : FVec F (S2 1 512) .f32
  wv : FVec F (S2 512 512) .f32
  bv : FVec F (S2 1 512) .f32
  wo : FVec F (S2 512 512) .f32
  bo : FVec F (S2 1 512) .f32

/-- The arrays of a layer. -/
structure KLayer (F : FTy → Type) where
  sa : KAtt F
  ea : KAtt F
  w1 : FVec F (S2 512 2048) .f32
  b1 : FVec F (S2 1 2048) .f32
  w2 : FVec F (S2 2048 512) .f32
  b2 : FVec F (S2 1 512) .f32
  g1 : FVec F (S2 1 512) .f32
  c1 : FVec F (S2 1 512) .f32
  g2 : FVec F (S2 1 512) .f32
  c2 : FVec F (S2 1 512) .f32
  g3 : FVec F (S2 1 512) .f32
  c3 : FVec F (S2 1 512) .f32

/-- Attention of two stacked batches. -/
def kMha2 (A : KAtt F) (x s : FVec F (S2 1024 512) .f32) : FVec F (S2 1024 512) .f32 :=
  have q := kLin x A.wq A.bq rows2.bias
  have k := kLin s A.wk A.bk rows2.bias
  have v := kLin s A.wv A.bv rows2.bias
  kLin (concatenate (S2 1024 512) 0 [⟨S2 512 512, kMix shapes 0 q k v cuts2 cats⟩, ⟨S2 512 512, kMix shapes 512 q k v cuts2' cats⟩] piled)
    A.wo A.bo rows2.bias

/-- Attention of one batch. -/
def kMha1 (A : KAtt F) (x s : FVec F (S2 512 512) .f32) : FVec F (S2 512 512) .f32 :=
  kLin (kMix shapes 0 (kLin x A.wq A.bq rows1.bias) (kLin s A.wk A.bk rows1.bias) (kLin s A.wv A.bv rows1.bias) cuts1 cats)
    A.wo A.bo rows1.bias

def kHalf2 (L : KLayer F) (x : FVec F (S2 1024 512) .f32) : FVec F (S2 1024 512) .f32 :=
  kNorm rows2 (addf x (kMha2 L.sa x x)) L.g1 L.c1

def kBoth2 (L : KLayer F) (x s : FVec F (S2 1024 512) .f32) : FVec F (S2 1024 512) .f32 :=
  have y := kHalf2 L x
  kNorm rows2 (addf y (kMha2 L.ea y s)) L.g2 L.c2

def kLayer2 (L : KLayer F) (x s : FVec F (S2 1024 512) .f32) : FVec F (S2 1024 512) .f32 :=
  kFeed rows2 (kBoth2 L x s) L.w1 L.b1 L.w2 L.b2 L.g3 L.c3

def kHalf1 (L : KLayer F) (x : FVec F (S2 512 512) .f32) : FVec F (S2 512 512) .f32 :=
  kNorm rows1 (addf x (kMha1 L.sa x x)) L.g1 L.c1

def kBoth1 (L : KLayer F) (x s : FVec F (S2 512 512) .f32) : FVec F (S2 512 512) .f32 :=
  have y := kHalf1 L x
  kNorm rows1 (addf y (kMha1 L.ea y s)) L.g2 L.c2

def kLayer1 (L : KLayer F) (x s : FVec F (S2 512 512) .f32) : FVec F (S2 512 512) .f32 :=
  kFeed rows1 (kBoth1 L x s) L.w1 L.b1 L.w2 L.b2 L.g3 L.c3

/-- A head's attention weights of the attention to the source, on one batch. -/
def kWeights1 (L : KLayer F) (x s : FVec F (S2 512 512) .f32) (h : Fin 8) : FVec F (S2 512 512) .f32 :=
  kProb shapes (kCut 0 (64 * h.val) (kLin (kHalf1 L x) L.ea.wq L.ea.bq rows1.bias) (cuts1 h))
    (kCut 0 (64 * h.val) (kLin s L.ea.wk L.ea.bk rows1.bias) (cuts1 h))

/-- The exponentials of the rows' lengths less the greatest, and their share of the sum. -/
def kShare (x : FVec F (S2 512 512) .f32) : FVec F (S2 512 1) .f32 :=
  have n := sqrt (shapeCast (S2 512 1) (multiReduction .add [1] (S1 512) (mulf x x) 0x00000000#32 shapes.red (.inl rfl) rfl) shapes.col)
  have e := exp (subf n (broadcastTo (S2 512 1) (shapeCast (S2 1 1) (multiReduction .maximumf [0] (S1 1) n 0xFF800000#32 reduces_S512x1_S1 (.inl rfl) rfl)
    shapeCasts_S1_S1x1) broadcasts_S1x1_S512x1))
  divf e (broadcastTo (S2 512 1) (shapeCast (S2 1 1) (multiReduction .add [0] (S1 1) e 0x00000000#32 reduces_S512x1_S1 (.inl rfl) rfl)
    shapeCasts_S1_S1x1) broadcasts_S1x1_S512x1)

/-- The pooled row. -/
def kPool (x : FVec F (S2 512 512) .f32) : FVec F (S2 1 512) .f32 :=
  matmul dot_S512x1_S512x512_S1x512_0_0_1_1_n_n none (kShare x) x (constant (S2 1 512) .f32 0x00000000#32)

/-- The arrays of the classifier. -/
structure KTail (F : FTy → Type) where
  w1 : FVec F (S2 512 256) .f32
  b1 : FVec F (S2 1 256) .f32
  w2 : FVec F (S2 256 64) .f32
  b2 : FVec F (S2 1 64) .f32
  w3 : FVec F (S2 64 2) .f32
  b3 : FVec F (S2 1 2) .f32

/-- A product of one row with its biases. -/
def kRow {K N : ℕ} (x : FVec F (S2 1 K) .f32) (w : FVec F (S2 K N) .f32) (b : FVec F (S2 1 N) .f32) : FVec F (S2 1 N) .f32 :=
  addf (matmul (DotDims.plain 1 K N) none x w (constant (S2 1 N) .f32 0x00000000#32)) b

/-- The classifier. -/
def kTail (T : KTail F) (x : FVec F (S2 1 512) .f32) : FVec F (S2 1 2) .f32 :=
  kRow (kRelu (kRow (kRelu (kRow x T.w1 T.b1)) T.w2 T.b2)) T.w3 T.b3

/-! ## The input blocks as matrices -/

abbrev S3 (a b c : ℕ) : Shape := ⟨3, ![a, b, c]⟩

/-- A block of one matrix as the matrix. -/
def un {a b : ℕ} (x : FVec F (S3 1 a b) .f32) (h : (S3 1 a b).ShapeCasts (S2 a b)) : FVec F (S2 a b) .f32 := shapeCast (S2 a b) x h

/-- A launch's eight attention blocks. -/
def kAtt (x0 : Vec F S1x512x512 .f32) (x1 : Vec F S1x1x512 .f32) (x2 : Vec F S1x512x512 .f32) (x3 : Vec F S1x1x512 .f32)
    (x4 : Vec F S1x512x512 .f32) (x5 : Vec F S1x1x512 .f32) (x6 : Vec F S1x512x512 .f32) (x7 : Vec F S1x1x512 .f32) : KAtt F where
  wq := un x0 (by decide)
  bq := un x1 (by decide)
  wk := un x2 (by decide)
  bk := un x3 (by decide)
  wv := un x4 (by decide)
  bv := un x5 (by decide)
  wo := un x6 (by decide)
  bo := un x7 (by decide)

/-- A launch's layer blocks. -/
def kPar (sa ea : KAtt F) (x18 : Vec F S1x512x2048 .f32) (x19 : Vec F S1x1x2048 .f32) (x20 : Vec F S1x2048x512 .f32) (x21 : Vec F S1x1x512 .f32)
    (x22 x23 x24 x25 x26 x27 : Vec F S1x1x512 .f32) : KLayer F where
  sa := sa
  ea := ea
  w1 := un x18 (by decide)
  b1 := un x19 (by decide)
  w2 := un x20 (by decide)
  b2 := un x21 (by decide)
  g1 := un x22 (by decide)
  c1 := un x23 (by decide)
  g2 := un x24 (by decide)
  c2 := un x25 (by decide)
  g3 := un x26 (by decide)
  c3 := un x27 (by decide)

/-- Two batches stacked. -/
def stack2 (x : Vec F S2x512x512 .f32) : FVec F (S2 1024 512) .f32 := shapeCast (S2 1024 512) x (by decide)

/-- Two stacked batches apart. -/
def split2 (x : FVec F (S2 1024 512) .f32) : Vec F S2x512x512 .f32 := shapeCast S2x512x512 x (by decide)

/-- The features of two batches stacked. -/
def feat2 (x : Vec F S2x512x1024 .f32) : FVec F (S2 1024 1024) .f32 := shapeCast (S2 1024 1024) x (by decide)

def again2 (x : Vec F S2x512x512 .f32) : Vec F S2x512x512 .f32 := shapeCast S2x512x512 x (by decide)

def again1 (x : Vec F S1x512x512 .f32) : Vec F S1x512x512 .f32 := shapeCast S1x512x512 x (by decide)

/-- A row cast to its own shape. -/
def rowOf {n : ℕ} (x : FVec F (S2 1 n) .f32) (h : (S2 1 n).ShapeCasts (S2 1 n)) : FVec F (S2 1 n) .f32 := shapeCast (S2 1 n) x h

def bias0 (x : Vec F S1x512 .f32) : FVec F (S2 1 512) .f32 := rowOf x (by decide)

/-- One batch. -/
def one (x : Vec F S1x512x512 .f32) : FVec F (S2 512 512) .f32 := un x (by decide)

/-- The product of two batches of features. -/
def kFeat (x : Vec F S2x512x1024 .f32) (w : Vec F S1024x512 .f32) (b : Vec F S1x512 .f32) : FVec F (S2 1024 512) .f32 :=
  kLin (feat2 x) w (bias0 b) rows2.bias

/-- The classifier's blocks. -/
def kCls (x28 : Vec F S512x256 .f32) (x29 : Vec F S1x256 .f32) (x30 : Vec F S256x64 .f32) (x31 : Vec F S1x64 .f32)
    (x32 : Vec F S64x2 .f32) (x33 : Vec F S1x2 .f32) : KTail F where
  w1 := x28
  b1 := rowOf x29 (by decide)
  w2 := x30
  b2 := rowOf x31 (by decide)
  w3 := x32
  b3 := rowOf x33 (by decide)

def outRow (x : FVec F (S2 1 512) .f32) : Vec F S1x1x512 .f32 := shapeCast S1x1x512 x (by decide)

def outLabel (x : FVec F (S2 1 2) .f32) : Vec F S1x1x2 .f32 := shapeCast S1x1x2 x (by decide)

def outHead (x : FVec F (S2 512 512) .f32) : Vec F S1x1x512x512 .f32 := shapeCast S1x1x512x512 x (by decide)

theorem zero2 : (![0, 0] : Fin 2 → ℕ) = fun _ => 0 := by decide

theorem zero3 : (![0, 0, 0] : Fin 3 → ℕ) = fun _ => 0 := by decide

/-! ## The launches' outputs -/

/-- The second layer on two batches. -/
theorem out1_eq (x0 x1 : Vec F S2x512x512 .f32) (x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 x22 x23 x24 x25 x26 x27 : Vec F S1x1x512 .f32) :
    out1_28 x0 x1 x2 x3 x4 x5 x6 x7 x8 x9 x10 x11 x12 x13 x14 x15 x16 x17 x18 x19 x20 x21 x22 x23 x24 x25 x26 x27 =
      split2 (kLayer2 (kPar (kAtt x2 x3 x4 x5 x6 x7 x8 x9) (kAtt x10 x11 x12 x13 x14 x15 x16 x17) x18 x19 x20 x21 x22 x23 x24 x25 x26 x27) (stack2 (again2 x0)) (stack2 x1)) := by
  have h : out1_28 x0 x1 x2 x3 x4 x5 x6 x7 x8 x9 x10 x11 x12 x13 x14 x15 x16 x17 x18 x19 x20 x21 x22 x23 x24 x25 x26 x27 =
      View.canon [⟨r1_0, split2 (kLayer2 (kPar (kAtt (View.ld x2 r1_1) (View.ld x3 r1_2) (View.ld x4 r1_1) (View.ld x5 r1_2) (View.ld x6 r1_1) (View.ld x7 r1_2) (View.ld x8 r1_1) (View.ld x9 r1_2)) (kAtt (View.ld x10 r1_1) (View.ld x11 r1_2) (View.ld x12 r1_1) (View.ld x13 r1_2) (View.ld x14 r1_1) (View.ld x15 r1_2) (View.ld x16 r1_1) (View.ld x17 r1_2)) (View.ld x18 r1_3) (View.ld x19 r1_4) (View.ld x20 r1_5) (View.ld x21 r1_2) (View.ld x22 r1_2) (View.ld x23 r1_2) (View.ld x24 r1_2) (View.ld x25 r1_2) (View.ld x26 r1_2) (View.ld x27 r1_2)) (stack2 (again2 (View.ld x0 r1_0))) (stack2 (View.ld x1 r1_0)))⟩] := by sl_kernel_rfl
  rw [h]
  simp (disch := first | exact zero3 | exact zero2) only [View.ld_unit_zero, View.canon_unit_zero]

/-- The feature product and the first layer on two batches. -/
theorem out0_eq (x0 : Vec F S2x512x1024 .f32) (x1 : Vec F S1024x512 .f32) (x2 : Vec F S1x512 .f32) (x3 : Vec F S2x512x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x512 .f32) (x19 : Vec F S1x1x512 .f32) (x20 : Vec F S1x512x2048 .f32) (x21 : Vec F S1x1x2048 .f32) (x22 : Vec F S1x2048x512 .f32) (x23 x24 x25 x26 x27 x28 x29 : Vec F S1x1x512 .f32) :
    out0_30 x0 x1 x2 x3 x4 x5 x6 x7 x8 x9 x10 x11 x12 x13 x14 x15 x16 x17 x18 x19 x20 x21 x22 x23 x24 x25 x26 x27 x28 x29 =
      split2 (kLayer2 (kPar (kAtt x4 x5 x6 x7 x8 x9 x10 x11) (kAtt x12 x13 x14 x15 x16 x17 x18 x19) x20 x21 x22 x23 x24 x25 x26 x27 x28 x29) (kFeat x0 x1 x2) (stack2 x3)) := by
  have h : out0_30 x0 x1 x2 x3 x4 x5 x6 x7 x8 x9 x10 x11 x12 x13 x14 x15 x16 x17 x18 x19 x20 x21 x22 x23 x24 x25 x26 x27 x28 x29 =
      View.canon [⟨r0_3, split2 (kLayer2 (kPar (kAtt (View.ld x4 r0_4) (View.ld x5 r0_5) (View.ld x6 r0_4) (View.ld x7 r0_5) (View.ld x8 r0_4) (View.ld x9 r0_5) (View.ld x10 r0_4) (View.ld x11 r0_5)) (kAtt (View.ld x12 r0_4) (View.ld x13 r0_5) (View.ld x14 r0_4) (View.ld x15 r0_5) (View.ld x16 r0_4) (View.ld x17 r0_5) (View.ld x18 r0_4) (View.ld x19 r0_5)) (View.ld x20 r0_6) (View.ld x21 r0_7) (View.ld x22 r0_8) (View.ld x23 r0_5) (View.ld x24 r0_5) (View.ld x25 r0_5) (View.ld x26 r0_5) (View.ld x27 r0_5) (View.ld x28 r0_5) (View.ld x29 r0_5)) (kFeat (View.ld x0 r0_0) (View.ld x1 r0_1) (View.ld x2 r0_2)) (stack2 (View.ld x3 r0_3)))⟩] := by sl_kernel_rfl
  rw [h]
  simp (disch := first | exact zero3 | exact zero2) only [View.ld_unit_zero, View.canon_unit_zero]

/-- The third layer and the pooling on one batch. -/
theorem pool_eq (x0 x1 x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 x22 x23 x24 x25 x26 x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) :
    out2_35 x0 x1 x2 x3 x4 x5 x6 x7 x8 x9 x10 x11 x12 x13 x14 x15 x16 x17 x18 x19 x20 x21 x22 x23 x24 x25 x26 x27 x28 x29 x30 x31 x32 x33 =
      outRow (kPool (kLayer1 (kPar (kAtt x2 x3 x4 x5 x6 x7 x8 x9) (kAtt x10 x11 x12 x13 x14 x15 x16 x17) x18 x19 x20 x21 x22 x23 x24 x25 x26 x27) (one (again1 x0)) (one x1))) := by
  have h : out2_35 x0 x1 x2 x3 x4 x5 x6 x7 x8 x9 x10 x11 x12 x13 x14 x15 x16 x17 x18 x19 x20 x21 x22 x23 x24 x25 x26 x27 x28 x29 x30 x31 x32 x33 =
      View.canon [⟨r2_1, outRow (kPool (kLayer1 (kPar (kAtt (View.ld x2 r2_0) (View.ld x3 r2_1) (View.ld x4 r2_0) (View.ld x5 r2_1) (View.ld x6 r2_0) (View.ld x7 r2_1) (View.ld x8 r2_0) (View.ld x9 r2_1)) (kAtt (View.ld x10 r2_0) (View.ld x11 r2_1) (View.ld x12 r2_0) (View.ld x13 r2_1) (View.ld x14 r2_0) (View.ld x15 r2_1) (View.ld x16 r2_0) (View.ld x17 r2_1)) (View.ld x18 r2_10) (View.ld x19 r2_11) (View.ld x20 r2_12) (View.ld x21 r2_1) (View.ld x22 r2_1) (View.ld x23 r2_1) (View.ld x24 r2_1) (View.ld x25 r2_1) (View.ld x26 r2_1) (View.ld x27 r2_1)) (one (again1 (View.ld x0 r2_0))) (one (View.ld x1 r2_0))))⟩] := by sl_kernel_rfl
  rw [h]
  simp (disch := first | exact zero3 | exact zero2) only [View.ld_unit_zero, View.canon_unit_zero]

/-- The classifier on the pooled row. -/
theorem label_eq (x0 x1 x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 x22 x23 x24 x25 x26 x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) :
    out2_36 x0 x1 x2 x3 x4 x5 x6 x7 x8 x9 x10 x11 x12 x13 x14 x15 x16 x17 x18 x19 x20 x21 x22 x23 x24 x25 x26 x27 x28 x29 x30 x31 x32 x33 =
      outLabel (kTail (kCls x28 x29 x30 x31 x32 x33) (kPool (kLayer1 (kPar (kAtt x2 x3 x4 x5 x6 x7 x8 x9) (kAtt x10 x11 x12 x13 x14 x15 x16 x17) x18 x19 x20 x21 x22 x23 x24 x25 x26 x27) (one (again1 x0)) (one x1)))) := by
  have h : out2_36 x0 x1 x2 x3 x4 x5 x6 x7 x8 x9 x10 x11 x12 x13 x14 x15 x16 x17 x18 x19 x20 x21 x22 x23 x24 x25 x26 x27 x28 x29 x30 x31 x32 x33 =
      View.canon [⟨r2_19, outLabel (kTail (kCls (View.ld x28 r2_13) (View.ld x29 r2_14) (View.ld x30 r2_15) (View.ld x31 r2_16) (View.ld x32 r2_17) (View.ld x33 r2_18)) (kPool (kLayer1 (kPar (kAtt (View.ld x2 r2_0) (View.ld x3 r2_1) (View.ld x4 r2_0) (View.ld x5 r2_1) (View.ld x6 r2_0) (View.ld x7 r2_1) (View.ld x8 r2_0) (View.ld x9 r2_1)) (kAtt (View.ld x10 r2_0) (View.ld x11 r2_1) (View.ld x12 r2_0) (View.ld x13 r2_1) (View.ld x14 r2_0) (View.ld x15 r2_1) (View.ld x16 r2_0) (View.ld x17 r2_1)) (View.ld x18 r2_10) (View.ld x19 r2_11) (View.ld x20 r2_12) (View.ld x21 r2_1) (View.ld x22 r2_1) (View.ld x23 r2_1) (View.ld x24 r2_1) (View.ld x25 r2_1) (View.ld x26 r2_1) (View.ld x27 r2_1)) (one (again1 (View.ld x0 r2_0))) (one (View.ld x1 r2_0)))))⟩] := by sl_kernel_rfl
  rw [h]
  simp (disch := first | exact zero3 | exact zero2) only [View.ld_unit_zero, View.canon_unit_zero]

/-- A block of eight heads, stored one head at a time. -/
def attn8 (w : Fin 8 → FVec F (S2 512 512) .f32) : Vec F S1x8x512x512 .f32 :=
  View.canon [⟨r2_9, outHead (w 7)⟩, ⟨r2_8, outHead (w 6)⟩, ⟨r2_7, outHead (w 5)⟩, ⟨r2_6, outHead (w 4)⟩, ⟨r2_5, outHead (w 3)⟩, ⟨r2_4, outHead (w 2)⟩, ⟨r2_3, outHead (w 1)⟩, ⟨r2_2, outHead (w 0)⟩]

/-- The heads' attention weights on one batch. -/
theorem attn_eq (x0 x1 x2 : Vec F S1x512x512 .f32) (x3 : Vec F S1x1x512 .f32) (x4 : Vec F S1x512x512 .f32) (x5 : Vec F S1x1x512 .f32) (x6 : Vec F S1x512x512 .f32) (x7 : Vec F S1x1x512 .f32) (x8 : Vec F S1x512x512 .f32) (x9 : Vec F S1x1x512 .f32) (x10 : Vec F S1x512x512 .f32) (x11 : Vec F S1x1x512 .f32) (x12 : Vec F S1x512x512 .f32) (x13 : Vec F S1x1x512 .f32) (x14 : Vec F S1x512x512 .f32) (x15 : Vec F S1x1x512 .f32) (x16 : Vec F S1x512x512 .f32) (x17 : Vec F S1x1x512 .f32) (x18 : Vec F S1x512x2048 .f32) (x19 : Vec F S1x1x2048 .f32) (x20 : Vec F S1x2048x512 .f32) (x21 x22 x23 x24 x25 x26 x27 : Vec F S1x1x512 .f32) (x28 : Vec F S512x256 .f32) (x29 : Vec F S1x256 .f32) (x30 : Vec F S256x64 .f32) (x31 : Vec F S1x64 .f32) (x32 : Vec F S64x2 .f32) (x33 : Vec F S1x2 .f32) :
    out2_34 x0 x1 x2 x3 x4 x5 x6 x7 x8 x9 x10 x11 x12 x13 x14 x15 x16 x17 x18 x19 x20 x21 x22 x23 x24 x25 x26 x27 x28 x29 x30 x31 x32 x33 =
      attn8 (kWeights1 (kPar (kAtt x2 x3 x4 x5 x6 x7 x8 x9) (kAtt x10 x11 x12 x13 x14 x15 x16 x17) x18 x19 x20 x21 x22 x23 x24 x25 x26 x27) (one (again1 x0)) (one x1)) := by
  have h : out2_34 x0 x1 x2 x3 x4 x5 x6 x7 x8 x9 x10 x11 x12 x13 x14 x15 x16 x17 x18 x19 x20 x21 x22 x23 x24 x25 x26 x27 x28 x29 x30 x31 x32 x33 =
      attn8 (kWeights1 (kPar (kAtt (View.ld x2 r2_0) (View.ld x3 r2_1) (View.ld x4 r2_0) (View.ld x5 r2_1) (View.ld x6 r2_0) (View.ld x7 r2_1) (View.ld x8 r2_0) (View.ld x9 r2_1)) (kAtt (View.ld x10 r2_0) (View.ld x11 r2_1) (View.ld x12 r2_0) (View.ld x13 r2_1) (View.ld x14 r2_0) (View.ld x15 r2_1) (View.ld x16 r2_0) (View.ld x17 r2_1)) (View.ld x18 r2_10) (View.ld x19 r2_11) (View.ld x20 r2_12) (View.ld x21 r2_1) (View.ld x22 r2_1) (View.ld x23 r2_1) (View.ld x24 r2_1) (View.ld x25 r2_1) (View.ld x26 r2_1) (View.ld x27 r2_1)) (one (again1 (View.ld x0 r2_0))) (one (View.ld x1 r2_0))) := by sl_kernel_rfl
  rw [h]
  simp (disch := first | exact zero3 | exact zero2) only [View.ld_unit_zero, View.canon_unit_zero]

end Cert.Blocks

end
-- ==== Proof.Values.lean ====
/-
  What the blocks of `Blocks` compute over the reals: a layer's output, a head's attention weights, the pooled row
  and the label, as the functions of `Model` applied to the reals the input blocks hold.
-/
module

public import proofs.«01_k».proof.Proof.Blocks
public import Idealize.ShloMosaic.Lib.ValueIdx

@[expose] public section

set_option maxRecDepth 16384

noncomputable section

namespace Cert.Values

open Idealize.ShloMosaic Idealize.ShloMosaic.ValueIdx Cert.Model Cert.Ops Cert.Blocks
open Cert.KernelIdeal Cert.KernelIdeal.Gen
open scoped BigOperators

/-! ## Entry by entry -/

theorem add_is {M N : ℕ} {X Y : FVec Ideal (S2 M N) .f32} {x y : Mat M N} (hX : Is2 X x) (hY : Is2 Y y) :
    Is2 (addf X Y) (add x y) := by
  intro i j
  show X (ix2 i j) + Y (ix2 i j) = _
  rw [hX, hY, ← EReal.coe_add]
  rfl

theorem relu_is {M N : ℕ} {X : FVec Ideal (S2 M N) .f32} {x : Mat M N} (hX : Is2 X x) : Is2 (kRelu (F := Ideal) X) (relu x) := by
  intro i j
  show max (X (ix2 i j)) (Ideal.ofBits .f32 0x00000000#32) = _
  rw [hX, Ideal.ofBits_zero_f32, ← EReal.coe_zero, coe_max]
  rfl

theorem norm_is {M : ℕ} (R : Rows M) {X : FVec Ideal (S2 M 512) .f32} {G B : FVec Ideal (S2 1 512) .f32} {x : Mat M 512} {g b : Fin 512 → ℝ}
    (hX : Is2 X x) (hG : IsRow G g) (hB : IsRow B b) : Is2 (kNorm (F := Ideal) R X G B) (ln x g b) := by
  intro i j
  have hm : divf (F := Ideal) (shapeCast (S2 M 1) (multiReduction .add [1] (S1 M) X 0x00000000#32 R.red (.inl rfl) rfl) R.col)
      (broadcast (S2 M 1) (Scalar.ofBits .f32 0x44000000#32)) (ix2 i 0) = (mean (x i) : EReal) := by
    show Ideal.div _ (Ideal.ofBits .f32 0x44000000#32) = _
    rw [rowsum_is R.red R.col hX, lit_512, div_coe _ _ (by norm_num)]
    rfl
  have hXX : Is2 (mulf (F := Ideal) X X) (fun i j => x i j * x i j) := by
    intro i j
    show X (ix2 i j) * X (ix2 i j) = _
    rw [hX, ← EReal.coe_mul]
  have hs : divf (F := Ideal) (shapeCast (S2 M 1) (multiReduction .add [1] (S1 M) (mulf X X) 0x00000000#32 R.red (.inl rfl) rfl) R.col)
      (broadcast (S2 M 1) (Scalar.ofBits .f32 0x44000000#32)) (ix2 i 0) = (((∑ c, x i c * x i c) / 512 : ℝ) : EReal) := by
    show Ideal.div _ (Ideal.ofBits .f32 0x44000000#32) = _
    rw [rowsum_is R.red R.col hXX, lit_512, div_coe _ _ (by norm_num)]
  show (X (ix2 i j) - broadcastTo (S2 M 512) _ R.wide (ix2 i j)) * broadcastTo (S2 M 512) _ R.wide (ix2 i j)
    * broadcastTo (S2 M 512) G R.bias (ix2 i j) + broadcastTo (S2 M 512) B R.bias (ix2 i j) = _
  rw [broadcastTo_col_apply, broadcastTo_col_apply, broadcastTo_1b_ab_apply, broadcastTo_1b_ab_apply, hm, hG, hB, hX]
  show (_ - _) * Ideal.rsqrt (divf (F := Ideal) _ _ (ix2 i 0) - divf (F := Ideal) _ _ (ix2 i 0) * divf (F := Ideal) _ _ (ix2 i 0)
    + Ideal.ofBits .f32 0x3727C5AC#32) * _ + _ = _
  rw [hm, hs, lit_eps, ← EReal.coe_mul, ← EReal.coe_sub, ← EReal.coe_sub, var_eq, ← EReal.coe_add, rsqrt_coe _ (add_pos_of_nonneg_of_pos (var_nonneg _) eps_pos),
    ← EReal.coe_mul, ← EReal.coe_mul, ← EReal.coe_add]
  rfl

theorem feed_is {M : ℕ} (R : Rows M) {Y : FVec Ideal (S2 M 512) .f32} {W1 : FVec Ideal (S2 512 2048) .f32} {B1 : FVec Ideal (S2 1 2048) .f32}
    {W2 : FVec Ideal (S2 2048 512) .f32} {B2 G C : FVec Ideal (S2 1 512) .f32} {y : Mat M 512} {L : LayerW}
    (hY : Is2 Y y) (h1 : Is2 W1 L.w1) (h2 : IsRow B1 L.b1) (h3 : Is2 W2 L.w2) (h4 : IsRow B2 L.b2) (h5 : IsRow G L.g3) (h6 : IsRow C L.c3) :
    Is2 (kFeed (F := Ideal) R Y W1 B1 W2 B2 G C) (feed L y) :=
  norm_is R (add_is hY (lin_is R.bias (relu_is (lin_is R.bias4 hY h1 h2)) h3 h4)) h5 h6

/-! ## Attention -/

/-- The columns of a head, as a matrix. -/
def headMat (x : Mat 512 512) (h : Fin 8) : Mat 512 64 := fun i d => x i (hcol h d)

theorem prob1_head (q k : Mat 512 512) (h : Fin 8) : prob1 (headMat q h) (headMat k h) = prob q k h := rfl

theorem mix_is {M : ℕ} (o : ℕ) {Q K V : FVec Ideal (S2 M 512) .f32} {q k v : Mat M 512}
    (hs : ∀ h : Fin 8, (S2 M 512).Slices ![o, 64 * h.val] (S2 512 64)) (hQ : Is2 Q q) (hK : Is2 K k) (hV : Is2 V v)
    (r : Fin 512 → Fin M) (hr : ∀ i, (r i).val = o + i.val) :
    Is2 (kMix (F := Ideal) shapes o Q K V hs cats) (mix (fun i => q (r i)) (fun i => k (r i)) (fun i => v (r i))) := by
  intro i c
  refine (concatenate_ofFn_apply (t := S2 512 512) (s₁ := S2 512 64) 1
    (fun h : Fin 8 => kHead (F := Ideal) shapes (kCut o (64 * h.val) Q (hs h)) (kCut o (64 * h.val) K (hs h)) (kCut o (64 * h.val) V (hs h)))
    cats rfl 64 rfl (ix2 i c) (headOf c) rfl (ix2 i (inHead c)) rfl (fun b hb => ?_)).trans ?_
  · match b with
    | ⟨0, _⟩ => rfl
    | ⟨1, _⟩ => exact absurd rfl hb
  · have cut : ∀ {X : FVec Ideal (S2 M 512) .f32} {x : Mat M 512}, Is2 X x →
        Is2 (kCut (F := Ideal) o (64 * (headOf c).val) X (hs (headOf c))) (headMat (fun i => x (r i)) (headOf c)) := fun hX =>
      cut_is o _ _ hX r hr (hcol (headOf c)) (fun d => rfl)
    refine (head_is shapes (cut hQ) (cut hK) (cut hV) i (inHead c)).trans ?_
    rw [prob1_head]
    show ((∑ j, _ * v (r j) (hcol (headOf c) (inHead c)) : ℝ) : EReal) = _
    rw [hcol_headOf]
    rfl

/-- The arrays of an attention hold the reals of `A`. -/
structure IsAtt (K : KAtt Ideal) (A : AttW) : Prop where
  wq : Is2 K.wq A.wq
  bq : IsRow K.bq A.bq
  wk : Is2 K.wk A.wk
  bk : IsRow K.bk A.bk
  wv : Is2 K.wv A.wv
  bv : IsRow K.bv A.bv
  wo : Is2 K.wo A.wo
  bo : IsRow K.bo A.bo

/-- The arrays of a layer hold the reals of `L`. -/
structure IsLayer (K : KLayer Ideal) (L : LayerW) : Prop where
  sa : IsAtt K.sa L.sa
  ea : IsAtt K.ea L.ea
  w1 : Is2 K.w1 L.w1
  b1 : IsRow K.b1 L.b1
  w2 : Is2 K.w2 L.w2
  b2 : IsRow K.b2 L.b2
  g1 : IsRow K.g1 L.g1
  c1 : IsRow K.c1 L.c1
  g2 : IsRow K.g2 L.g2
  c2 : IsRow K.c2 L.c2
  g3 : IsRow K.g3 L.g3
  c3 : IsRow K.c3 L.c3

/-! ## One batch -/

theorem mha1_is {K : KAtt Ideal} {A : AttW} (hA : IsAtt K A) {X S : FVec Ideal (S2 512 512) .f32} {x s : Mat 512 512}
    (hX : Is2 X x) (hS : Is2 S s) : Is2 (kMha1 (F := Ideal) K X S) (mha A x s) :=
  lin_is rows1.bias (mix_is 0 cuts1 (lin_is rows1.bias hX hA.wq hA.bq) (lin_is rows1.bias hS hA.wk hA.bk) (lin_is rows1.bias hS hA.wv hA.bv)
    id (fun i => (Nat.zero_add _).symm)) hA.wo hA.bo

theorem half1_is {K : KLayer Ideal} {L : LayerW} (hL : IsLayer K L) {X : FVec Ideal (S2 512 512) .f32} {x : Mat 512 512}
    (hX : Is2 X x) : Is2 (kHalf1 (F := Ideal) K X) (half L x) :=
  norm_is rows1 (add_is hX (mha1_is hL.sa hX hX)) hL.g1 hL.c1

theorem both1_is {K : KLayer Ideal} {L : LayerW} (hL : IsLayer K L) {X S : FVec Ideal (S2 512 512) .f32} {x s : Mat 512 512}
    (hX : Is2 X x) (hS : Is2 S s) : Is2 (kBoth1 (F := Ideal) K X S) (both L x s) :=
  norm_is rows1 (add_is (half1_is hL hX) (mha1_is hL.ea (half1_is hL hX) hS)) hL.g2 hL.c2

theorem layer1_is {K : KLayer Ideal} {L : LayerW} (hL : IsLayer K L) {X S : FVec Ideal (S2 512 512) .f32} {x s : Mat 512 512}
    (hX : Is2 X x) (hS : Is2 S s) : Is2 (kLayer1 (F := Ideal) K X S) (layer L x s) :=
  feed_is rows1 (both1_is hL hX hS) hL.w1 hL.b1 hL.w2 hL.b2 hL.g3 hL.c3

theorem weights1_is {K : KLayer Ideal} {L : LayerW} (hL : IsLayer K L) {X S : FVec Ideal (S2 512 512) .f32} {x s : Mat 512 512}
    (hX : Is2 X x) (hS : Is2 S s) (h : Fin 8) : Is2 (kWeights1 (F := Ideal) K X S h) (weights L.ea (half L x) s h) :=
  prob_is shapes
    (cut_is 0 _ _ (lin_is rows1.bias (half1_is hL hX) hL.ea.wq hL.ea.bq) id (fun i => (Nat.zero_add _).symm) (hcol h) (fun d => rfl))
    (cut_is 0 _ _ (lin_is rows1.bias hS hL.ea.wk hL.ea.bk) id (fun i => (Nat.zero_add _).symm) (hcol h) (fun d => rfl))

/-! ## Two batches stacked -/

/-- Two matrices, one above the other. -/
def pile {n : ℕ} (x : Fin 2 → Mat 512 n) : Mat 1024 n :=
  fun r => x ⟨r.val / 512, by omega⟩ ⟨r.val % 512, by omega⟩

/-- Row `i` of batch `β`. -/
def rowIn (β : Fin 2) (i : Fin 512) : Fin 1024 := ⟨512 * β.val + i.val, by omega⟩

theorem pile_row {n : ℕ} (x : Fin 2 → Mat 512 n) (β : Fin 2) (i : Fin 512) : pile x (rowIn β i) = x β i := by
  have e1 : (⟨(rowIn β i).val / 512, by omega⟩ : Fin 2) = β := by
    apply Fin.ext; show (512 * β.val + i.val) / 512 = β.val; omega
  have e2 : (⟨(rowIn β i).val % 512, by omega⟩ : Fin 512) = i := by
    apply Fin.ext; show (512 * β.val + i.val) % 512 = i.val; omega
  unfold pile
  rw [e1, e2]

theorem add_pile {n : ℕ} (x y : Fin 2 → Mat 512 n) : add (pile x) (pile y) = pile fun β => add (x β) (y β) := rfl

theorem ln_pile (x : Fin 2 → Mat 512 512) (g b : Fin 512 → ℝ) : ln (pile x) g b = pile fun β => ln (x β) g b := rfl

theorem mha2_is {K : KAtt Ideal} {A : AttW} (hA : IsAtt K A) {X S : FVec Ideal (S2 1024 512) .f32} {x s : Fin 2 → Mat 512 512}
    (hX : Is2 X (pile x)) (hS : Is2 S (pile s)) : Is2 (kMha2 (F := Ideal) K X S) (pile fun β => mha A (x β) (s β)) := by
  have hq : Is2 (kLin (F := Ideal) X K.wq K.bq rows2.bias) (pile fun β => lin (x β) A.wq A.bq) := lin_is rows2.bias hX hA.wq hA.bq
  have hk : Is2 (kLin (F := Ideal) S K.wk K.bk rows2.bias) (pile fun β => lin (s β) A.wk A.bk) := lin_is rows2.bias hS hA.wk hA.bk
  have hv : Is2 (kLin (F := Ideal) S K.wv K.bv rows2.bias) (pile fun β => lin (s β) A.wv A.bv) := lin_is rows2.bias hS hA.wv hA.bv
  refine lin_is rows2.bias (x := pile fun β => mix (lin (x β) A.wq A.bq) (lin (s β) A.wk A.bk) (lin (s β) A.wv A.bv)) (fun r c => ?_) hA.wo hA.bo
  have part : ∀ (o : ℕ) (β : Fin 2) (hs) (ho : 512 * β.val = o), Is2 (kMix (F := Ideal) shapes o (kLin (F := Ideal) X K.wq K.bq rows2.bias)
      (kLin (F := Ideal) S K.wk K.bk rows2.bias) (kLin (F := Ideal) S K.wv K.bv rows2.bias) hs cats)
      (mix (lin (x β) A.wq A.bq) (lin (s β) A.wk A.bk) (lin (s β) A.wv A.bv)) := by
    intro o β hs ho
    have e := mix_is o hs hq hk hv (rowIn β) (fun i => by show 512 * β.val + i.val = _; rw [ho])
    simp only [pile_row] at e
    exact e
  refine (concatenate_ofFn_apply (t := S2 1024 512) (s₁ := S2 512 512) 0
    (fun β : Fin 2 => if β.val = 0 then kMix (F := Ideal) shapes 0 (kLin (F := Ideal) X K.wq K.bq rows2.bias)
      (kLin (F := Ideal) S K.wk K.bk rows2.bias) (kLin (F := Ideal) S K.wv K.bv rows2.bias) cuts2 cats
      else kMix (F := Ideal) shapes 512 (kLin (F := Ideal) X K.wq K.bq rows2.bias)
      (kLin (F := Ideal) S K.wk K.bk rows2.bias) (kLin (F := Ideal) S K.wv K.bv rows2.bias) cuts2' cats)
    piled rfl 512 rfl (ix2 r c) ⟨r.val / 512, by omega⟩ rfl (ix2 ⟨r.val % 512, by omega⟩ c) rfl (fun b hb => ?_)).trans ?_
  · match b with
    | ⟨0, _⟩ => exact absurd rfl hb
    | ⟨1, _⟩ => rfl
  · rcases Nat.lt_or_ge r.val 512 with h | h
    · have e : r.val / 512 = 0 := by omega
      have e' : (⟨r.val / 512, by omega⟩ : Fin 2) = 0 := Fin.ext e
      rw [if_pos e]
      refine (part 0 0 cuts2 rfl _ c).trans ?_
      unfold pile
      rw [e']
    · have e : r.val / 512 = 1 := by omega
      have e' : (⟨r.val / 512, by omega⟩ : Fin 2) = 1 := Fin.ext e
      rw [if_neg (by show ¬ r.val / 512 = 0; omega)]
      refine (part 512 1 cuts2' rfl _ c).trans ?_
      unfold pile
      rw [e']

theorem half2_is {K : KLayer Ideal} {L : LayerW} (hL : IsLayer K L) {X : FVec Ideal (S2 1024 512) .f32} {x : Fin 2 → Mat 512 512}
    (hX : Is2 X (pile x)) : Is2 (kHalf2 (F := Ideal) K X) (pile fun β => half L (x β)) :=
  norm_is rows2 (add_is hX (mha2_is hL.sa hX hX)) hL.g1 hL.c1

theorem both2_is {K : KLayer Ideal} {L : LayerW} (hL : IsLayer K L) {X S : FVec Ideal (S2 1024 512) .f32} {x s : Fin 2 → Mat 512 512}
    (hX : Is2 X (pile x)) (hS : Is2 S (pile s)) : Is2 (kBoth2 (F := Ideal) K X S) (pile fun β => both L (x β) (s β)) := by
  have h := half2_is hL hX
  have a := add_is h (mha2_is hL.ea h hS)
  rw [add_pile] at a
  have n := norm_is rows2 a hL.g2 hL.c2
  rw [ln_pile] at n
  exact n

theorem layer2_is {K : KLayer Ideal} {L : LayerW} (hL : IsLayer K L) {X S : FVec Ideal (S2 1024 512) .f32} {x s : Fin 2 → Mat 512 512}
    (hX : Is2 X (pile x)) (hS : Is2 S (pile s)) : Is2 (kLayer2 (F := Ideal) K X S) (pile fun β => layer L (x β) (s β)) :=
  feed_is rows2 (both2_is hL hX hS) hL.w1 hL.b1 hL.w2 hL.b2 hL.g3 hL.c3

end Cert.Values

end
-- ==== Proof.Tails.lean ====
/-
  The pooling and the classifier over the reals, and the blocks of a launch read as matrices.
-/
module

public import proofs.«01_k».proof.Proof.Values
public import Idealize.ShloMosaic.Lib.Pipeline.ReadBack

@[expose] public section

set_option maxRecDepth 16384

noncomputable section

namespace Cert.Values

open Idealize.ShloMosaic Idealize.ShloMosaic.ValueIdx Cert.Model Cert.Ops Cert.Blocks
open Cert.KernelIdeal Cert.KernelIdeal.Gen
open scoped BigOperators

/-! ## The pooling -/

/-- A product contracted over both operands' rows, the left one a column. -/
theorem colDot_apply (W : FVec Ideal (S2 512 1) .f32) (X : FVec Ideal (S2 512 512) .f32) (A : FVec Ideal (S2 1 512) .f32) (u : Fin 1) (c : Fin 512) :
    FloatOps.matmul dot_S512x1_S512x512_S1x512_0_0_1_1_n_n none W X A (ix2 u c) = A (ix2 u c) + ∑ k : Fin 512, W (ix2 k u) * X (ix2 k c) := by
  have hr : (dot_S512x1_S512x512_S1x512_0_0_1_1_n_n).contr.rank = 1 := rfl
  have hz : (dot_S512x1_S512x512_S1x512_0_0_1_1_n_n).contr.size ⟨0, by rw [hr]; exact Nat.one_pos⟩ = 512 := rfl
  rw [Ideal.matmul_apply, ← Equiv.sum_comp (contrEquiv1 _ 512 hr hz).symm]
  refine congrArg (A (ix2 u c) + ·) (Finset.sum_congr rfl fun k _ => ?_)
  have hk := contrEquiv1_symm_val _ 512 hr hz k
  have el : (dot_S512x1_S512x512_S1x512_0_0_1_1_n_n).lhsIdx (ix2 u c) ((contrEquiv1 _ 512 hr hz).symm k) = ix2 k u := by
    funext a; apply Fin.ext
    match a with
    | ⟨0, _⟩ => exact hk
    | ⟨1, _⟩ => rfl
  have er : (dot_S512x1_S512x512_S1x512_0_0_1_1_n_n).rhsIdx (ix2 u c) ((contrEquiv1 _ 512 hr hz).symm k) = ix2 k c := by
    funext a; apply Fin.ext
    match a with
    | ⟨0, _⟩ => exact hk
    | ⟨1, _⟩ => rfl
  rw [el, er]

/-- A column's greatest entry, or its sum, spread over the column. -/
theorem spread_apply (v : FVec Ideal (S1 1) .f32) (i : Fin 512) :
    broadcastTo (S2 512 1) (shapeCast (S2 1 1) v shapeCasts_S1_S1x1) broadcasts_S1x1_S512x1 (ix2 i 0) = v (ix1 0) := by
  refine Eq.trans (b := shapeCast (S2 1 1) v shapeCasts_S1_S1x1 (ix2 0 0)) ?_ (shapeCast_a_a1_apply v shapeCasts_S1_S1x1 0 0)
  unfold broadcastTo
  congr 1
  funext d
  apply Fin.ext
  match d with
  | ⟨0, _⟩ => rfl
  | ⟨1, _⟩ => rfl

theorem colsum_is {E : FVec Ideal (S2 512 1) .f32} {e : Fin 512 → ℝ} (hE : ∀ i, E (ix2 i 0) = (e i : EReal)) :
    multiReduction (F := Ideal) .add [0] (S1 1) E 0x00000000#32 reduces_S512x1_S1 (.inl rfl) rfl (ix1 0) = ((∑ i, e i : ℝ) : EReal) := by
  refine (Ideal.multiReduction_add_single E _ reduces_S512x1_S1 (.inl rfl) rfl (ix1 0)).trans ?_
  rw [← coe_sum]
  refine Finset.sum_congr rfl fun k _ => (congrArg E ?_).trans (hE k)
  funext d; apply Fin.ext
  match d with
  | ⟨0, _⟩ => rfl
  | ⟨1, _⟩ => rfl

theorem colmax_is {E : FVec Ideal (S2 512 1) .f32} {e : Fin 512 → ℝ} (hE : ∀ i, E (ix2 i 0) = (e i : EReal)) :
    ∃ m : ℝ, multiReduction (F := Ideal) .maximumf [0] (S1 1) E 0xFF800000#32 reduces_S512x1_S1 (.inl rfl) rfl (ix1 0) = (m : EReal) := by
  obtain ⟨m, h⟩ := fold_max (n := 511) (fun i => E (ix2 i 0)) e hE
  refine ⟨m, ((Ideal.multiReduction_maximumf_single E _ reduces_S512x1_S1 (.inl rfl) rfl (ix1 0)).trans ?_).trans h⟩
  show Finset.fold max (Ideal.ofBits .f32 0xFF800000#32) _ _ = _
  rw [lit_neg_inf]
  refine Finset.fold_congr fun k _ => congrArg E ?_
  funext d; apply Fin.ext
  match d with
  | ⟨0, _⟩ => rfl
  | ⟨1, _⟩ => rfl

theorem share_is {X : FVec Ideal (S2 512 512) .f32} {x : Mat 512 512} (hX : Is2 X x) (i : Fin 512) :
    kShare (F := Ideal) X (ix2 i 0) = ((Real.exp (Model.norm (x i)) / ∑ l, Real.exp (Model.norm (x l)) : ℝ) : EReal) := by
  have hXX : Is2 (mulf (F := Ideal) X X) (fun i j => x i j * x i j) := by
    intro i j
    show X (ix2 i j) * X (ix2 i j) = _
    rw [hX, ← EReal.coe_mul]
  have hn : ∀ i, sqrt (F := Ideal) (shapeCast (S2 512 1) (multiReduction .add [1] (S1 512) (mulf X X) 0x00000000#32 shapes.red (.inl rfl) rfl) shapes.col) (ix2 i 0)
      = (Model.norm (x i) : EReal) := by
    intro i
    show Ideal.sqrt _ = _
    rw [rowsum_is shapes.red shapes.col hXX, sqrt_coe _ (Finset.sum_nonneg fun _ _ => mul_self_nonneg _)]
    rfl
  obtain ⟨m, hm⟩ := colmax_is hn
  have he : ∀ i, exp (F := Ideal) (subf (sqrt (shapeCast (S2 512 1) (multiReduction .add [1] (S1 512) (mulf X X) 0x00000000#32 shapes.red (.inl rfl) rfl) shapes.col))
      (broadcastTo (S2 512 1) (shapeCast (S2 1 1) (multiReduction .maximumf [0] (S1 1)
        (sqrt (shapeCast (S2 512 1) (multiReduction .add [1] (S1 512) (mulf X X) 0x00000000#32 shapes.red (.inl rfl) rfl) shapes.col))
        0xFF800000#32 reduces_S512x1_S1 (.inl rfl) rfl) shapeCasts_S1_S1x1) broadcasts_S1x1_S512x1)) (ix2 i 0)
      = (Real.exp (Model.norm (x i) - m) : EReal) := by
    intro i
    show Ideal.exp (sqrt (F := Ideal) _ (ix2 i 0) - broadcastTo (S2 512 1) _ broadcasts_S1x1_S512x1 (ix2 i 0)) = _
    rw [spread_apply, hm, hn, ← EReal.coe_sub, exp_coe]
  show Ideal.div (exp (F := Ideal) _ (ix2 i 0)) (broadcastTo (S2 512 1) _ broadcasts_S1x1_S512x1 (ix2 i 0)) = _
  rw [spread_apply, colsum_is he, he, div_coe _ _ (sum_exp_pos _).ne', softmax_shift (fun i => Model.norm (x i)) m i]

theorem pool_is {X : FVec Ideal (S2 512 512) .f32} {x : Mat 512 512} (hX : Is2 X x) : IsRow (kPool (F := Ideal) X) (pool x) := by
  intro c
  show FloatOps.matmul dot_S512x1_S512x512_S1x512_0_0_1_1_n_n none (kShare X) X (constant (F := Ideal) (S2 1 512) .f32 0x00000000#32) (ix2 0 c) = _
  rw [colDot_apply, constant_apply, Ideal.ofBits_zero_f32, zero_add]
  simp only [share_is hX, hX _ c, ← EReal.coe_mul, coe_sum]
  rfl

/-! ## The classifier -/

/-- The arrays of the classifier hold the reals of `T`. -/
structure IsTail (K : KTail Ideal) (T : TailW) : Prop where
  w1 : Is2 K.w1 T.w1
  b1 : IsRow K.b1 T.b1
  w2 : Is2 K.w2 T.w2
  b2 : IsRow K.b2 T.b2
  w3 : Is2 K.w3 T.w3
  b3 : IsRow K.b3 T.b3

theorem row_is {K N : ℕ} {X : FVec Ideal (S2 1 K) .f32} {W : FVec Ideal (S2 K N) .f32} {B : FVec Ideal (S2 1 N) .f32}
    {x : Mat 1 K} {w : Mat K N} {b : Fin N → ℝ} (hX : Is2 X x) (hW : Is2 W w) (hB : IsRow B b) : Is2 (kRow (F := Ideal) X W B) (lin x w b) := by
  intro i j
  show FloatOps.matmul (DotDims.plain 1 K N) none X W (constant (F := Ideal) (S2 1 N) .f32 0x00000000#32) (ix2 i j) + B (ix2 i j) = _
  rw [Ideal.matmul_plain_apply, Subsingleton.elim i 0, hB j, constant_apply, Ideal.ofBits_zero_f32, zero_add]
  simp only [hX 0, hW _ j, ← EReal.coe_mul, coe_sum, ← EReal.coe_add]
  rfl

theorem tail_is {K : KTail Ideal} {T : TailW} (hT : IsTail K T) {X : FVec Ideal (S2 1 512) .f32} {x : Fin 512 → ℝ} (hX : IsRow X x) :
    Is2 (kTail (F := Ideal) K X) (tail T fun _ => x) :=
  row_is (relu_is (row_is (relu_is (row_is (fun i j => by rw [Subsingleton.elim i 0]; exact hX j) hT.w1 hT.b1)) hT.w2 hT.b2)) hT.w3 hT.b3

/-! ## The blocks as matrices -/

theorem un_apply {a b : ℕ} (x : FVec Ideal (S3 1 a b) .f32) (h) (i : Fin a) (j : Fin b) : un (F := Ideal) x h (ix2 i j) = x (ix3 0 i j) :=
  shapeCast_1ab_ab_apply x h i j

theorem again1_eq (x : Vec Ideal S1x512x512 .f32) : again1 (F := Ideal) x = x := by
  funext j; exact shapeCast_apply x _ j j rfl

theorem again2_eq (x : Vec Ideal S2x512x512 .f32) : again2 (F := Ideal) x = x := by
  funext j; exact shapeCast_apply x _ j j rfl

theorem rowOf_eq {n : ℕ} (x : FVec Ideal (S2 1 n) .f32) (h) : rowOf (F := Ideal) x h = x := by
  funext j; exact shapeCast_apply x _ j j rfl

/-- A stack's batch `β` is its rows from `512 β` on. -/
theorem stack2_is {X : Vec Ideal S2x512x512 .f32} {x : Fin 2 → Mat 512 512} (hX : ∀ β i j, X (ix3 β i j) = (x β i j : EReal)) :
    Is2 (stack2 (F := Ideal) X) (pile x) := by
  intro r j
  refine (shapeCast_apply X _ (ix2 r j) (ix3 ⟨r.val / 512, by omega⟩ ⟨r.val % 512, by omega⟩ j) ?_).trans (hX _ _ _)
  rw [Shape.rowMajor_val_three, Shape.rowMajor_val_two]
  show (r.val / 512 * 512 + r.val % 512) * 512 + j.val = r.val * 512 + j.val
  rw [Nat.div_add_mod']

theorem feat2_is {X : Vec Ideal S2x512x1024 .f32} {x : Fin 2 → Mat 512 1024} (hX : ∀ β i j, X (ix3 β i j) = (x β i j : EReal)) :
    Is2 (feat2 (F := Ideal) X) (pile x) := by
  intro r j
  refine (shapeCast_apply X _ (ix2 r j) (ix3 ⟨r.val / 512, by omega⟩ ⟨r.val % 512, by omega⟩ j) ?_).trans (hX _ _ _)
  rw [Shape.rowMajor_val_three, Shape.rowMajor_val_two]
  show (r.val / 512 * 512 + r.val % 512) * 1024 + j.val = r.val * 1024 + j.val
  rw [Nat.div_add_mod']

theorem split2_is {X : FVec Ideal (S2 1024 512) .f32} {x : Fin 2 → Mat 512 512} (hX : Is2 X (pile x)) (β : Fin 2) (i j : Fin 512) :
    split2 (F := Ideal) X (ix3 β i j) = (x β i j : EReal) := by
  refine (shapeCast_apply X _ (ix3 β i j) (ix2 (rowIn β i) j) ?_).trans ((hX _ _).trans (by rw [pile_row]))
  rw [Shape.rowMajor_val_three, Shape.rowMajor_val_two]
  show (512 * β.val + i.val) * 512 + j.val = (β.val * 512 + i.val) * 512 + j.val
  rw [Nat.mul_comm 512 β.val]

theorem outRow_apply (x : FVec Ideal (S2 1 512) .f32) (u v : Fin 1) (j : Fin 512) : outRow (F := Ideal) x (ix3 u v j) = x (ix2 v j) :=
  shapeCast_ab_1ab_apply x _ u v j

theorem outLabel_apply (x : FVec Ideal (S2 1 2) .f32) (u v : Fin 1) (j : Fin 2) : outLabel (F := Ideal) x (ix3 u v j) = x (ix2 v j) :=
  shapeCast_ab_1ab_apply x _ u v j

theorem outHead_apply (x : FVec Ideal (S2 512 512) .f32) (u v : Fin 1) (i j : Fin 512) : outHead (F := Ideal) x (ix4 u v i j) = x (ix2 i j) := by
  refine shapeCast_apply x _ (ix4 u v i j) (ix2 i j) ?_
  rw [Shape.rowMajor_val_four, Shape.rowMajor_val_two]
  show i.val * 512 + j.val = ((u.val * 1 + v.val) * 512 + i.val) * 512 + j.val
  omega

/-- The block whose heads are `w`. -/
def heads (w : Fin 8 → FVec Ideal (S2 512 512) .f32) (y : S1x8x512x512.Idx) : Elt Ideal .f32 := w (y 1) (ix2 (y 2) (y 3))

/-- A block of heads read at a head. -/
theorem attn8_apply (w : Fin 8 → FVec Ideal (S2 512 512) .f32) (u : Fin 1) (h : Fin 8) (i j : Fin 512) :
    attn8 (F := Ideal) w (ix4 u h i j) = w h (ix2 i j) := by
  have piece : ∀ (h : Fin 8) (inb) (x : S1x1x512x512.Idx), outHead (F := Ideal) (w h) x
      = heads w ((Rect.unit (s := S1x8x512x512) ![0, h.val, 0, 0] S1x1x512x512.size inb).emb x) := by
    intro h inb x
    have e : x = ix4 (n0 := 1) (n1 := 1) (n2 := 512) (n3 := 512) (x 0) (x 1) (x 2) (x 3) := by
      funext d; match d with
      | ⟨0, _⟩ => rfl
      | ⟨1, _⟩ => rfl
      | ⟨2, _⟩ => rfl
      | ⟨3, _⟩ => rfl
    have e1 : (Rect.unit (s := S1x8x512x512) ![0, h.val, 0, 0] S1x1x512x512.size inb).emb x 1 = h := by
      apply Fin.ext
      show h.val + 1 * (x 1).val = h.val
      have h1 : (x 1).val < 1 := (x 1).isLt
      omega
    have e2 : (Rect.unit (s := S1x8x512x512) ![0, h.val, 0, 0] S1x1x512x512.size inb).emb x 2 = x 2 := by
      apply Fin.ext
      show 0 + 1 * (x 2).val = (x 2).val
      omega
    have e3 : (Rect.unit (s := S1x8x512x512) ![0, h.val, 0, 0] S1x1x512x512.size inb).emb x 3 = x 3 := by
      apply Fin.ext
      show 0 + 1 * (x 3).val = (x 3).val
      omega
    unfold heads
    rw [e1, e2, e3]
    exact (congrArg (outHead (F := Ideal) (w h)) e).trans (outHead_apply (w h) (x 0) (x 1) (x 2) (x 3))
  have inb : ∀ (h : Fin 8) (a : Fin 4), (![0, h.val, 0, 0] : Fin 4 → ℕ) a + S1x1x512x512.size a ≤ S1x8x512x512.size a := by decide
  refine View.canon_apply_of_pieces (heads w) _ (fun p hp => ?_) (ix4 u h i j)
    (Cert.KernelIdeal.Hand.cover2_34 _ _ _ _ _ _ _ _ (ix4 u h i j))
  revert p
  exact View.PiecesOf.mem ⟨piece 7 (inb 7), piece 6 (inb 6), piece 5 (inb 5), piece 4 (inb 4), piece 3 (inb 3), piece 2 (inb 2), piece 1 (inb 1), piece 0 (inb 0), trivial⟩

end Cert.Values

end
-- ==== Proof.Inputs.lean ====
/-
  The programs' argument arrays and the real numbers they hold, and what the model makes of them.
-/
module

public import proofs.«01_k».proof.Proof.Ops

@[expose] public section

noncomputable section

namespace Cert.Inputs

open Idealize.ShloMosaic Cert.Model Cert.Ops

/-! ## Stacks of matrices and of rows -/

/-- An array of matrices. -/
abbrev S3 (p a b : ℕ) : Shape := ⟨3, ![p, a, b]⟩

/-- An array of matrices holds the reals of `x`. -/
def Is3 {p a b : ℕ} (X : (S3 p a b).Idx → EReal) (x : Fin p → Mat a b) : Prop := ∀ l i j, X (ValueIdx.ix3 l i j) = (x l i j : EReal)

/-- An array of rows holds the reals of `x`. -/
def IsRows {p b : ℕ} (X : (S3 p 1 b).Idx → EReal) (x : Fin p → Fin b → ℝ) : Prop := ∀ l j, X (ValueIdx.ix3 l 0 j) = (x l j : EReal)

/-- A row holds the reals of `x`. -/
def Is1 {a : ℕ} (X : (S1 a).Idx → EReal) (x : Fin a → ℝ) : Prop := ∀ i, X (ValueIdx.ix1 i) = (x i : EReal)

/-- The array of those reals. -/
def arr2 {a b : ℕ} (x : Mat a b) : (S2 a b).Idx → EReal := fun i => (x (i 0) (i 1) : EReal)

def arr3 {p a b : ℕ} (x : Fin p → Mat a b) : (S3 p a b).Idx → EReal := fun i => (x (i 0) (i 1) (i 2) : EReal)

theorem arr3_is {p a b : ℕ} (x : Fin p → Mat a b) : Is3 (arr3 x) x := fun _ _ _ => rfl

/-- The array of a stack of stacks of matrices. -/
def arr4 {p q a b : ℕ} (w : Fin p → Fin q → Mat a b) : (⟨4, ![p, q, a, b]⟩ : Shape).Idx → EReal := fun i => (w (i 0) (i 1) (i 2) (i 3) : EReal)

/-! ## The model on the inputs -/

/-- The real numbers of the inputs: features, encoder rows, feature weights and biases, layers, classifier. -/
structure Reals where
  f : Fin 16 → Mat 512 1024
  s : Fin 16 → Mat 512 512
  w : Mat 1024 512
  b : Fin 512 → ℝ
  P : Fin 3 → LayerW
  T : TailW

namespace Reals

variable (R : Reals)

/-- A batch's rows after the feature product, -/
def x0 (β : Fin 16) : Mat 512 512 := lin (R.f β) R.w R.b

/-- and after one layer, -/
def x1 (β : Fin 16) : Mat 512 512 := layer (R.P 0) (R.x0 β) (R.s β)

/-- two -/
def x2 (β : Fin 16) : Mat 512 512 := layer (R.P 1) (R.x1 β) (R.s β)

/-- and three. -/
def x3 (β : Fin 16) : Mat 512 512 := layer (R.P 2) (R.x2 β) (R.s β)

/-- The last layer's attention weights to the encoder rows. -/
def attn (β : Fin 16) (h : Fin 8) : Mat 512 512 := weights (R.P 2).ea (half (R.P 2) (R.x2 β)) (R.s β) h

/-- The pooled rows. -/
def pooled : Mat 16 512 := fun β => pool (R.x3 β)

/-- The classifier's scores. -/
def label : Mat 16 2 := tail R.T R.pooled

end Reals

/-! ## The arrays -/

/-- The argument arrays, in the programs' order. -/
structure Arrays where
  a0 : (S3 16 512 1024).Idx → EReal
  a1 : (S3 16 512 512).Idx → EReal
  a2 : (S2 1024 512).Idx → EReal
  a3 : (S1 512).Idx → EReal
  a4 : (S3 3 512 512).Idx → EReal
  a5 : (S2 3 512).Idx → EReal
  a6 : (S3 3 512 512).Idx → EReal
  a7 : (S2 3 512).Idx → EReal
  a8 : (S3 3 512 512).Idx → EReal
  a9 : (S2 3 512).Idx → EReal
  a10 : (S3 3 512 512).Idx → EReal
  a11 : (S2 3 512).Idx → EReal
  a12 : (S3 3 512 512).Idx → EReal
  a13 : (S2 3 512).Idx → EReal
  a14 : (S3 3 512 512).Idx → EReal
  a15 : (S2 3 512).Idx → EReal
  a16 : (S3 3 512 512).Idx → EReal
  a17 : (S2 3 512).Idx → EReal
  a18 : (S3 3 512 512).Idx → EReal
  a19 : (S2 3 512).Idx → EReal
  a20 : (S3 3 512 2048).Idx → EReal
  a21 : (S2 3 2048).Idx → EReal
  a22 : (S3 3 2048 512).Idx → EReal
  a23 : (S2 3 512).Idx → EReal
  a24 : (S2 3 512).Idx → EReal
  a25 : (S2 3 512).Idx → EReal
  a26 : (S2 3 512).Idx → EReal
  a27 : (S2 3 512).Idx → EReal
  a28 : (S2 3 512).Idx → EReal
  a29 : (S2 3 512).Idx → EReal
  a30 : (S2 512 256).Idx → EReal
  a31 : (S1 256).Idx → EReal
  a32 : (S2 256 64).Idx → EReal
  a33 : (S1 64).Idx → EReal
  a34 : (S2 64 2).Idx → EReal
  a35 : (S1 2).Idx → EReal

/-- The arrays hold the reals of `R`. -/
structure Holds (A : Arrays) (R : Reals) : Prop where
  f : Is3 A.a0 R.f
  s : Is3 A.a1 R.s
  w : Is2 A.a2 R.w
  b : Is1 A.a3 R.b
  sa_wq : Is3 A.a4 fun l => (R.P l).sa.wq
  sa_bq : Is2 A.a5 fun l => (R.P l).sa.bq
  sa_wk : Is3 A.a6 fun l => (R.P l).sa.wk
  sa_bk : Is2 A.a7 fun l => (R.P l).sa.bk
  sa_wv : Is3 A.a8 fun l => (R.P l).sa.wv
  sa_bv : Is2 A.a9 fun l => (R.P l).sa.bv
  sa_wo : Is3 A.a10 fun l => (R.P l).sa.wo
  sa_bo : Is2 A.a11 fun l => (R.P l).sa.bo
  ea_wq : Is3 A.a12 fun l => (R.P l).ea.wq
  ea_bq : Is2 A.a13 fun l => (R.P l).ea.bq
  ea_wk : Is3 A.a14 fun l => (R.P l).ea.wk
  ea_bk : Is2 A.a15 fun l => (R.P l).ea.bk
  ea_wv : Is3 A.a16 fun l => (R.P l).ea.wv
  ea_bv : Is2 A.a17 fun l => (R.P l).ea.bv
  ea_wo : Is3 A.a18 fun l => (R.P l).ea.wo
  ea_bo : Is2 A.a19 fun l => (R.P l).ea.bo
  w1 : Is3 A.a20 fun l => (R.P l).w1
  b1 : Is2 A.a21 fun l => (R.P l).b1
  w2 : Is3 A.a22 fun l => (R.P l).w2
  b2 : Is2 A.a23 fun l => (R.P l).b2
  g1 : Is2 A.a24 fun l => (R.P l).g1
  c1 : Is2 A.a25 fun l => (R.P l).c1
  g2 : Is2 A.a26 fun l => (R.P l).g2
  c2 : Is2 A.a27 fun l => (R.P l).c2
  g3 : Is2 A.a28 fun l => (R.P l).g3
  c3 : Is2 A.a29 fun l => (R.P l).c3
  tw1 : Is2 A.a30 R.T.w1
  tb1 : Is1 A.a31 R.T.b1
  tw2 : Is2 A.a32 R.T.w2
  tb2 : Is1 A.a33 R.T.b2
  tw3 : Is2 A.a34 R.T.w3
  tb3 : Is1 A.a35 R.T.b3

/-- An array of finite numbers. -/
def Fin' {s : Shape} (X : s.Idx → EReal) : Prop := ∀ i, X i ≠ ⊤ ∧ X i ≠ ⊥

theorem real3 {p a b : ℕ} {X : (S3 p a b).Idx → EReal} (h : Fin' X) : Is3 X fun l i j => (X (ValueIdx.ix3 l i j)).toReal :=
  fun l i j => (EReal.coe_toReal (h _).1 (h _).2).symm

theorem real2 {a b : ℕ} {X : (S2 a b).Idx → EReal} (h : Fin' X) : Is2 X fun i j => (X (ValueIdx.ix2 i j)).toReal :=
  fun i j => (EReal.coe_toReal (h _).1 (h _).2).symm

theorem real1 {a : ℕ} {X : (S1 a).Idx → EReal} (h : Fin' X) : Is1 X fun i => (X (ValueIdx.ix1 i)).toReal :=
  fun i => (EReal.coe_toReal (h _).1 (h _).2).symm

/-- Every array is of finite numbers. -/
structure Finite (A : Arrays) : Prop where
  f0 : Fin' A.a0
  f1 : Fin' A.a1
  f2 : Fin' A.a2
  f3 : Fin' A.a3
  f4 : Fin' A.a4
  f5 : Fin' A.a5
  f6 : Fin' A.a6
  f7 : Fin' A.a7
  f8 : Fin' A.a8
  f9 : Fin' A.a9
  f10 : Fin' A.a10
  f11 : Fin' A.a11
  f12 : Fin' A.a12
  f13 : Fin' A.a13
  f14 : Fin' A.a14
  f15 : Fin' A.a15
  f16 : Fin' A.a16
  f17 : Fin' A.a17
  f18 : Fin' A.a18
  f19 : Fin' A.a19
  f20 : Fin' A.a20
  f21 : Fin' A.a21
  f22 : Fin' A.a22
  f23 : Fin' A.a23
  f24 : Fin' A.a24
  f25 : Fin' A.a25
  f26 : Fin' A.a26
  f27 : Fin' A.a27
  f28 : Fin' A.a28
  f29 : Fin' A.a29
  f30 : Fin' A.a30
  f31 : Fin' A.a31
  f32 : Fin' A.a32
  f33 : Fin' A.a33
  f34 : Fin' A.a34
  f35 : Fin' A.a35

/-- The reals of the arrays. -/
def Arrays.reals (A : Arrays) : Reals where
  f := fun l i j => (A.a0 (ValueIdx.ix3 l i j)).toReal
  s := fun l i j => (A.a1 (ValueIdx.ix3 l i j)).toReal
  w := fun i j => (A.a2 (ValueIdx.ix2 i j)).toReal
  b := fun i => (A.a3 (ValueIdx.ix1 i)).toReal
  P l := ⟨⟨fun i j => (A.a4 (ValueIdx.ix3 l i j)).toReal, fun j => (A.a5 (ValueIdx.ix2 l j)).toReal, fun i j => (A.a6 (ValueIdx.ix3 l i j)).toReal, fun j => (A.a7 (ValueIdx.ix2 l j)).toReal, fun i j => (A.a8 (ValueIdx.ix3 l i j)).toReal, fun j => (A.a9 (ValueIdx.ix2 l j)).toReal, fun i j => (A.a10 (ValueIdx.ix3 l i j)).toReal, fun j => (A.a11 (ValueIdx.ix2 l j)).toReal⟩,
    ⟨fun i j => (A.a12 (ValueIdx.ix3 l i j)).toReal, fun j => (A.a13 (ValueIdx.ix2 l j)).toReal, fun i j => (A.a14 (ValueIdx.ix3 l i j)).toReal, fun j => (A.a15 (ValueIdx.ix2 l j)).toReal, fun i j => (A.a16 (ValueIdx.ix3 l i j)).toReal, fun j => (A.a17 (ValueIdx.ix2 l j)).toReal, fun i j => (A.a18 (ValueIdx.ix3 l i j)).toReal, fun j => (A.a19 (ValueIdx.ix2 l j)).toReal⟩,
    fun i j => (A.a20 (ValueIdx.ix3 l i j)).toReal, fun j => (A.a21 (ValueIdx.ix2 l j)).toReal, fun i j => (A.a22 (ValueIdx.ix3 l i j)).toReal, fun j => (A.a23 (ValueIdx.ix2 l j)).toReal, fun j => (A.a24 (ValueIdx.ix2 l j)).toReal, fun j => (A.a25 (ValueIdx.ix2 l j)).toReal, fun j => (A.a26 (ValueIdx.ix2 l j)).toReal, fun j => (A.a27 (ValueIdx.ix2 l j)).toReal, fun j => (A.a28 (ValueIdx.ix2 l j)).toReal, fun j => (A.a29 (ValueIdx.ix2 l j)).toReal⟩
  T := ⟨fun i j => (A.a30 (ValueIdx.ix2 i j)).toReal, fun i => (A.a31 (ValueIdx.ix1 i)).toReal, fun i j => (A.a32 (ValueIdx.ix2 i j)).toReal, fun i => (A.a33 (ValueIdx.ix1 i)).toReal, fun i j => (A.a34 (ValueIdx.ix2 i j)).toReal, fun i => (A.a35 (ValueIdx.ix1 i)).toReal⟩

theorem Finite.holds {A : Arrays} (h : Finite A) : Holds A A.reals :=
  ⟨real3 h.f0, real3 h.f1, real2 h.f2, real1 h.f3, real3 h.f4, real2 h.f5, real3 h.f6, real2 h.f7, real3 h.f8, real2 h.f9, real3 h.f10, real2 h.f11, real3 h.f12, real2 h.f13, real3 h.f14, real2 h.f15, real3 h.f16, real2 h.f17, real3 h.f18, real2 h.f19, real3 h.f20, real2 h.f21, real3 h.f22, real2 h.f23, real2 h.f24, real2 h.f25, real2 h.f26, real2 h.f27, real2 h.f28, real2 h.f29, real2 h.f30, real1 h.f31, real2 h.f32, real1 h.f33, real2 h.f34, real1 h.f35⟩

end Cert.Inputs

end
-- ==== Proof.Launches.lean ====
/-
  The weights a launch works with: its weight windows' blocks hold one layer of the stacked weight arrays.
-/
module

public import proofs.«01_k».proof.Proof.Fold0
public import proofs.«01_k».proof.Proof.Tails
public import proofs.«01_k».proof.Proof.Inputs
public import Idealize.ShloMosaic.Lib.Pipeline.ValueKit

@[expose] public section

set_option maxRecDepth 16384

noncomputable section

namespace Cert.Launches

open Cert.KernelIdeal Cert.KernelIdeal.Gen Cert.KernelIdeal.Hand Cert.Model Cert.Ops Cert.Blocks Cert.Values
open Cert.Inputs (Is3 IsRows arr3 arr3_is)
open Idealize.ShloMosaic Idealize.ShloMosaic.TcCoe
open Idealize.ShloMosaic.Pipeline (Dat Cfg Window)

theorem wt {p a b : ℕ} {A : (S3 p a b).Idx → EReal} {w : Fin p → Mat a b} (l : Fin p) {Y : FVec Ideal (S3 1 a b) .f32} {h}
    (hA : Is3 A w) (hY : ∀ i j, Y (ValueIdx.ix3 0 i j) = A (ValueIdx.ix3 l i j)) : Is2 (un (F := Ideal) Y h) (w l) :=
  fun i j => ((un_apply Y h i j).trans (hY i j)).trans (hA l i j)

theorem bs {p b : ℕ} {A : (S3 p 1 b).Idx → EReal} {w : Fin p → Fin b → ℝ} (l : Fin p) {Y : FVec Ideal (S3 1 1 b) .f32} {h}
    (hA : IsRows A w) (hY : ∀ i j, Y (ValueIdx.ix3 0 i j) = A (ValueIdx.ix3 l i j)) : IsRow (un (F := Ideal) Y h) (w l) :=
  fun j => ((un_apply Y h 0 j).trans (hY 0 j)).trans (hA l j)

variable (V : (c : Dev nD) → (b : Ref sig .tc) → Buf (Elt Ideal) ((c : Thread nD τ).loc b)) (c : Dev nD)

/-- The weight arrays hold the reals of the three layers `P`. -/
structure Holds (P : Fin 3 → LayerW) : Prop where
  sa_wq : Is3 (p := 3) (a := 512) (b := 512) (V c main_arg4) fun l => (P l).sa.wq
  sa_bq : IsRows (p := 3) (b := 512) (V c main_v0) fun l => (P l).sa.bq
  sa_wk : Is3 (p := 3) (a := 512) (b := 512) (V c main_arg6) fun l => (P l).sa.wk
  sa_bk : IsRows (p := 3) (b := 512) (V c main_v1) fun l => (P l).sa.bk
  sa_wv : Is3 (p := 3) (a := 512) (b := 512) (V c main_arg8) fun l => (P l).sa.wv
  sa_bv : IsRows (p := 3) (b := 512) (V c main_v2) fun l => (P l).sa.bv
  sa_wo : Is3 (p := 3) (a := 512) (b := 512) (V c main_arg10) fun l => (P l).sa.wo
  sa_bo : IsRows (p := 3) (b := 512) (V c main_v3) fun l => (P l).sa.bo
  ea_wq : Is3 (p := 3) (a := 512) (b := 512) (V c main_arg12) fun l => (P l).ea.wq
  ea_bq : IsRows (p := 3) (b := 512) (V c main_v4) fun l => (P l).ea.bq
  ea_wk : Is3 (p := 3) (a := 512) (b := 512) (V c main_arg14) fun l => (P l).ea.wk
  ea_bk : IsRows (p := 3) (b := 512) (V c main_v5) fun l => (P l).ea.bk
  ea_wv : Is3 (p := 3) (a := 512) (b := 512) (V c main_arg16) fun l => (P l).ea.wv
  ea_bv : IsRows (p := 3) (b := 512) (V c main_v6) fun l => (P l).ea.bv
  ea_wo : Is3 (p := 3) (a := 512) (b := 512) (V c main_arg18) fun l => (P l).ea.wo
  ea_bo : IsRows (p := 3) (b := 512) (V c main_v7) fun l => (P l).ea.bo
  w1 : Is3 (p := 3) (a := 512) (b := 2048) (V c main_arg20) fun l => (P l).w1
  b1 : IsRows (p := 3) (b := 2048) (V c main_v8) fun l => (P l).b1
  w2 : Is3 (p := 3) (a := 2048) (b := 512) (V c main_arg22) fun l => (P l).w2
  b2 : IsRows (p := 3) (b := 512) (V c main_v9) fun l => (P l).b2
  g1 : IsRows (p := 3) (b := 512) (V c main_v10) fun l => (P l).g1
  c1 : IsRows (p := 3) (b := 512) (V c main_v11) fun l => (P l).c1
  g2 : IsRows (p := 3) (b := 512) (V c main_v12) fun l => (P l).g2
  c2 : IsRows (p := 3) (b := 512) (V c main_v13) fun l => (P l).c2
  g3 : IsRows (p := 3) (b := 512) (V c main_v14) fun l => (P l).g3
  c3 : IsRows (p := 3) (b := 512) (V c main_v15) fun l => (P l).c3

variable {V c}

/-- Launch 0's weight windows stay at layer 0. -/
theorem at0q : ∀ t, win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] := by decide +kernel

theorem at0k : ∀ t, win0_12.index t = ![0, 0, 0] ∧ win0_13.index t = ![0, 0, 0] ∧ win0_14.index t = ![0, 0, 0] ∧ win0_15.index t = ![0, 0, 0] ∧ win0_16.index t = ![0, 0, 0] ∧ win0_17.index t = ![0, 0, 0] ∧ win0_18.index t = ![0, 0, 0] ∧ win0_19.index t = ![0, 0, 0] := by decide +kernel

theorem at0f : ∀ t, win0_20.index t = ![0, 0, 0] ∧ win0_21.index t = ![0, 0, 0] ∧ win0_22.index t = ![0, 0, 0] ∧ win0_23.index t = ![0, 0, 0] ∧ win0_24.index t = ![0, 0, 0] ∧ win0_25.index t = ![0, 0, 0] ∧ win0_26.index t = ![0, 0, 0] ∧ win0_27.index t = ![0, 0, 0] ∧ win0_28.index t = ![0, 0, 0] ∧ win0_29.index t = ![0, 0, 0] := by decide +kernel

set_option maxHeartbeats 4000000 in
/-- Launch 0 works with the weights of layer 0. -/
theorem par0 {P : Fin 3 → LayerW} (hP : Holds V c P) (t : Fin cfg0.N) :
    IsLayer (kPar (kAtt (iblk0 V c 4 t) (iblk0 V c 5 t) (iblk0 V c 6 t) (iblk0 V c 7 t) (iblk0 V c 8 t) (iblk0 V c 9 t) (iblk0 V c 10 t) (iblk0 V c 11 t)) (kAtt (iblk0 V c 12 t) (iblk0 V c 13 t) (iblk0 V c 14 t) (iblk0 V c 15 t) (iblk0 V c 16 t) (iblk0 V c 17 t) (iblk0 V c 18 t) (iblk0 V c 19 t)) (iblk0 V c 20 t) (iblk0 V c 21 t) (iblk0 V c 22 t) (iblk0 V c 23 t) (iblk0 V c 24 t) (iblk0 V c 25 t) (iblk0 V c 26 t) (iblk0 V c 27 t) (iblk0 V c 28 t) (iblk0 V c 29 t)) (P 0) := by
  unfold kPar kAtt
  refine ⟨⟨?_, ?_, ?_, ?_, ?_, ?_, ?_, ?_⟩, ⟨?_, ?_, ?_, ?_, ?_, ?_, ?_, ?_⟩, ?_, ?_, ?_, ?_, ?_, ?_, ?_, ?_, ?_, ?_⟩
  all_goals dsimp only
  · refine wt 0 hP.sa_wq ?_
    intro i j; blk_ext [iblk0, at0q t] <;> rfl
  · refine bs 0 hP.sa_bq ?_
    intro i j; blk_ext [iblk0, at0q t] <;> rfl
  · refine wt 0 hP.sa_wk ?_
    intro i j; blk_ext [iblk0, at0q t] <;> rfl
  · refine bs 0 hP.sa_bk ?_
    intro i j; blk_ext [iblk0, at0q t] <;> rfl
  · refine wt 0 hP.sa_wv ?_
    intro i j; blk_ext [iblk0, at0q t] <;> rfl
  · refine bs 0 hP.sa_bv ?_
    intro i j; blk_ext [iblk0, at0q t] <;> rfl
  · refine wt 0 hP.sa_wo ?_
    intro i j; blk_ext [iblk0, at0q t] <;> rfl
  · refine bs 0 hP.sa_bo ?_
    intro i j; blk_ext [iblk0, at0q t] <;> rfl
  · refine wt 0 hP.ea_wq ?_
    intro i j; blk_ext [iblk0, at0k t] <;> rfl
  · refine bs 0 hP.ea_bq ?_
    intro i j; blk_ext [iblk0, at0k t] <;> rfl
  · refine wt 0 hP.ea_wk ?_
    intro i j; blk_ext [iblk0, at0k t] <;> rfl
  · refine bs 0 hP.ea_bk ?_
    intro i j; blk_ext [iblk0, at0k t] <;> rfl
  · refine wt 0 hP.ea_wv ?_
    intro i j; blk_ext [iblk0, at0k t] <;> rfl
  · refine bs 0 hP.ea_bv ?_
    intro i j; blk_ext [iblk0, at0k t] <;> rfl
  · refine wt 0 hP.ea_wo ?_
    intro i j; blk_ext [iblk0, at0k t] <;> rfl
  · refine bs 0 hP.ea_bo ?_
    intro i j; blk_ext [iblk0, at0k t] <;> rfl
  · refine wt 0 hP.w1 ?_
    intro i j; blk_ext [iblk0, at0f t] <;> rfl
  · refine bs 0 hP.b1 ?_
    intro i j; blk_ext [iblk0, at0f t] <;> rfl
  · refine wt 0 hP.w2 ?_
    intro i j; blk_ext [iblk0, at0f t] <;> rfl
  · refine bs 0 hP.b2 ?_
    intro i j; blk_ext [iblk0, at0f t] <;> rfl
  · refine bs 0 hP.g1 ?_
    intro i j; blk_ext [iblk0, at0f t] <;> rfl
  · refine bs 0 hP.c1 ?_
    intro i j; blk_ext [iblk0, at0f t] <;> rfl
  · refine bs 0 hP.g2 ?_
    intro i j; blk_ext [iblk0, at0f t] <;> rfl
  · refine bs 0 hP.c2 ?_
    intro i j; blk_ext [iblk0, at0f t] <;> rfl
  · refine bs 0 hP.g3 ?_
    intro i j; blk_ext [iblk0, at0f t] <;> rfl
  · refine bs 0 hP.c3 ?_
    intro i j; blk_ext [iblk0, at0f t] <;> rfl

/-- Launch 1's weight windows stay at layer 1. -/
theorem at1q : ∀ t, win1_2.index t = ![1, 0, 0] ∧ win1_3.index t = ![1, 0, 0] ∧ win1_4.index t = ![1, 0, 0] ∧ win1_5.index t = ![1, 0, 0] ∧ win1_6.index t = ![1, 0, 0] ∧ win1_7.index t = ![1, 0, 0] ∧ win1_8.index t = ![1, 0, 0] ∧ win1_9.index t = ![1, 0, 0] := by decide +kernel

theorem at1k : ∀ t, win1_10.index t = ![1, 0, 0] ∧ win1_11.index t = ![1, 0, 0] ∧ win1_12.index t = ![1, 0, 0] ∧ win1_13.index t = ![1, 0, 0] ∧ win1_14.index t = ![1, 0, 0] ∧ win1_15.index t = ![1, 0, 0] ∧ win1_16.index t = ![1, 0, 0] ∧ win1_17.index t = ![1, 0, 0] := by decide +kernel

theorem at1f : ∀ t, win1_18.index t = ![1, 0, 0] ∧ win1_19.index t = ![1, 0, 0] ∧ win1_20.index t = ![1, 0, 0] ∧ win1_21.index t = ![1, 0, 0] ∧ win1_22.index t = ![1, 0, 0] ∧ win1_23.index t = ![1, 0, 0] ∧ win1_24.index t = ![1, 0, 0] ∧ win1_25.index t = ![1, 0, 0] ∧ win1_26.index t = ![1, 0, 0] ∧ win1_27.index t = ![1, 0, 0] := by decide +kernel

set_option maxHeartbeats 4000000 in
/-- Launch 1 works with the weights of layer 1. -/
theorem par1 {P : Fin 3 → LayerW} (hP : Holds V c P) (t : Fin cfg1.N) :
    IsLayer (kPar (kAtt (iblk1 V c 2 t) (iblk1 V c 3 t) (iblk1 V c 4 t) (iblk1 V c 5 t) (iblk1 V c 6 t) (iblk1 V c 7 t) (iblk1 V c 8 t) (iblk1 V c 9 t)) (kAtt (iblk1 V c 10 t) (iblk1 V c 11 t) (iblk1 V c 12 t) (iblk1 V c 13 t) (iblk1 V c 14 t) (iblk1 V c 15 t) (iblk1 V c 16 t) (iblk1 V c 17 t)) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t)) (P 1) := by
  unfold kPar kAtt
  refine ⟨⟨?_, ?_, ?_, ?_, ?_, ?_, ?_, ?_⟩, ⟨?_, ?_, ?_, ?_, ?_, ?_, ?_, ?_⟩, ?_, ?_, ?_, ?_, ?_, ?_, ?_, ?_, ?_, ?_⟩
  all_goals dsimp only
  · refine wt 1 hP.sa_wq ?_
    intro i j; blk_ext [iblk1, at1q t] <;> rfl
  · refine bs 1 hP.sa_bq ?_
    intro i j; blk_ext [iblk1, at1q t] <;> rfl
  · refine wt 1 hP.sa_wk ?_
    intro i j; blk_ext [iblk1, at1q t] <;> rfl
  · refine bs 1 hP.sa_bk ?_
    intro i j; blk_ext [iblk1, at1q t] <;> rfl
  · refine wt 1 hP.sa_wv ?_
    intro i j; blk_ext [iblk1, at1q t] <;> rfl
  · refine bs 1 hP.sa_bv ?_
    intro i j; blk_ext [iblk1, at1q t] <;> rfl
  · refine wt 1 hP.sa_wo ?_
    intro i j; blk_ext [iblk1, at1q t] <;> rfl
  · refine bs 1 hP.sa_bo ?_
    intro i j; blk_ext [iblk1, at1q t] <;> rfl
  · refine wt 1 hP.ea_wq ?_
    intro i j; blk_ext [iblk1, at1k t] <;> rfl
  · refine bs 1 hP.ea_bq ?_
    intro i j; blk_ext [iblk1, at1k t] <;> rfl
  · refine wt 1 hP.ea_wk ?_
    intro i j; blk_ext [iblk1, at1k t] <;> rfl
  · refine bs 1 hP.ea_bk ?_
    intro i j; blk_ext [iblk1, at1k t] <;> rfl
  · refine wt 1 hP.ea_wv ?_
    intro i j; blk_ext [iblk1, at1k t] <;> rfl
  · refine bs 1 hP.ea_bv ?_
    intro i j; blk_ext [iblk1, at1k t] <;> rfl
  · refine wt 1 hP.ea_wo ?_
    intro i j; blk_ext [iblk1, at1k t] <;> rfl
  · refine bs 1 hP.ea_bo ?_
    intro i j; blk_ext [iblk1, at1k t] <;> rfl
  · refine wt 1 hP.w1 ?_
    intro i j; blk_ext [iblk1, at1f t] <;> rfl
  · refine bs 1 hP.b1 ?_
    intro i j; blk_ext [iblk1, at1f t] <;> rfl
  · refine wt 1 hP.w2 ?_
    intro i j; blk_ext [iblk1, at1f t] <;> rfl
  · refine bs 1 hP.b2 ?_
    intro i j; blk_ext [iblk1, at1f t] <;> rfl
  · refine bs 1 hP.g1 ?_
    intro i j; blk_ext [iblk1, at1f t] <;> rfl
  · refine bs 1 hP.c1 ?_
    intro i j; blk_ext [iblk1, at1f t] <;> rfl
  · refine bs 1 hP.g2 ?_
    intro i j; blk_ext [iblk1, at1f t] <;> rfl
  · refine bs 1 hP.c2 ?_
    intro i j; blk_ext [iblk1, at1f t] <;> rfl
  · refine bs 1 hP.g3 ?_
    intro i j; blk_ext [iblk1, at1f t] <;> rfl
  · refine bs 1 hP.c3 ?_
    intro i j; blk_ext [iblk1, at1f t] <;> rfl

/-- Launch 2's weight windows stay at layer 2. -/
theorem at2q : ∀ t, win2_2.index t = ![2, 0, 0] ∧ win2_3.index t = ![2, 0, 0] ∧ win2_4.index t = ![2, 0, 0] ∧ win2_5.index t = ![2, 0, 0] ∧ win2_6.index t = ![2, 0, 0] ∧ win2_7.index t = ![2, 0, 0] ∧ win2_8.index t = ![2, 0, 0] ∧ win2_9.index t = ![2, 0, 0] := by decide +kernel

theorem at2k : ∀ t, win2_10.index t = ![2, 0, 0] ∧ win2_11.index t = ![2, 0, 0] ∧ win2_12.index t = ![2, 0, 0] ∧ win2_13.index t = ![2, 0, 0] ∧ win2_14.index t = ![2, 0, 0] ∧ win2_15.index t = ![2, 0, 0] ∧ win2_16.index t = ![2, 0, 0] ∧ win2_17.index t = ![2, 0, 0] := by decide +kernel

theorem at2f : ∀ t, win2_18.index t = ![2, 0, 0] ∧ win2_19.index t = ![2, 0, 0] ∧ win2_20.index t = ![2, 0, 0] ∧ win2_21.index t = ![2, 0, 0] ∧ win2_22.index t = ![2, 0, 0] ∧ win2_23.index t = ![2, 0, 0] ∧ win2_24.index t = ![2, 0, 0] ∧ win2_25.index t = ![2, 0, 0] ∧ win2_26.index t = ![2, 0, 0] ∧ win2_27.index t = ![2, 0, 0] := by decide +kernel

set_option maxHeartbeats 4000000 in
/-- Launch 2 works with the weights of layer 2. -/
theorem par2 {P : Fin 3 → LayerW} (hP : Holds V c P) (t : Fin cfg2.N) :
    IsLayer (kPar (kAtt (iblk2 V c 2 t) (iblk2 V c 3 t) (iblk2 V c 4 t) (iblk2 V c 5 t) (iblk2 V c 6 t) (iblk2 V c 7 t) (iblk2 V c 8 t) (iblk2 V c 9 t)) (kAtt (iblk2 V c 10 t) (iblk2 V c 11 t) (iblk2 V c 12 t) (iblk2 V c 13 t) (iblk2 V c 14 t) (iblk2 V c 15 t) (iblk2 V c 16 t) (iblk2 V c 17 t)) (iblk2 V c 18 t) (iblk2 V c 19 t) (iblk2 V c 20 t) (iblk2 V c 21 t) (iblk2 V c 22 t) (iblk2 V c 23 t) (iblk2 V c 24 t) (iblk2 V c 25 t) (iblk2 V c 26 t) (iblk2 V c 27 t)) (P 2) := by
  unfold kPar kAtt
  refine ⟨⟨?_, ?_, ?_, ?_, ?_, ?_, ?_, ?_⟩, ⟨?_, ?_, ?_, ?_, ?_, ?_, ?_, ?_⟩, ?_, ?_, ?_, ?_, ?_, ?_, ?_, ?_, ?_, ?_⟩
  all_goals dsimp only
  · refine wt 2 hP.sa_wq ?_
    intro i j; blk_ext [iblk2, at2q t] <;> rfl
  · refine bs 2 hP.sa_bq ?_
    intro i j; blk_ext [iblk2, at2q t] <;> rfl
  · refine wt 2 hP.sa_wk ?_
    intro i j; blk_ext [iblk2, at2q t] <;> rfl
  · refine bs 2 hP.sa_bk ?_
    intro i j; blk_ext [iblk2, at2q t] <;> rfl
  · refine wt 2 hP.sa_wv ?_
    intro i j; blk_ext [iblk2, at2q t] <;> rfl
  · refine bs 2 hP.sa_bv ?_
    intro i j; blk_ext [iblk2, at2q t] <;> rfl
  · refine wt 2 hP.sa_wo ?_
    intro i j; blk_ext [iblk2, at2q t] <;> rfl
  · refine bs 2 hP.sa_bo ?_
    intro i j; blk_ext [iblk2, at2q t] <;> rfl
  · refine wt 2 hP.ea_wq ?_
    intro i j; blk_ext [iblk2, at2k t] <;> rfl
  · refine bs 2 hP.ea_bq ?_
    intro i j; blk_ext [iblk2, at2k t] <;> rfl
  · refine wt 2 hP.ea_wk ?_
    intro i j; blk_ext [iblk2, at2k t] <;> rfl
  · refine bs 2 hP.ea_bk ?_
    intro i j; blk_ext [iblk2, at2k t] <;> rfl
  · refine wt 2 hP.ea_wv ?_
    intro i j; blk_ext [iblk2, at2k t] <;> rfl
  · refine bs 2 hP.ea_bv ?_
    intro i j; blk_ext [iblk2, at2k t] <;> rfl
  · refine wt 2 hP.ea_wo ?_
    intro i j; blk_ext [iblk2, at2k t] <;> rfl
  · refine bs 2 hP.ea_bo ?_
    intro i j; blk_ext [iblk2, at2k t] <;> rfl
  · refine wt 2 hP.w1 ?_
    intro i j; blk_ext [iblk2, at2f t] <;> rfl
  · refine bs 2 hP.b1 ?_
    intro i j; blk_ext [iblk2, at2f t] <;> rfl
  · refine wt 2 hP.w2 ?_
    intro i j; blk_ext [iblk2, at2f t] <;> rfl
  · refine bs 2 hP.b2 ?_
    intro i j; blk_ext [iblk2, at2f t] <;> rfl
  · refine bs 2 hP.g1 ?_
    intro i j; blk_ext [iblk2, at2f t] <;> rfl
  · refine bs 2 hP.c1 ?_
    intro i j; blk_ext [iblk2, at2f t] <;> rfl
  · refine bs 2 hP.g2 ?_
    intro i j; blk_ext [iblk2, at2f t] <;> rfl
  · refine bs 2 hP.c2 ?_
    intro i j; blk_ext [iblk2, at2f t] <;> rfl
  · refine bs 2 hP.g3 ?_
    intro i j; blk_ext [iblk2, at2f t] <;> rfl
  · refine bs 2 hP.c3 ?_
    intro i j; blk_ext [iblk2, at2f t] <;> rfl

end Cert.Launches

end
-- ==== Proof.Steps.lean ====
/-
  The launches over the reals. Each launch's output array, given that the arrays it enters with hold real numbers: the
  first launch leaves the features' product through the first layer, the second the second layer, the third the
  attention weights of the third layer, the pooled rows and the classifier's scores.
-/
module

public import proofs.«01_k».proof.Proof.Launches

@[expose] public section

set_option maxRecDepth 16384

noncomputable section

namespace Cert.Launches

open Cert.KernelIdeal Cert.KernelIdeal.Gen Cert.KernelIdeal.Hand Cert.Model Cert.Ops Cert.Blocks Cert.Values
open Cert.Inputs (Is3 IsRows arr3 arr3_is arr4)
open Idealize.ShloMosaic Idealize.ShloMosaic.TcCoe
open Idealize.ShloMosaic.Pipeline (Dat Cfg Window)

variable {V : (c : Dev nD) → (b : Ref sig .tc) → Buf (Elt Ideal) ((c : Thread nD τ).loc b)} {c : Dev nD}

/-! ## The second launch -/

theorem in1 : ∀ t, win1_0.index t = ![t.val, 0, 0] ∧ win1_1.index t = ![t.val, 0, 0] ∧ win1_28.index t = ![t.val, 0, 0] := by decide +kernel

/-- Batch `β` of block `t`. -/
def twoAt (t : ℕ) (ht : t < 8) (β : Fin 2) : Fin 16 := ⟨2 * t + β.val, by omega⟩

theorem x1_is {x : Fin 16 → Mat 512 512} (hx : Is3 (p := 16) (a := 512) (b := 512) (V c main_v20) x) (t : Fin cfg1.N) (β : Fin 2) (i j : Fin 512) :
    iblk1 V c 0 t (ValueIdx.ix3 β i j) = (x (twoAt t.val t.isLt β) i j : EReal) := by
  refine Eq.trans ?_ (hx _ i j)
  blk_ext [iblk1, in1 t]
  show t.val * 2 + β.val = 2 * t.val + β.val
  omega

theorem s1_is {s : Fin 16 → Mat 512 512} (hs : Is3 (p := 16) (a := 512) (b := 512) (V c main_arg1) s) (t : Fin cfg1.N) (β : Fin 2) (i j : Fin 512) :
    iblk1 V c 1 t (ValueIdx.ix3 β i j) = (s (twoAt t.val t.isLt β) i j : EReal) := by
  refine Eq.trans ?_ (hs _ i j)
  blk_ext [iblk1, in1 t]
  show t.val * 2 + β.val = 2 * t.val + β.val
  omega

/-- The second launch leaves the second layer. -/
theorem launch1_is {P : Fin 3 → LayerW} (hP : Holds V c P) {x s : Fin 16 → Mat 512 512}
    (hx : Is3 (p := 16) (a := 512) (b := 512) (V c main_v20) x) (hs : Is3 (p := 16) (a := 512) (b := 512) (V c main_arg1) s) :
    (dat1 V c).arrAt 28 cfg1.N = arr3 fun β => layer (P 1) (x β) (s β) := by
  refine (dat1 V c).arrAt_eq_of_covers 28 _ (by decide +kernel) fun t hf y => ?_
  blk_simp
  rw [after1_28, out1_eq, again2_eq]
  refine (congrArg _ (ValueIdx.eq_ix3 y)).trans ((split2_is (layer2_is (par1 hP t) (stack2_is (x1_is hx t)) (stack2_is (s1_is hs t))) (y 0) (y 1) (y 2)).trans ?_)
  refine (arr3_is (fun β => layer (P 1) (x β) (s β)) (twoAt t.val t.isLt (y 0)) (y 1) (y 2)).symm.trans (congrArg _ ?_)
  blk_ext [in1 t]
  show 2 * t.val + (y 0).val = t.val * 2 + (y 0).val
  omega

/-! ## The first launch -/

theorem in0 : ∀ t, win0_0.index t = ![t.val, 0, 0] ∧ win0_1.index t = ![0, 0] ∧ win0_2.index t = ![0, 0] ∧ win0_3.index t = ![t.val, 0, 0] ∧ win0_30.index t = ![t.val, 0, 0] := by decide +kernel

theorem x0_is {x : Fin 16 → Mat 512 1024} (hx : Is3 (p := 16) (a := 512) (b := 1024) (V c main_arg0) x) (t : Fin cfg0.N) (β : Fin 2) (i : Fin 512) (j : Fin 1024) :
    iblk0 V c 0 t (ValueIdx.ix3 β i j) = (x (twoAt t.val t.isLt β) i j : EReal) := by
  refine Eq.trans ?_ (hx _ i j)
  blk_ext [iblk0, in0 t]
  show t.val * 2 + β.val = 2 * t.val + β.val
  omega

theorem s0_is {s : Fin 16 → Mat 512 512} (hs : Is3 (p := 16) (a := 512) (b := 512) (V c main_arg1) s) (t : Fin cfg0.N) (β : Fin 2) (i j : Fin 512) :
    iblk0 V c 3 t (ValueIdx.ix3 β i j) = (s (twoAt t.val t.isLt β) i j : EReal) := by
  refine Eq.trans ?_ (hs _ i j)
  blk_ext [iblk0, in0 t]
  show t.val * 2 + β.val = 2 * t.val + β.val
  omega

theorem w0_is {w : Mat 1024 512} (hw : Is2 (a := 1024) (b := 512) (V c main_arg2) w) (t : Fin cfg0.N) : Is2 (a := 1024) (b := 512) (iblk0 V c 1 t) w := by
  intro i j
  refine Eq.trans ?_ (hw i j)
  blk_ext [iblk0, in0 t]

theorem b0_is {b : Fin 512 → ℝ} (hb : IsRow (b := 512) (V c main_v16) b) (t : Fin cfg0.N) : IsRow (b := 512) (bias0 (F := Ideal) (iblk0 V c 2 t)) b := by
  intro j
  rw [show bias0 (F := Ideal) (iblk0 V c 2 t) = iblk0 V c 2 t from rowOf_eq _ _]
  refine Eq.trans ?_ (hb j)
  blk_ext [iblk0, in0 t]

/-- The first launch leaves the first layer on the features' product. -/
theorem launch0_is {P : Fin 3 → LayerW} (hP : Holds V c P) {f : Fin 16 → Mat 512 1024} {s : Fin 16 → Mat 512 512} {w : Mat 1024 512} {b : Fin 512 → ℝ}
    (hf : Is3 (p := 16) (a := 512) (b := 1024) (V c main_arg0) f) (hw : Is2 (a := 1024) (b := 512) (V c main_arg2) w)
    (hb : IsRow (b := 512) (V c main_v16) b) (hs : Is3 (p := 16) (a := 512) (b := 512) (V c main_arg1) s) :
    (dat0 V c).arrAt 30 cfg0.N = arr3 fun β => layer (P 0) (lin (f β) w b) (s β) := by
  refine (dat0 V c).arrAt_eq_of_covers 30 _ (by decide +kernel) fun t _ y => ?_
  blk_simp
  rw [after0_30, out0_eq]
  have hX : Is2 (kFeat (F := Ideal) (iblk0 V c 0 t) (iblk0 V c 1 t) (iblk0 V c 2 t)) (pile fun β => lin (f (twoAt t.val t.isLt β)) w b) :=
    lin_is rows2.bias (feat2_is (x0_is hf t)) (w0_is hw t) (b0_is hb t)
  refine (congrArg _ (ValueIdx.eq_ix3 y)).trans ((split2_is (layer2_is (par0 hP t) hX (stack2_is (s0_is hs t))) (y 0) (y 1) (y 2)).trans ?_)
  refine (arr3_is (fun β => layer (P 0) (lin (f β) w b) (s β)) (twoAt t.val t.isLt (y 0)) (y 1) (y 2)).symm.trans (congrArg _ ?_)
  blk_ext [in0 t]
  show 2 * t.val + (y 0).val = t.val * 2 + (y 0).val
  omega

/-! ## The third launch -/

theorem in2 : ∀ t, win2_0.index t = ![t.val, 0, 0] ∧ win2_1.index t = ![t.val, 0, 0] ∧ win2_34.index t = ![t.val, 0, 0, 0] ∧ win2_35.index t = ![t.val, 0, 0]
    ∧ win2_36.index t = ![t.val, 0, 0] := by decide +kernel

theorem cls2 : ∀ t, win2_28.index t = ![0, 0] ∧ win2_29.index t = ![0, 0] ∧ win2_30.index t = ![0, 0] ∧ win2_31.index t = ![0, 0]
    ∧ win2_32.index t = ![0, 0] ∧ win2_33.index t = ![0, 0] := by decide +kernel

/-- The batch of block `t`. -/
def oneAt (t : Fin cfg2.N) : Fin 16 := ⟨t.val, t.isLt⟩

theorem x2_is {x : Fin 16 → Mat 512 512} (hx : Is3 (p := 16) (a := 512) (b := 512) (V c main_v21) x) (t : Fin cfg2.N) :
    Is2 (one (F := Ideal) (again1 (F := Ideal) (iblk2 V c 0 t))) (x (oneAt t)) := by
  intro i j
  rw [again1_eq]
  refine (un_apply _ _ i j).trans (Eq.trans ?_ (hx _ i j))
  blk_ext [iblk2, in2 t]
  rfl

theorem s2_is {s : Fin 16 → Mat 512 512} (hs : Is3 (p := 16) (a := 512) (b := 512) (V c main_arg1) s) (t : Fin cfg2.N) :
    Is2 (one (F := Ideal) (iblk2 V c 1 t)) (s (oneAt t)) := by
  intro i j
  refine (un_apply _ _ i j).trans (Eq.trans ?_ (hs _ i j))
  blk_ext [iblk2, in2 t]
  rfl

variable (V c) in
/-- The classifier's arrays hold the reals of `T`. -/
structure HoldsTail (T : TailW) : Prop where
  w1 : Is2 (a := 512) (b := 256) (V c main_arg30) T.w1
  b1 : IsRow (b := 256) (V c main_v17) T.b1
  w2 : Is2 (a := 256) (b := 64) (V c main_arg32) T.w2
  b2 : IsRow (b := 64) (V c main_v18) T.b2
  w3 : Is2 (a := 64) (b := 2) (V c main_arg34) T.w3
  b3 : IsRow (b := 2) (V c main_v19) T.b3

set_option maxHeartbeats 2000000 in
theorem cls_is {T : TailW} (hT : HoldsTail V c T) (t : Fin cfg2.N) :
    IsTail (kCls (F := Ideal) (iblk2 V c 28 t) (iblk2 V c 29 t) (iblk2 V c 30 t) (iblk2 V c 31 t) (iblk2 V c 32 t) (iblk2 V c 33 t)) T := by
  unfold kCls
  rw [rowOf_eq, rowOf_eq, rowOf_eq]
  refine ⟨?_, ?_, ?_, ?_, ?_, ?_⟩ <;> dsimp only
  · intro i j; refine Eq.trans ?_ (hT.w1 i j); blk_ext [iblk2, cls2 t]
  · intro j; refine Eq.trans ?_ (hT.b1 j); blk_ext [iblk2, cls2 t]
  · intro i j; refine Eq.trans ?_ (hT.w2 i j); blk_ext [iblk2, cls2 t]
  · intro j; refine Eq.trans ?_ (hT.b2 j); blk_ext [iblk2, cls2 t]
  · intro i j; refine Eq.trans ?_ (hT.w3 i j); blk_ext [iblk2, cls2 t]
  · intro j; refine Eq.trans ?_ (hT.b3 j); blk_ext [iblk2, cls2 t]

/-- The third launch leaves the attention weights of the third layer, -/
theorem attn_is {P : Fin 3 → LayerW} (hP : Holds V c P) {x s : Fin 16 → Mat 512 512}
    (hx : Is3 (p := 16) (a := 512) (b := 512) (V c main_v21) x) (hs : Is3 (p := 16) (a := 512) (b := 512) (V c main_arg1) s) :
    (dat2 V c).arrAt 34 cfg2.N = arr4 (p := 16) (q := 8) (a := 512) (b := 512) fun β => weights (P 2).ea (half (P 2) (x β)) (s β) := by
  refine (dat2 V c).arrAt_eq_of_covers 34 _ (by decide +kernel) fun t _ y => ?_
  blk_simp
  rw [after2_34, attn_eq]
  refine (congrArg _ (ValueIdx.eq_ix4 y)).trans ((attn8_apply _ (y 0) (y 1) (y 2) (y 3)).trans
    ((weights1_is (par2 hP t) (x2_is hx t) (s2_is hs t) (y 1) (y 2) (y 3)).trans ?_))
  show arr4 (p := 16) (q := 8) (a := 512) (b := 512) (fun β => weights (P 2).ea (half (P 2) (x β)) (s β)) (ValueIdx.ix4 (oneAt t) (y 1) (y 2) (y 3)) = _
  refine congrArg _ ?_
  blk_ext [in2 t]
  rfl

/-- the pooled rows -/
theorem pooled_is {P : Fin 3 → LayerW} (hP : Holds V c P) {x s : Fin 16 → Mat 512 512}
    (hx : Is3 (p := 16) (a := 512) (b := 512) (V c main_v21) x) (hs : Is3 (p := 16) (a := 512) (b := 512) (V c main_arg1) s) :
    (dat2 V c).arrAt 35 cfg2.N = arr3 (p := 16) (a := 1) (b := 512) fun β _ => pool (layer (P 2) (x β) (s β)) := by
  refine (dat2 V c).arrAt_eq_of_covers 35 _ (by decide +kernel) fun t _ y => ?_
  blk_simp
  rw [after2_35, pool_eq]
  have h : (y 0).val < 1 := (y 0).isLt
  have h1 : y 1 = (0 : Fin 1) := Subsingleton.elim (α := Fin 1) _ _
  refine (congrArg _ (ValueIdx.eq_ix3 y)).trans ((outRow_apply _ (y 0) (y 1) (y 2)).trans ?_)
  rw [h1]
  refine (pool_is (layer1_is (par2 hP t) (x2_is hx t) (s2_is hs t)) (y 2)).trans ?_
  show arr3 (p := 16) (a := 1) (b := 512) (fun β _ => pool (layer (P 2) (x β) (s β))) (ValueIdx.ix3 (oneAt t) (y 1) (y 2)) = _
  refine congrArg _ ?_
  blk_ext [in2 t]
  rfl

/-- and the classifier's scores. -/
theorem scores_is {P : Fin 3 → LayerW} (hP : Holds V c P) {T : TailW} (hT : HoldsTail V c T) {x s : Fin 16 → Mat 512 512}
    (hx : Is3 (p := 16) (a := 512) (b := 512) (V c main_v21) x) (hs : Is3 (p := 16) (a := 512) (b := 512) (V c main_arg1) s) :
    (dat2 V c).arrAt 36 cfg2.N = arr3 (p := 16) (a := 1) (b := 2) fun β => tail T fun _ => pool (layer (P 2) (x β) (s β)) := by
  refine (dat2 V c).arrAt_eq_of_covers 36 _ (by decide +kernel) fun t _ y => ?_
  blk_simp
  rw [after2_36, label_eq]
  have h : (y 0).val < 1 := (y 0).isLt
  refine (congrArg _ (ValueIdx.eq_ix3 y)).trans ((outLabel_apply _ (y 0) (y 1) (y 2)).trans ?_)
  refine (tail_is (cls_is hT t) (pool_is (layer1_is (par2 hP t) (x2_is hx t) (s2_is hs t))) (y 1) (y 2)).trans ?_
  show arr3 (p := 16) (a := 1) (b := 2) (fun β => tail T fun _ => pool (layer (P 2) (x β) (s β))) (ValueIdx.ix3 (oneAt t) (y 1) (y 2)) = _
  refine congrArg _ ?_
  blk_ext [in2 t]
  rfl

end Cert.Launches

end
-- ==== Proof.Chain.lean ====
/-
  The launches one after the other: with the argument arrays holding real numbers, what the program's three results
  hold at its end.
-/
module

public import proofs.«01_k».proof.Proof.Steps
public import Idealize.ShloMosaic.Lib.Claim

@[expose] public section

set_option maxRecDepth 16384

noncomputable section

namespace Cert.Chain

open Cert.KernelIdeal Cert.KernelIdeal.Gen Cert.KernelIdeal.Hand Cert.Model Cert.Ops Cert.Launches
open Cert.Inputs hiding S3 Holds
open Idealize.ShloMosaic Idealize.ShloMosaic.TcCoe

variable (m : (ℓ : Loc nD τ sig) → Buf (Elt Ideal) ℓ) (ρ : Dev nD → PrngReg) (c : Dev nD)

/-- Core `c`'s argument arrays. -/
def args : Arrays where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)
  a22 := m ((c : Thread nD τ).loc main_arg22)
  a23 := m ((c : Thread nD τ).loc main_arg23)
  a24 := m ((c : Thread nD τ).loc main_arg24)
  a25 := m ((c : Thread nD τ).loc main_arg25)
  a26 := m ((c : Thread nD τ).loc main_arg26)
  a27 := m ((c : Thread nD τ).loc main_arg27)
  a28 := m ((c : Thread nD τ).loc main_arg28)
  a29 := m ((c : Thread nD τ).loc main_arg29)
  a30 := m ((c : Thread nD τ).loc main_arg30)
  a31 := m ((c : Thread nD τ).loc main_arg31)
  a32 := m ((c : Thread nD τ).loc main_arg32)
  a33 := m ((c : Thread nD τ).loc main_arg33)
  a34 := m ((c : Thread nD τ).loc main_arg34)
  a35 := m ((c : Thread nD τ).loc main_arg35)

/-! ## The rows as the launches take them -/

theorem row3 {p n : ℕ} (x : FVec Ideal (S2 p n) .f32) (h : (S2 p n).ShapeCasts (Cert.Inputs.S3 p 1 n)) {w : Fin p → Fin n → ℝ} (hx : Is2 x w) :
    IsRows (shapeCast (Cert.Inputs.S3 p 1 n) x h) w := by
  intro l j
  refine (shapeCast_apply x h _ (ValueIdx.ix2 l j) ?_).trans (hx l j)
  rw [Shape.rowMajor_val_two, Shape.rowMajor_val_three]
  show l.val * n + j.val = (l.val * 1 + 0) * n + j.val
  ring

theorem row1 {n : ℕ} (x : FVec Ideal (S1 n) .f32) (h : (S1 n).ShapeCasts (S2 1 n)) {w : Fin n → ℝ} (hx : Is1 x w) :
    IsRow (shapeCast (S2 1 n) x h) w :=
  fun j => (ValueIdx.shapeCast_a_1a_apply x h 0 j).trans (hx j)

theorem flat {p n : ℕ} {X : FVec Ideal (Cert.Inputs.S3 p 1 n) .f32} {x : Fin p → Mat 1 n} (h : (Cert.Inputs.S3 p 1 n).ShapeCasts (S2 p n)) (hX : X = arr3 x) :
    shapeCast (S2 p n) X h = arr2 fun β => x β 0 := by
  funext i
  refine (shapeCast_apply X h i (ValueIdx.ix3 (i 0) 0 (i 1)) ?_).trans (congrFun hX _)
  rw [Shape.rowMajor_val_two, Shape.rowMajor_val_three]
  show ((i 0).val * 1 + 0) * n + (i 1).val = (i 0).val * n + (i 1).val
  ring

/-! ## Contents carried along -/

theorem mv3 {p a b : ℕ} {X Y : (Cert.Inputs.S3 p a b).Idx → EReal} {w : Fin p → Mat a b} (e : X = Y) (h : Is3 Y w) : Is3 X w := e ▸ h

theorem mvRows {p b : ℕ} {X Y : (Cert.Inputs.S3 p 1 b).Idx → EReal} {w : Fin p → Fin b → ℝ} (e : X = Y) (h : IsRows Y w) : IsRows X w := e ▸ h

theorem mv2 {a b : ℕ} {X Y : (S2 a b).Idx → EReal} {w : Mat a b} (e : X = Y) (h : Is2 Y w) : Is2 X w := e ▸ h

theorem mvRow {b : ℕ} {X Y : (S2 1 b).Idx → EReal} {w : Fin b → ℝ} (e : X = Y) (h : IsRow Y w) : IsRow X w := e ▸ h

/-- The arrays of weights as the launches take them. -/
def weightRefs : List (Ref sig .tc) :=
  [main_arg4, main_v0, main_arg6, main_v1, main_arg8, main_v2, main_arg10, main_v3, main_arg12, main_v4, main_arg14, main_v5, main_arg16, main_v6, main_arg18, main_v7, main_arg20, main_v8, main_arg22, main_v9, main_v10, main_v11, main_v12, main_v13, main_v14, main_v15,
   main_arg30, main_v17, main_arg32, main_v18, main_arg34, main_v19]

theorem Holds.mono {V V' : (c : Dev nD) → (b : Ref sig .tc) → Buf (Elt Ideal) ((c : Thread nD τ).loc b)} {P : Fin 3 → LayerW}
    (h : Launches.Holds V c P) (e : ∀ r ∈ weightRefs, V' c r = V c r) : Launches.Holds V' c P :=
  ⟨mv3 (e main_arg4 (by decide)) h.sa_wq, mvRows (e main_v0 (by decide)) h.sa_bq, mv3 (e main_arg6 (by decide)) h.sa_wk, mvRows (e main_v1 (by decide)) h.sa_bk, mv3 (e main_arg8 (by decide)) h.sa_wv, mvRows (e main_v2 (by decide)) h.sa_bv, mv3 (e main_arg10 (by decide)) h.sa_wo, mvRows (e main_v3 (by decide)) h.sa_bo, mv3 (e main_arg12 (by decide)) h.ea_wq, mvRows (e main_v4 (by decide)) h.ea_bq, mv3 (e main_arg14 (by decide)) h.ea_wk, mvRows (e main_v5 (by decide)) h.ea_bk, mv3 (e main_arg16 (by decide)) h.ea_wv, mvRows (e main_v6 (by decide)) h.ea_bv, mv3 (e main_arg18 (by decide)) h.ea_wo, mvRows (e main_v7 (by decide)) h.ea_bo, mv3 (e main_arg20 (by decide)) h.w1, mvRows (e main_v8 (by decide)) h.b1, mv3 (e main_arg22 (by decide)) h.w2, mvRows (e main_v9 (by decide)) h.b2, mvRows (e main_v10 (by decide)) h.g1, mvRows (e main_v11 (by decide)) h.c1, mvRows (e main_v12 (by decide)) h.g2, mvRows (e main_v13 (by decide)) h.c2, mvRows (e main_v14 (by decide)) h.g3, mvRows (e main_v15 (by decide)) h.c3⟩

theorem HoldsTail.mono {V V' : (c : Dev nD) → (b : Ref sig .tc) → Buf (Elt Ideal) ((c : Thread nD τ).loc b)} {T : TailW}
    (h : HoldsTail V c T) (e : ∀ r ∈ weightRefs, V' c r = V c r) : HoldsTail V' c T :=
  ⟨mv2 (e main_arg30 (by decide)) h.w1, mvRow (e main_v17 (by decide)) h.b1, mv2 (e main_arg32 (by decide)) h.w2,
    mvRow (e main_v18 (by decide)) h.b2, mv2 (e main_arg34 (by decide)) h.w3, mvRow (e main_v19 (by decide)) h.b3⟩

theorem keep2 : ∀ r ∈ weightRefs, V2 m ρ c r = V1 m ρ c r :=
  fun r hr => W2_of m ρ c r ((show ∀ r ∈ weightRefs, ∀ w : Fin cfg0.W, Pipeline.arrRef spec0 w = r → (cfg0.win w).isOut = false from
    ListAll.forall_mem_of_all_decide (by decide +kernel)) r hr)

theorem keep3 : ∀ r ∈ weightRefs, V3 m ρ c r = V2 m ρ c r :=
  fun r hr => W3_of m ρ c r ((show ∀ r ∈ weightRefs, ∀ w : Fin cfg1.W, Pipeline.arrRef spec1 w = r → (cfg1.win w).isOut = false from
    ListAll.forall_mem_of_all_decide (by decide +kernel)) r hr)

/-! ## The first launch's entry -/

variable {m c} {R : Reals} (h : Cert.Inputs.Holds (args m c) R)
include ρ h

set_option maxHeartbeats 8000000 in
theorem weights1 : Launches.Holds (V1 m ρ) c R.P := by
  refine ⟨mv3 (W1_args m ρ c main_arg4 (by decide)) h.sa_wq, ?_, mv3 (W1_args m ρ c main_arg6 (by decide)) h.sa_wk, ?_, mv3 (W1_args m ρ c main_arg8 (by decide)) h.sa_wv, ?_, mv3 (W1_args m ρ c main_arg10 (by decide)) h.sa_wo, ?_, mv3 (W1_args m ρ c main_arg12 (by decide)) h.ea_wq, ?_, mv3 (W1_args m ρ c main_arg14 (by decide)) h.ea_wk, ?_, mv3 (W1_args m ρ c main_arg16 (by decide)) h.ea_wv, ?_, mv3 (W1_args m ρ c main_arg18 (by decide)) h.ea_wo, ?_, mv3 (W1_args m ρ c main_arg20 (by decide)) h.w1, ?_, mv3 (W1_args m ρ c main_arg22 (by decide)) h.w2, ?_, ?_, ?_, ?_, ?_, ?_, ?_⟩
  · show IsRows (StableHlo.after hostOps0 (W0 m ρ c) (Proc.devRef .tc main_v0)) _; entry_read; exact row3 _ _ h.sa_bq
  · show IsRows (StableHlo.after hostOps0 (W0 m ρ c) (Proc.devRef .tc main_v1)) _; entry_read; exact row3 _ _ h.sa_bk
  · show IsRows (StableHlo.after hostOps0 (W0 m ρ c) (Proc.devRef .tc main_v2)) _; entry_read; exact row3 _ _ h.sa_bv
  · show IsRows (StableHlo.after hostOps0 (W0 m ρ c) (Proc.devRef .tc main_v3)) _; entry_read; exact row3 _ _ h.sa_bo
  · show IsRows (StableHlo.after hostOps0 (W0 m ρ c) (Proc.devRef .tc main_v4)) _; entry_read; exact row3 _ _ h.ea_bq
  · show IsRows (StableHlo.after hostOps0 (W0 m ρ c) (Proc.devRef .tc main_v5)) _; entry_read; exact row3 _ _ h.ea_bk
  · show IsRows (StableHlo.after hostOps0 (W0 m ρ c) (Proc.devRef .tc main_v6)) _; entry_read; exact row3 _ _ h.ea_bv
  · show IsRows (StableHlo.after hostOps0 (W0 m ρ c) (Proc.devRef .tc main_v7)) _; entry_read; exact row3 _ _ h.ea_bo
  · show IsRows (StableHlo.after hostOps0 (W0 m ρ c) (Proc.devRef .tc main_v8)) _; entry_read; exact row3 _ _ h.b1
  · show IsRows (StableHlo.after hostOps0 (W0 m ρ c) (Proc.devRef .tc main_v9)) _; entry_read; exact row3 _ _ h.b2
  · show IsRows (StableHlo.after hostOps0 (W0 m ρ c) (Proc.devRef .tc main_v10)) _; entry_read; exact row3 _ _ h.g1
  · show IsRows (StableHlo.after hostOps0 (W0 m ρ c) (Proc.devRef .tc main_v11)) _; entry_read; exact row3 _ _ h.c1
  · show IsRows (StableHlo.after hostOps0 (W0 m ρ c) (Proc.devRef .tc main_v12)) _; entry_read; exact row3 _ _ h.g2
  · show IsRows (StableHlo.after hostOps0 (W0 m ρ c) (Proc.devRef .tc main_v13)) _; entry_read; exact row3 _ _ h.c2
  · show IsRows (StableHlo.after hostOps0 (W0 m ρ c) (Proc.devRef .tc main_v14)) _; entry_read; exact row3 _ _ h.g3
  · show IsRows (StableHlo.after hostOps0 (W0 m ρ c) (Proc.devRef .tc main_v15)) _; entry_read; exact row3 _ _ h.c3

theorem bias1 : IsRow (b := 512) (V1 m ρ c main_v16) R.b := by
  show IsRow (b := 512) (StableHlo.after hostOps0 (W0 m ρ c) (Proc.devRef .tc main_v16)) _; entry_read; exact row1 _ _ h.b

set_option maxHeartbeats 4000000 in
theorem tail1 : HoldsTail (V1 m ρ) c R.T := by
  refine ⟨mv2 (W1_args m ρ c main_arg30 (by decide)) h.tw1, ?_, mv2 (W1_args m ρ c main_arg32 (by decide)) h.tw2, ?_,
    mv2 (W1_args m ρ c main_arg34 (by decide)) h.tw3, ?_⟩
  · show IsRow (b := 256) (StableHlo.after hostOps0 (W0 m ρ c) (Proc.devRef .tc main_v17)) _; entry_read; exact row1 _ _ h.tb1
  · show IsRow (b := 64) (StableHlo.after hostOps0 (W0 m ρ c) (Proc.devRef .tc main_v18)) _; entry_read; exact row1 _ _ h.tb2
  · show IsRow (b := 2) (StableHlo.after hostOps0 (W0 m ρ c) (Proc.devRef .tc main_v19)) _; entry_read; exact row1 _ _ h.tb3

/-! ## The launches -/

theorem after0 : V2 m ρ c main_v20 = arr3 R.x1 :=
  (W2_arr m ρ c 30).trans (launch0_is (weights1 ρ h) (mv3 (W1_args m ρ c main_arg0 (by decide)) h.f)
    (mv2 (W1_args m ρ c main_arg2 (by decide)) h.w) (bias1 ρ h) (mv3 (W1_args m ρ c main_arg1 (by decide)) h.s))

theorem weights2 : Launches.Holds (V2 m ρ) c R.P := Holds.mono c (weights1 ρ h) (keep2 m ρ c)

theorem after1 : V3 m ρ c main_v21 = arr3 R.x2 :=
  (W3_arr m ρ c 28).trans (launch1_is (weights2 ρ h) (mv3 (after0 ρ h) (arr3_is _)) (mv3 (W2_args m ρ c main_arg1 (by decide)) h.s))

theorem weights3 : Launches.Holds (V3 m ρ) c R.P := Holds.mono c (weights2 ρ h) (keep3 m ρ c)

theorem tail3 : HoldsTail (V3 m ρ) c R.T := HoldsTail.mono c (HoldsTail.mono c (tail1 ρ h) (keep2 m ρ c)) (keep3 m ρ c)

theorem x_is : Is3 (p := 16) (a := 512) (b := 512) (V3 m ρ c main_v21) R.x2 := mv3 (after1 ρ h) (arr3_is _)

theorem s_is : Is3 (p := 16) (a := 512) (b := 512) (V3 m ρ c main_arg1) R.s := mv3 (W3_args m ρ c main_arg1 (by decide)) h.s

/-! ## The results -/

/-- The attention weights, -/
theorem attn : W5 m ρ c main_v22_0 = arr4 R.attn :=
  (W5_of m ρ c main_v22_0 (by decide)).trans ((W4_arr m ρ c 34).trans (attn_is (weights3 ρ h) (x_is ρ h) (s_is ρ h)))

/-- the pooled rows -/
theorem pooled : W5 m ρ c main_v23 = arr2 R.pooled := by
  have e : W4 m ρ c main_v22_1 = arr3 (p := 16) (a := 1) (b := 512) fun β _ => R.pooled β :=
    (W4_arr m ρ c 35).trans (pooled_is (weights3 ρ h) (x_is ρ h) (s_is ρ h))
  show StableHlo.after hostOps3 (W4 m ρ c) (Proc.devRef .tc main_v23) = _
  entry_read
  exact flat _ e

/-- and the classifier's scores. -/
theorem label : W5 m ρ c main_v24 = arr2 R.label := by
  have e : W4 m ρ c main_v22_2 = arr3 (p := 16) (a := 1) (b := 2) fun β => tail R.T fun _ => R.pooled β :=
    (W4_arr m ρ c 36).trans (scores_is (weights3 ρ h) (tail3 ρ h) (x_is ρ h) (s_is ρ h))
  show StableHlo.after hostOps3 (W4 m ρ c) (Proc.devRef .tc main_v24) = _
  entry_read
  exact flat _ e

end Cert.Chain

end
-- ==== Proof.RefBlocks.lean ====
/- The pieces the reference is composed of: a batch of affine maps, attention, layer normalization, the
   feed-forward step, the pooling and the classifier, each written as the reference's own operations. -/
module

public import proofs.«01_k».proof.Proof.Gen.ReferenceIdeal

@[expose] public section

set_option maxRecDepth 16384

noncomputable section

namespace Cert.Ref

open Cert.ReferenceIdeal Cert.ReferenceIdeal.Gen Idealize.ShloMosaic

variable {F : FTy → Type} [FloatOps F]

/-! ## One layer's parameters out of the stacked arrays -/

/-- That the stacked arrays have a layer number `l`. -/
structure Lay (l : ℕ) : Prop where
  mat : S3x512x512.Slices ![l, 0, 0] S1x512x512
  vec : S3x512.Slices ![l, 0] S1x512
  up : S3x512x2048.Slices ![l, 0, 0] S1x512x2048
  upv : S3x2048.Slices ![l, 0] S1x2048
  down : S3x2048x512.Slices ![l, 0, 0] S1x2048x512

theorem lay0 : Lay 0 := ⟨by decide, by decide, by decide, by decide, by decide⟩

theorem lay1 : Lay 1 := ⟨by decide, by decide, by decide, by decide, by decide⟩

theorem lay2 : Lay 2 := ⟨by decide, by decide, by decide, by decide, by decide⟩

def rMat {l : ℕ} (H : Lay l) (A : FVec F S3x512x512 .f32) : FVec F S512x512 .f32 :=
  shapeCast S512x512 (extractStridedSlice S1x512x512 ![l, 0, 0] A H.mat) shapeCasts_S1x512x512_S512x512

def rVec {l : ℕ} (H : Lay l) (A : FVec F S3x512 .f32) : FVec F S512 .f32 :=
  shapeCast S512 (extractStridedSlice S1x512 ![l, 0] A H.vec) shapeCasts_S1x512_S512

def rUpMat {l : ℕ} (H : Lay l) (A : FVec F S3x512x2048 .f32) : FVec F S512x2048 .f32 :=
  shapeCast S512x2048 (extractStridedSlice S1x512x2048 ![l, 0, 0] A H.up) shapeCasts_S1x512x2048_S512x2048

def rUpVec {l : ℕ} (H : Lay l) (A : FVec F S3x2048 .f32) : FVec F S2048 .f32 :=
  shapeCast S2048 (extractStridedSlice S1x2048 ![l, 0] A H.upv) shapeCasts_S1x2048_S2048

def rDownMat {l : ℕ} (H : Lay l) (A : FVec F S3x2048x512 .f32) : FVec F S2048x512 .f32 :=
  shapeCast S2048x512 (extractStridedSlice S1x2048x512 ![l, 0, 0] A H.down) shapeCasts_S1x2048x512_S2048x512

/-! ## Affine maps -/

def rBias (v : FVec F S512 .f32) : FVec F S16x512x512 .f32 :=
  broadcastInDim S16x512x512 ![0, 1, 2] bcast_S1x1x512_S16x512x512_0_1_2 (broadcastInDim S1x1x512 ![2] bcast_S512_S1x1x512_2 v)

def rFeat (X : FVec F S16x512x1024 .f32) (W : FVec F S1024x512 .f32) (v : FVec F S512 .f32) : FVec F S16x512x512 .f32 :=
  addf (Host.dotGeneral dot_S16x512x1024_S1024x512_S16x512x512_2_0_01_1_n_n none X W) (rBias v)

def rLin (X : FVec F S16x512x512 .f32) (W : FVec F S512x512 .f32) (v : FVec F S512 .f32) : FVec F S16x512x512 .f32 :=
  addf (Host.dotGeneral dot_S16x512x512_S512x512_S16x512x512_2_0_01_1_n_n none X W) (rBias v)

def rUp (X : FVec F S16x512x512 .f32) (W : FVec F S512x2048 .f32) (v : FVec F S2048 .f32) : FVec F S16x512x2048 .f32 :=
  maximumf (addf (Host.dotGeneral dot_S16x512x512_S512x2048_S16x512x2048_2_0_01_1_n_n none X W)
    (broadcastInDim S16x512x2048 ![0, 1, 2] bcast_S1x1x2048_S16x512x2048_0_1_2 (broadcastInDim S1x1x2048 ![2] bcast_S2048_S1x1x2048_2 v)))
    (broadcastInDim S16x512x2048 ![] bcast_S_S16x512x2048 (constant S_ .f32 0x00000000#32))

def rDown (X : FVec F S16x512x2048 .f32) (W : FVec F S2048x512 .f32) (v : FVec F S512 .f32) : FVec F S16x512x512 .f32 :=
  addf (Host.dotGeneral dot_S16x512x2048_S2048x512_S16x512x512_2_0_01_1_n_n none X W) (rBias v)

/-! ## Attention -/

/-- The scaled scores of every head. -/
def rScore (Q K : FVec F S16x512x512 .f32) : FVec F S16x8x512x512 .f32 :=
  Host.divf (Host.dotGeneral dot_S16x512x8x64_S16x512x8x64_S16x8x512x512_3_3_1_1_02_02 none
      (shapeCast S16x512x8x64 Q shapeCasts_S16x512x512_S16x512x8x64) (shapeCast S16x512x8x64 K shapeCasts_S16x512x512_S16x512x8x64))
    (broadcastInDim S16x8x512x512 ![] bcast_S_S16x8x512x512 (Host.sqrt (constant S_ .f32 0x42800000#32)))

/-- The exponentials of the scores, each row's greatest taken off. -/
def rExp (X : FVec F S16x8x512x512 .f32) : FVec F S16x8x512x512 .f32 :=
  Host.exp (subf X (broadcastInDim S16x8x512x512 ![0, 1, 2, 3] bcast_S16x8x512x1_S16x8x512x512_0_1_2_3
    (broadcastInDim S16x8x512x1 ![0, 1, 2] bcast_S16x8x512_S16x8x512x1_0_1_2
      (maximumf (broadcastInDim S16x8x512 ![] bcast_S_S16x8x512 (constant S_ .f32 0xFF800000#32))
        (Host.reduce FloatOps.maximumf X (constant S_ .f32 0xFF800000#32) reducesTo_S16x8x512x512_S16x8x512_d3 h_S_)))))

/-- Each row divided by its sum. -/
def rProb (X : FVec F S16x8x512x512 .f32) : FVec F S16x8x512x512 .f32 :=
  Host.divf X (broadcastInDim S16x8x512x512 ![0, 1, 2, 3] bcast_S16x8x512x1_S16x8x512x512_0_1_2_3
    (broadcastInDim S16x8x512x1 ![0, 1, 2] bcast_S16x8x512_S16x8x512x1_0_1_2
      (Host.reduceAdd X (constant S_ .f32 0x00000000#32) reducesTo_S16x8x512x512_S16x8x512_d3 h_S_)))

/-- The heads' outputs side by side. -/
def rMix (V : FVec F S16x512x512 .f32) (P : FVec F S16x8x512x512 .f32) : FVec F S16x512x512 .f32 :=
  shapeCast S16x512x512 (transpose S16x512x8x64 [0, 3, 1, 2]
    (Host.dotGeneral dot_S16x512x8x64_S16x8x512x512_S16x8x64x512_1_3_3_2_02_01 none
      (shapeCast S16x512x8x64 V shapeCasts_S16x512x512_S16x512x8x64) P) transposes_S16x8x64x512_S16x512x8x64_0_3_1_2)
    shapeCasts_S16x512x8x64_S16x512x512

structure RAtt (F : FTy → Type) where
  wq : FVec F S512x512 .f32
  bq : FVec F S512 .f32
  wk : FVec F S512x512 .f32
  bk : FVec F S512 .f32
  wv : FVec F S512x512 .f32
  bv : FVec F S512 .f32
  wo : FVec F S512x512 .f32
  bo : FVec F S512 .f32

def rExps (A : RAtt F) (X S : FVec F S16x512x512 .f32) : FVec F S16x8x512x512 .f32 :=
  rExp (rScore (rLin X A.wq A.bq) (rLin S A.wk A.bk))

/-- The rows after an attention: themselves with the attention's output added. -/
def rAtt (A : RAtt F) (X S : FVec F S16x512x512 .f32) : FVec F S16x512x512 .f32 :=
  addf X (rLin (rMix (rLin S A.wv A.bv) (rProb (rExps A X S))) A.wo A.bo)

/-! ## Layer normalization -/

/-- Each row less its mean. -/
def rCentered (X : FVec F S16x512x512 .f32) : FVec F S16x512x512 .f32 :=
  subf X (broadcastInDim S16x512x512 ![0, 1, 2] bcast_S16x512x1_S16x512x512_0_1_2
    (Host.divf (broadcastInDim S16x512x1 ![0, 1] bcast_S16x512_S16x512x1_0_1
        (Host.reduceAdd X (constant S_ .f32 0x00000000#32) reducesTo_S16x512x512_S16x512_d2 h_S_))
      (broadcastInDim S16x512x1 ![] bcast_S_S16x512x1 (constant S_ .f32 0x44000000#32))))

/-- How many entries of a row the variance divides by. -/
def rCount : FVec F S_ .f32 := subf (constant S_ .f32 0x44000000#32) (sitofp .f32 (constantI S_ 32 0#32))

def rVar (X : FVec F S16x512x512 .f32) : FVec F S16x512x1 .f32 :=
  select (broadcastInDim S16x512x1 ![] bcast_S_S16x512x1 (cmpf .ogt (rCount (F := F)) (constant S_ .f32 0x00000000#32)))
    (Host.divf (broadcastInDim S16x512x1 ![0, 1] bcast_S16x512_S16x512x1_0_1
        (Host.reduceAdd (mulf (rCentered X) (rCentered X)) (constant S_ .f32 0x00000000#32) reducesTo_S16x512x512_S16x512_d2 h_S_))
      (broadcastInDim S16x512x1 ![] bcast_S_S16x512x1 rCount))
    (broadcastInDim S16x512x1 ![] bcast_S_S16x512x1 (id (constant S_ .f32 0x7FC00000#32)))

def rNorm (X : FVec F S16x512x512 .f32) (g b : FVec F S512 .f32) : FVec F S16x512x512 .f32 :=
  addf (mulf (mulf (rCentered X) (broadcastInDim S16x512x512 ![0, 1, 2] bcast_S16x512x1_S16x512x512_0_1_2
    (Host.rsqrt (addf (rVar X) (broadcastInDim S16x512x1 ![] bcast_S_S16x512x1 (constant S_ .f32 0x3727C5AC#32)))))) (rBias g)) (rBias b)

/-! ## A layer -/

structure RLayer (F : FTy → Type) where
  sa : RAtt F
  ea : RAtt F
  w1 : FVec F S512x2048 .f32
  b1 : FVec F S2048 .f32
  w2 : FVec F S2048x512 .f32
  b2 : FVec F S512 .f32
  g1 : FVec F S512 .f32
  c1 : FVec F S512 .f32
  g2 : FVec F S512 .f32
  c2 : FVec F S512 .f32
  g3 : FVec F S512 .f32
  c3 : FVec F S512 .f32

def rHalf (L : RLayer F) (X : FVec F S16x512x512 .f32) : FVec F S16x512x512 .f32 := rNorm (rAtt L.sa X X) L.g1 L.c1

def rBoth (L : RLayer F) (X S : FVec F S16x512x512 .f32) : FVec F S16x512x512 .f32 :=
  rNorm (rAtt L.ea (rHalf L X) S) L.g2 L.c2

def rFeed (L : RLayer F) (Y : FVec F S16x512x512 .f32) : FVec F S16x512x512 .f32 :=
  rNorm (addf Y (rDown (rUp Y L.w1 L.b1) L.w2 L.b2)) L.g3 L.c3

def rLayer (L : RLayer F) (X S : FVec F S16x512x512 .f32) : FVec F S16x512x512 .f32 := rFeed L (rBoth L X S)

/-! ## The pooling and the classifier -/

/-- The rows' lengths. -/
def rLen (X : FVec F S16x512x512 .f32) : FVec F S16x512 .f32 :=
  Host.sqrt (Host.reduceAdd (mulf X X) (constant S_ .f32 0x00000000#32) reducesTo_S16x512x512_S16x512_d2 h_S_)

def rLenExp (N : FVec F S16x512 .f32) : FVec F S16x512 .f32 :=
  Host.exp (subf N (broadcastInDim S16x512 ![0, 1] bcast_S16x1_S16x512_0_1 (broadcastInDim S16x1 ![0] bcast_S16_S16x1_0
    (maximumf (broadcastInDim S16 ![] bcast_S_S16 (constant S_ .f32 0xFF800000#32))
      (Host.reduce FloatOps.maximumf N (constant S_ .f32 0xFF800000#32) reducesTo_S16x512_S16_d1 h_S_)))))

def rPool (X : FVec F S16x512x512 .f32) (E : FVec F S16x512 .f32) : FVec F S16x512 .f32 :=
  Host.dotGeneral dot_S16x512x512_S16x512_S16x512_1_1_2_n_0_0 none X
    (Host.divf E (broadcastInDim S16x512 ![0, 1] bcast_S16x1_S16x512_0_1 (broadcastInDim S16x1 ![0] bcast_S16_S16x1_0
      (Host.reduceAdd E (constant S_ .f32 0x00000000#32) reducesTo_S16x512_S16_d1 h_S_))))

def rTail1 (X : FVec F S16x512 .f32) (W : FVec F S512x256 .f32) (v : FVec F S256 .f32) : FVec F S16x256 .f32 :=
  maximumf (addf (Host.dotGeneral dot_S16x512_S512x256_S16x256_1_0_0_1_n_n none X W)
    (broadcastInDim S16x256 ![0, 1] bcast_S1x256_S16x256_0_1 (broadcastInDim S1x256 ![1] bcast_S256_S1x256_1 v)))
    (broadcastInDim S16x256 ![] bcast_S_S16x256 (constant S_ .f32 0x00000000#32))

def rTail2 (X : FVec F S16x256 .f32) (W : FVec F S256x64 .f32) (v : FVec F S64 .f32) : FVec F S16x64 .f32 :=
  maximumf (addf (Host.dotGeneral dot_S16x256_S256x64_S16x64_1_0_0_1_n_n none X W)
    (broadcastInDim S16x64 ![0, 1] bcast_S1x64_S16x64_0_1 (broadcastInDim S1x64 ![1] bcast_S64_S1x64_1 v)))
    (broadcastInDim S16x64 ![] bcast_S_S16x64 (constant S_ .f32 0x00000000#32))

def rTail3 (X : FVec F S16x64 .f32) (W : FVec F S64x2 .f32) (v : FVec F S2 .f32) : FVec F S16x2 .f32 :=
  addf (Host.dotGeneral dot_S16x64_S64x2_S16x2_1_0_0_1_n_n none X W)
    (broadcastInDim S16x2 ![0, 1] bcast_S1x2_S16x2_0_1 (broadcastInDim S1x2 ![1] bcast_S2_S1x2_1 v))

end Cert.Ref

end
-- ==== Proof.RefValues.lean ====
/- What the reference's pieces compute on the extended reals, when their inputs are reals. -/
module

public import proofs.«01_k».proof.Proof.RefBlocks
public import proofs.«01_k».proof.Proof.Inputs
public import Idealize.ShloMosaic.Lib.Pointwise
public import Idealize.ShloMosaic.Lib.IdealHost
public import Idealize.ShloMosaic.Lib.KernelVsHost

@[expose] public section

set_option maxRecDepth 16384

noncomputable section

namespace Cert.Ref

open Cert.ReferenceIdeal Cert.ReferenceIdeal.Gen Idealize.ShloMosaic Cert.Model Cert.Ops Cert.Inputs

/-! ## One layer's parameters -/

theorem mat_is {l : ℕ} (H : Lay l) (hl : l < 3) {A : FVec Ideal S3x512x512 .f32} {a : Fin 3 → Mat 512 512} (h : Is3 A a) :
    Is2 (rMat (F := Ideal) H A) (a ⟨l, hl⟩) := by
  intro i j
  rw [← h ⟨l, hl⟩ i j, ← ix2_eq_valueIdx, ← ix3_eq_valueIdx]
  unfold rMat
  pointwise

theorem upMat_is {l : ℕ} (H : Lay l) (hl : l < 3) {A : FVec Ideal S3x512x2048 .f32} {a : Fin 3 → Mat 512 2048} (h : Is3 A a) :
    Is2 (rUpMat (F := Ideal) H A) (a ⟨l, hl⟩) := by
  intro i j
  rw [← h ⟨l, hl⟩ i j, ← ix2_eq_valueIdx, ← ix3_eq_valueIdx]
  unfold rUpMat
  pointwise

theorem downMat_is {l : ℕ} (H : Lay l) (hl : l < 3) {A : FVec Ideal S3x2048x512 .f32} {a : Fin 3 → Mat 2048 512} (h : Is3 A a) :
    Is2 (rDownMat (F := Ideal) H A) (a ⟨l, hl⟩) := by
  intro i j
  rw [← h ⟨l, hl⟩ i j, ← ix2_eq_valueIdx, ← ix3_eq_valueIdx]
  unfold rDownMat
  pointwise

theorem vec_is {l : ℕ} (H : Lay l) (hl : l < 3) {A : FVec Ideal S3x512 .f32} {a : Fin 3 → Fin 512 → ℝ} (h : Is2 A a) :
    Is1 (rVec (F := Ideal) H A) (a ⟨l, hl⟩) := by
  intro i
  rw [← h ⟨l, hl⟩ i, ← ix1_eq_valueIdx, ← ix2_eq_valueIdx]
  unfold rVec
  pointwise

theorem upVec_is {l : ℕ} (H : Lay l) (hl : l < 3) {A : FVec Ideal S3x2048 .f32} {a : Fin 3 → Fin 2048 → ℝ} (h : Is2 A a) :
    Is1 (rUpVec (F := Ideal) H A) (a ⟨l, hl⟩) := by
  intro i
  rw [← h ⟨l, hl⟩ i, ← ix1_eq_valueIdx, ← ix2_eq_valueIdx]
  unfold rUpVec
  pointwise

/-! ## Affine maps -/

/-- A product's entry with its bias, all three of reals. -/
theorem entry_is {k : ℕ} {x w : Fin k → EReal} {v : EReal} {x' w' : Fin k → ℝ} {v' : ℝ} (hx : ∀ t, x t = x' t) (hw : ∀ t, w t = w' t) (hv : v = v') :
    ∑ t, x t * w t + v = (((∑ t, x' t * w' t) + v' : ℝ) : EReal) := by
  simp only [hx, hw, hv, ← EReal.coe_mul, coe_sum, ← EReal.coe_add]

/-- The same cut off below at zero. -/
theorem entry_relu_is {k : ℕ} {x w : Fin k → EReal} {v : EReal} {x' w' : Fin k → ℝ} {v' : ℝ} (hx : ∀ t, x t = x' t) (hw : ∀ t, w t = w' t) (hv : v = v') :
    max (∑ t, x t * w t + v) 0 = ((max ((∑ t, x' t * w' t) + v') 0 : ℝ) : EReal) := by
  rw [entry_is hx hw hv, ← EReal.coe_zero, coe_max]

theorem feat_is {X : FVec Ideal S16x512x1024 .f32} {W : FVec Ideal S1024x512 .f32} {v : FVec Ideal S512 .f32} {x : Fin 16 → Mat 512 1024}
    {w : Mat 1024 512} {b : Fin 512 → ℝ} (hX : Is3 X x) (hW : Is2 W w) (hv : Is1 v b) :
    Is3 (rFeat (F := Ideal) X W v) fun β => lin (x β) w b := by
  intro β i j
  rw [← ix3_eq_valueIdx]
  unfold rFeat rBias
  pointwise
  simp only [ix3_eq_valueIdx, ix2_eq_valueIdx, ix1_eq_valueIdx]
  exact entry_is (fun t => hX β i t) (fun t => hW t j) (hv j)

theorem lin_is {X : FVec Ideal S16x512x512 .f32} {W : FVec Ideal S512x512 .f32} {v : FVec Ideal S512 .f32} {x : Fin 16 → Mat 512 512}
    {w : Mat 512 512} {b : Fin 512 → ℝ} (hX : Is3 X x) (hW : Is2 W w) (hv : Is1 v b) :
    Is3 (rLin (F := Ideal) X W v) fun β => lin (x β) w b := by
  intro β i j
  rw [← ix3_eq_valueIdx]
  unfold rLin rBias
  pointwise
  simp only [ix3_eq_valueIdx, ix2_eq_valueIdx, ix1_eq_valueIdx]
  exact entry_is (fun t => hX β i t) (fun t => hW t j) (hv j)

theorem up_is {X : FVec Ideal S16x512x512 .f32} {W : FVec Ideal S512x2048 .f32} {v : FVec Ideal S2048 .f32} {x : Fin 16 → Mat 512 512}
    {w : Mat 512 2048} {b : Fin 2048 → ℝ} (hX : Is3 X x) (hW : Is2 W w) (hv : Is1 v b) :
    Is3 (rUp (F := Ideal) X W v) fun β => relu (lin (x β) w b) := by
  intro β i j
  rw [← ix3_eq_valueIdx]
  unfold rUp
  pointwise
  simp only [ix3_eq_valueIdx, ix2_eq_valueIdx, ix1_eq_valueIdx]
  exact entry_relu_is (fun t => hX β i t) (fun t => hW t j) (hv j)

theorem down_is {X : FVec Ideal S16x512x2048 .f32} {W : FVec Ideal S2048x512 .f32} {v : FVec Ideal S512 .f32} {x : Fin 16 → Mat 512 2048}
    {w : Mat 2048 512} {b : Fin 512 → ℝ} (hX : Is3 X x) (hW : Is2 W w) (hv : Is1 v b) :
    Is3 (rDown (F := Ideal) X W v) fun β => lin (x β) w b := by
  intro β i j
  rw [← ix3_eq_valueIdx]
  unfold rDown rBias
  pointwise
  simp only [ix3_eq_valueIdx, ix2_eq_valueIdx, ix1_eq_valueIdx]
  exact entry_is (fun t => hX β i t) (fun t => hW t j) (hv j)

/-! ## Attention -/

/-- An array of four axes holds the reals of `x`. -/
def Is4 {p q a b : ℕ} (X : (⟨4, ![p, q, a, b]⟩ : Shape).Idx → EReal) (x : Fin p → Fin q → Mat a b) : Prop :=
  ∀ β h i j, X (ValueIdx.ix4 β h i j) = (x β h i j : EReal)

theorem score_is {Q K : FVec Ideal S16x512x512 .f32} {q k : Fin 16 → Mat 512 512} (hQ : Is3 Q q) (hK : Is3 K k) :
    Is4 (rScore (F := Ideal) Q K) fun β h => score (q β) (k β) h := by
  intro β h i j
  rw [← ix4_eq_valueIdx]
  unfold rScore
  pointwise
  simp only [ix3_eq_valueIdx]
  have hc : ∀ (d : Fin 64) (p : h.val * 64 + d.val < 512), (⟨h.val * 64 + d.val, p⟩ : Fin 512) = hcol h d := fun d p =>
    Fin.ext (by show h.val * 64 + d.val = 64 * h.val + d.val; omega)
  unfold Is3 at hQ hK
  simp only [hc, hQ, hK, ← EReal.coe_mul, coe_sum]
  rw [lit_64, sqrt_64, div_coe _ _ (by norm_num), div_eq_mul_one_div]
  rfl

/-- The greatest score of a row, as a fold over the row. -/
theorem rowMax_eq (X : FVec Ideal S16x8x512x512 .f32) (β : Fin 16) (h : Fin 8) (i : Fin 512) :
    Host.reduce FloatOps.maximumf X (constant S_ .f32 0xFF800000#32) reducesTo_S16x8x512x512_S16x8x512_d3 h_S_ (ValueIdx.ix3 β h i)
      = (Finset.univ : Finset (Fin 512)).fold max (⊥ : EReal) (fun k => X (ValueIdx.ix4 β h i k)) := by
  have hr : S16x8x512x512.Reduces [3] S16x8x512 := by decide
  refine (congrFun (hostReduce_maximumf_eq_multiReduction X 0xFF800000#32 _ _ hr (.inl rfl) rfl) _).trans ?_
  refine (Ideal.multiReduction_maximumf_single X _ hr (.inl rfl) rfl (ValueIdx.ix3 β h i)).trans ?_
  show Finset.fold max (Ideal.ofBits .f32 0xFF800000#32) _ _ = _
  rw [lit_neg_inf]
  refine Finset.fold_congr fun k _ => congrArg X ?_
  funext d; apply Fin.ext
  match d with
  | ⟨0, _⟩ => rfl
  | ⟨1, _⟩ => rfl
  | ⟨2, _⟩ => rfl
  | ⟨3, _⟩ => rfl

/-- A row's entries less one number each, exponentiated. -/
theorem shift_apply (X : FVec Ideal S16x8x512x512 .f32) (M : FVec Ideal S16x8x512 .f32) (β : Fin 16) (h : Fin 8) (i j : Fin 512) :
    Host.exp (F := Ideal) (subf X (broadcastInDim S16x8x512x512 ![0, 1, 2, 3] bcast_S16x8x512x1_S16x8x512x512_0_1_2_3
      (broadcastInDim S16x8x512x1 ![0, 1, 2] bcast_S16x8x512_S16x8x512x1_0_1_2
        (maximumf (broadcastInDim S16x8x512 ![] bcast_S_S16x8x512 (constant S_ .f32 0xFF800000#32)) M)))) (ValueIdx.ix4 β h i j)
      = Ideal.exp (X (ValueIdx.ix4 β h i j) - max (Ideal.ofBits .f32 0xFF800000#32) (M (ValueIdx.ix3 β h i))) := by
  rw [← ix4_eq_valueIdx, ← ix3_eq_valueIdx]
  pointwise

theorem exp_is {X : FVec Ideal S16x8x512x512 .f32} {x : Fin 16 → Fin 8 → Mat 512 512} (hX : Is4 X x) :
    ∃ m : Fin 16 → Fin 8 → Fin 512 → ℝ, Is4 (rExp (F := Ideal) X) fun β h i j => Real.exp (x β h i j - m β h i) := by
  have hm : ∀ β h i, ∃ m : ℝ, (Finset.univ : Finset (Fin 512)).fold max (⊥ : EReal) (fun k => X (ValueIdx.ix4 β h i k)) = (m : EReal) := fun β h i =>
    fold_max (n := 511) _ (x β h i) (hX β h i)
  choose m hm using hm
  refine ⟨m, fun β h i j => ?_⟩
  unfold rExp
  rw [shift_apply, rowMax_eq, hm, hX, lit_neg_inf, max_eq_right bot_le, ← EReal.coe_sub, exp_coe]

theorem prob_is {X : FVec Ideal S16x8x512x512 .f32} {x : Fin 16 → Fin 8 → Mat 512 512} (hX : Is4 X x) (hp : ∀ β h i, ∑ l, x β h i l ≠ 0) :
    Is4 (rProb (F := Ideal) X) fun β h i j => (x β h i j / ∑ l, x β h i l) := by
  intro β h i j
  rw [← ix4_eq_valueIdx]
  unfold rProb
  pointwise
  simp only [ix4_eq_valueIdx]
  unfold Is4 at hX
  simp only [hX, coe_sum]
  rw [div_coe _ _ (hp β h i)]

/-- The attention weights of every head. -/
theorem weights_is {Q K : FVec Ideal S16x512x512 .f32} {q k : Fin 16 → Mat 512 512} (hQ : Is3 Q q) (hK : Is3 K k) :
    Is4 (rProb (F := Ideal) (rExp (rScore Q K))) fun β h => prob (q β) (k β) h := by
  obtain ⟨m, he⟩ := exp_is (score_is hQ hK)
  have hp := prob_is he fun β h i => (sum_exp_pos (n := 511) fun l => score (q β) (k β) h i l - m β h i).ne'
  intro β h i j
  exact (hp β h i j).trans (congrArg (fun r : ℝ => (r : EReal)) (softmax_shift (fun l => score (q β) (k β) h i l) (m β h i) j))

theorem mix_is {V : FVec Ideal S16x512x512 .f32} {P : FVec Ideal S16x8x512x512 .f32} {v : Fin 16 → Mat 512 512}
    {p : Fin 16 → Fin 8 → Mat 512 512} (hV : Is3 V v) (hP : Is4 P p) :
    Is3 (rMix (F := Ideal) V P) fun β i c => ∑ j, p β (headOf c) i j * v β j c := by
  intro β i c
  rw [← ix3_eq_valueIdx]
  unfold rMix
  pointwise
  simp only [ix4_eq_valueIdx, ix3_eq_valueIdx]
  unfold Is3 at hV
  unfold Is4 at hP
  simp only [hV, hP, ← EReal.coe_mul, coe_sum]
  refine congrArg _ (Finset.sum_congr rfl fun j _ => ?_)
  exact mul_comm _ _

/-- The attention's parameters are the reals of `a`. -/
structure IsAtt (A : RAtt Ideal) (a : AttW) : Prop where
  wq : Is2 A.wq a.wq
  bq : Is1 A.bq a.bq
  wk : Is2 A.wk a.wk
  bk : Is1 A.bk a.bk
  wv : Is2 A.wv a.wv
  bv : Is1 A.bv a.bv
  wo : Is2 A.wo a.wo
  bo : Is1 A.bo a.bo

theorem add_is {X Y : FVec Ideal S16x512x512 .f32} {x y : Fin 16 → Mat 512 512} (hX : Is3 X x) (hY : Is3 Y y) :
    Is3 (addf (F := Ideal) X Y) fun β => add (x β) (y β) := by
  intro β i j
  show X (ValueIdx.ix3 β i j) + Y (ValueIdx.ix3 β i j) = _
  rw [hX, hY, ← EReal.coe_add]
  rfl

theorem att_is {A : RAtt Ideal} {a : AttW} (hA : IsAtt A a) {X S : FVec Ideal S16x512x512 .f32} {x s : Fin 16 → Mat 512 512} (hX : Is3 X x)
    (hS : Is3 S s) : Is3 (rAtt (F := Ideal) A X S) fun β => add (x β) (mha a (x β) (s β)) :=
  add_is hX (lin_is (mix_is (lin_is hS hA.wv hA.bv) (weights_is (lin_is hX hA.wq hA.bq) (lin_is hS hA.wk hA.bk))) hA.wo hA.bo)

/-! ## Layer normalization -/

theorem centered_is {X : FVec Ideal S16x512x512 .f32} {x : Fin 16 → Mat 512 512} (hX : Is3 X x) :
    Is3 (rCentered (F := Ideal) X) fun β i c => x β i c - mean (x β i) := by
  intro β i j
  rw [← ix3_eq_valueIdx]
  unfold rCentered
  pointwise
  simp only [ix3_eq_valueIdx]
  unfold Is3 at hX
  simp only [hX, coe_sum]
  rw [lit_512, div_coe _ _ (by norm_num), ← EReal.coe_sub]
  rfl

theorem count_eq : (Ideal.ofBits .f32 1140850688#32 : EReal) - FloatOps.sitofp (F := Ideal) FTy.f32 (0#32) = ((512 : ℝ) : EReal) := by
  have h0 : FloatOps.sitofp (F := Ideal) FTy.f32 (0#32) = ((0 : ℝ) : EReal) := by
    show (((0#32 : BitVec 32).toInt : ℝ) : EReal) = _
    simp
  rw [h0, lit_512, ← EReal.coe_sub, sub_zero]

theorem var_is {X : FVec Ideal S16x512x512 .f32} {x : Fin 16 → Mat 512 512} (hX : Is3 X x) (β : Fin 16) (i : Fin 512) :
    rVar (F := Ideal) X (ValueIdx.ix3 β i 0) = (var (x β i) : EReal) := by
  have hc := centered_is hX
  rw [← ix3_eq_valueIdx]
  unfold rVar rCount
  pointwise
  simp only [ix3_eq_valueIdx]
  unfold Is3 at hc
  simp only [hc, ← EReal.coe_mul, coe_sum]
  rw [count_eq, if_pos (by exact_mod_cast (by norm_num : (0 : ℝ) < 512)), div_coe _ _ (by norm_num)]
  rfl

theorem norm_is {X : FVec Ideal S16x512x512 .f32} {g b : FVec Ideal S512 .f32} {x : Fin 16 → Mat 512 512} {g' b' : Fin 512 → ℝ} (hX : Is3 X x)
    (hg : Is1 g g') (hb : Is1 b b') : Is3 (rNorm (F := Ideal) X g b) fun β => ln (x β) g' b' := by
  intro β i j
  rw [← ix3_eq_valueIdx]
  unfold rNorm rBias
  pointwise
  simp only [ix3_eq_valueIdx, ix1_eq_valueIdx]
  rw [centered_is hX β i j, var_is hX β i, hg j, hb j, lit_eps, ← EReal.coe_add, rsqrt_coe _ (add_pos_of_nonneg_of_pos (var_nonneg _) eps_pos),
    ← EReal.coe_mul, ← EReal.coe_mul, ← EReal.coe_add]
  rfl

/-! ## A layer -/

structure IsLayer (L : RLayer Ideal) (l : LayerW) : Prop where
  sa : IsAtt L.sa l.sa
  ea : IsAtt L.ea l.ea
  w1 : Is2 L.w1 l.w1
  b1 : Is1 L.b1 l.b1
  w2 : Is2 L.w2 l.w2
  b2 : Is1 L.b2 l.b2
  g1 : Is1 L.g1 l.g1
  c1 : Is1 L.c1 l.c1
  g2 : Is1 L.g2 l.g2
  c2 : Is1 L.c2 l.c2
  g3 : Is1 L.g3 l.g3
  c3 : Is1 L.c3 l.c3

theorem half_is {L : RLayer Ideal} {l : LayerW} (h : IsLayer L l) {X : FVec Ideal S16x512x512 .f32} {x : Fin 16 → Mat 512 512} (hX : Is3 X x) :
    Is3 (rHalf (F := Ideal) L X) fun β => half l (x β) :=
  norm_is (att_is h.sa hX hX) h.g1 h.c1

theorem both_is {L : RLayer Ideal} {l : LayerW} (h : IsLayer L l) {X S : FVec Ideal S16x512x512 .f32} {x s : Fin 16 → Mat 512 512} (hX : Is3 X x)
    (hS : Is3 S s) : Is3 (rBoth (F := Ideal) L X S) fun β => both l (x β) (s β) :=
  norm_is (att_is h.ea (half_is h hX) hS) h.g2 h.c2

theorem feed_is {L : RLayer Ideal} {l : LayerW} (h : IsLayer L l) {Y : FVec Ideal S16x512x512 .f32} {y : Fin 16 → Mat 512 512} (hY : Is3 Y y) :
    Is3 (rFeed (F := Ideal) L Y) fun β => feed l (y β) :=
  norm_is (add_is hY (down_is (up_is hY h.w1 h.b1) h.w2 h.b2)) h.g3 h.c3

theorem layer_is {L : RLayer Ideal} {l : LayerW} (h : IsLayer L l) {X S : FVec Ideal S16x512x512 .f32} {x s : Fin 16 → Mat 512 512} (hX : Is3 X x)
    (hS : Is3 S s) : Is3 (rLayer (F := Ideal) L X S) fun β => layer l (x β) (s β) :=
  feed_is h (both_is h hX hS)

/-- The weights a layer's second attention gives. -/
theorem attn_is {L : RLayer Ideal} {l : LayerW} (h : IsLayer L l) {X S : FVec Ideal S16x512x512 .f32} {x s : Fin 16 → Mat 512 512} (hX : Is3 X x)
    (hS : Is3 S s) : Is4 (rProb (F := Ideal) (rExps L.ea (rHalf L X) S)) fun β h => weights l.ea (half l (x β)) (s β) h :=
  weights_is (lin_is (half_is h hX) h.ea.wq h.ea.bq) (lin_is hS h.ea.wk h.ea.bk)

/-! ## The pooling -/

theorem len_is {X : FVec Ideal S16x512x512 .f32} {x : Fin 16 → Mat 512 512} (hX : Is3 X x) :
    Is2 (rLen (F := Ideal) X) fun β i => Model.norm (x β i) := by
  intro β i
  rw [← ix2_eq_valueIdx]
  unfold rLen
  pointwise
  simp only [ix3_eq_valueIdx]
  unfold Is3 at hX
  simp only [hX, ← EReal.coe_mul, coe_sum]
  rw [sqrt_coe _ (Finset.sum_nonneg fun _ _ => mul_self_nonneg _)]
  rfl

theorem lenExp_is {X : FVec Ideal S16x512 .f32} {x : Mat 16 512} (hX : Is2 X x) :
    ∃ m : Fin 16 → ℝ, Is2 (rLenExp (F := Ideal) X) fun β i => Real.exp (x β i - m β) := by
  have hm : ∀ β, ∃ m : ℝ, (Finset.univ : Finset (Fin 512)).fold max (⊥ : EReal) (fun k => X (ValueIdx.ix2 β k)) = (m : EReal) := fun β =>
    fold_max (n := 511) _ (x β) (hX β)
  choose m hm using hm
  refine ⟨m, fun β i => ?_⟩
  rw [← ix2_eq_valueIdx]
  unfold rLenExp
  pointwise
  simp only [ix2_eq_valueIdx]
  rw [lit_neg_inf, hm, hX, max_eq_right bot_le, ← EReal.coe_sub, exp_coe]

theorem pool_is {X : FVec Ideal S16x512x512 .f32} {E : FVec Ideal S16x512 .f32} {x : Fin 16 → Mat 512 512} {e : Mat 16 512} (hX : Is3 X x) (hE : Is2 E e)
    (hp : ∀ β, ∑ l, e β l ≠ 0) : Is2 (rPool (F := Ideal) X E) fun β c => ∑ i, (e β i / ∑ l, e β l) * x β i c := by
  intro β c
  rw [← ix2_eq_valueIdx]
  unfold rPool
  pointwise
  simp only [ix3_eq_valueIdx, ix2_eq_valueIdx]
  unfold Is3 at hX
  unfold Is2 at hE
  simp only [hX, hE, coe_sum, div_coe _ _ (hp β), ← EReal.coe_mul]
  exact congrArg (fun r : ℝ => (r : EReal)) (Finset.sum_congr rfl fun i _ => mul_comm _ _)

theorem pooled_is {X : FVec Ideal S16x512x512 .f32} {x : Fin 16 → Mat 512 512} (hX : Is3 X x) :
    Is2 (rPool (F := Ideal) X (rLenExp (rLen X))) fun β => pool (x β) := by
  obtain ⟨m, he⟩ := lenExp_is (len_is hX)
  have hp := pool_is hX he fun β => (sum_exp_pos (n := 511) fun l => Model.norm (x β l) - m β).ne'
  intro β c
  refine (hp β c).trans (congrArg (fun r : ℝ => (r : EReal)) (Finset.sum_congr rfl fun i _ => ?_))
  exact congrArg (· * x β i c) (softmax_shift (fun l => Model.norm (x β l)) (m β) i)

/-! ## The classifier -/

theorem tail1_is {X : FVec Ideal S16x512 .f32} {W : FVec Ideal S512x256 .f32} {v : FVec Ideal S256 .f32} {x : Mat 16 512}
    {w : Mat 512 256} {b : Fin 256 → ℝ} (hX : Is2 X x) (hW : Is2 W w) (hv : Is1 v b) :
    Is2 (rTail1 (F := Ideal) X W v) (relu (lin x w b)) := by
  intro i j
  rw [← ix2_eq_valueIdx]
  unfold rTail1
  pointwise
  simp only [ix2_eq_valueIdx, ix1_eq_valueIdx]
  exact entry_relu_is (fun t => hX i t) (fun t => hW t j) (hv j)

theorem tail2_is {X : FVec Ideal S16x256 .f32} {W : FVec Ideal S256x64 .f32} {v : FVec Ideal S64 .f32} {x : Mat 16 256}
    {w : Mat 256 64} {b : Fin 64 → ℝ} (hX : Is2 X x) (hW : Is2 W w) (hv : Is1 v b) :
    Is2 (rTail2 (F := Ideal) X W v) (relu (lin x w b)) := by
  intro i j
  rw [← ix2_eq_valueIdx]
  unfold rTail2
  pointwise
  simp only [ix2_eq_valueIdx, ix1_eq_valueIdx]
  exact entry_relu_is (fun t => hX i t) (fun t => hW t j) (hv j)

theorem tail3_is {X : FVec Ideal S16x64 .f32} {W : FVec Ideal S64x2 .f32} {v : FVec Ideal S2 .f32} {x : Mat 16 64}
    {w : Mat 64 2} {b : Fin 2 → ℝ} (hX : Is2 X x) (hW : Is2 W w) (hv : Is1 v b) :
    Is2 (rTail3 (F := Ideal) X W v) (lin x w b) := by
  intro i j
  rw [← ix2_eq_valueIdx]
  unfold rTail3
  pointwise
  simp only [ix2_eq_valueIdx, ix1_eq_valueIdx]
  exact entry_is (fun t => hX i t) (fun t => hW t j) (hv j)

end Cert.Ref

end
-- ==== Proof.RefChain.lean ====
/- The reference's results, as its run leaves them, are the pieces of `RefBlocks` applied in order, and so
   the arrays of the model's reals. -/
module

public import proofs.«01_k».proof.Proof.RefValues
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe Idealize.ShloMosaic.StableHlo
  Idealize.SL.Sem

section AnyFormat

variable {F : FTy → Type} [FloatOps F]

/-- A layer's parameters out of the arguments. -/
def par {l : ℕ} (H : Lay l) (V : Valuation τ sig (Elt F)) : RLayer F where
  sa := ⟨rMat H (V (Proc.devRef .tc main_arg4)), rVec H (V (Proc.devRef .tc main_arg5)), rMat H (V (Proc.devRef .tc main_arg6)), rVec H (V (Proc.devRef .tc main_arg7)), rMat H (V (Proc.devRef .tc main_arg8)), rVec H (V (Proc.devRef .tc main_arg9)), rMat H (V (Proc.devRef .tc main_arg10)), rVec H (V (Proc.devRef .tc main_arg11))⟩
  ea := ⟨rMat H (V (Proc.devRef .tc main_arg12)), rVec H (V (Proc.devRef .tc main_arg13)), rMat H (V (Proc.devRef .tc main_arg14)), rVec H (V (Proc.devRef .tc main_arg15)), rMat H (V (Proc.devRef .tc main_arg16)), rVec H (V (Proc.devRef .tc main_arg17)), rMat H (V (Proc.devRef .tc main_arg18)), rVec H (V (Proc.devRef .tc main_arg19))⟩
  w1 := rUpMat H (V (Proc.devRef .tc main_arg20))
  b1 := rUpVec H (V (Proc.devRef .tc main_arg21))
  w2 := rDownMat H (V (Proc.devRef .tc main_arg22))
  b2 := rVec H (V (Proc.devRef .tc main_arg23))
  g1 := rVec H (V (Proc.devRef .tc main_arg24))
  c1 := rVec H (V (Proc.devRef .tc main_arg25))
  g2 := rVec H (V (Proc.devRef .tc main_arg26))
  c2 := rVec H (V (Proc.devRef .tc main_arg27))
  g3 := rVec H (V (Proc.devRef .tc main_arg28))
  c3 := rVec H (V (Proc.devRef .tc main_arg29))

variable (V : Valuation τ sig (Elt F))

theorem feat_eq : res_main_v3 V = rFeat (V (Proc.devRef .tc main_arg0)) (V (Proc.devRef .tc main_arg2)) (V (Proc.devRef .tc main_arg3)) := rfl

theorem half0 : res_main_v79 V = rHalf (par lay0 V) (res_main_v3 V) := rfl

theorem both0 : res_main_v155 V = rBoth (par lay0 V) (res_main_v3 V) (V (Proc.devRef .tc main_arg1)) :=
  (rfl : res_main_v155 V = rNorm (rAtt (par lay0 V).ea (res_main_v79 V) (V (Proc.devRef .tc main_arg1))) (par lay0 V).g2 (par lay0 V).c2).trans
    (congrArg (fun Y => rNorm (rAtt (par lay0 V).ea Y (V (Proc.devRef .tc main_arg1))) (par lay0 V).g2 (par lay0 V).c2) (half0 V))

theorem layer0 : res_main_v195 V = rLayer (par lay0 V) (res_main_v3 V) (V (Proc.devRef .tc main_arg1)) :=
  (rfl : res_main_v195 V = rFeed (par lay0 V) (res_main_v155 V)).trans (congrArg (rFeed (par lay0 V)) (both0 V))

theorem half1 : res_main_v271 V = rHalf (par lay1 V) (res_main_v195 V) := rfl

theorem both1 : res_main_v347 V = rBoth (par lay1 V) (res_main_v195 V) (V (Proc.devRef .tc main_arg1)) :=
  (rfl : res_main_v347 V = rNorm (rAtt (par lay1 V).ea (res_main_v271 V) (V (Proc.devRef .tc main_arg1))) (par lay1 V).g2 (par lay1 V).c2).trans
    (congrArg (fun Y => rNorm (rAtt (par lay1 V).ea Y (V (Proc.devRef .tc main_arg1))) (par lay1 V).g2 (par lay1 V).c2) (half1 V))

theorem layer1 : res_main_v387 V = rLayer (par lay1 V) (res_main_v195 V) (V (Proc.devRef .tc main_arg1)) :=
  (rfl : res_main_v387 V = rFeed (par lay1 V) (res_main_v347 V)).trans (congrArg (rFeed (par lay1 V)) (both1 V))

theorem half2 : res_main_v463 V = rHalf (par lay2 V) (res_main_v387 V) := rfl

theorem both2 : res_main_v539 V = rBoth (par lay2 V) (res_main_v387 V) (V (Proc.devRef .tc main_arg1)) :=
  (rfl : res_main_v539 V = rNorm (rAtt (par lay2 V).ea (res_main_v463 V) (V (Proc.devRef .tc main_arg1))) (par lay2 V).g2 (par lay2 V).c2).trans
    (congrArg (fun Y => rNorm (rAtt (par lay2 V).ea Y (V (Proc.devRef .tc main_arg1))) (par lay2 V).g2 (par lay2 V).c2) (half2 V))

theorem layer2 : res_main_v579 V = rLayer (par lay2 V) (res_main_v387 V) (V (Proc.devRef .tc main_arg1)) :=
  (rfl : res_main_v579 V = rFeed (par lay2 V) (res_main_v539 V)).trans (congrArg (rFeed (par lay2 V)) (both2 V))

/-- The exponentials of the last layer's second attention. -/
theorem exps : res_main_v505 V = rExps (par lay2 V).ea (rHalf (par lay2 V) (res_main_v387 V)) (V (Proc.devRef .tc main_arg1)) :=
  (rfl : res_main_v505 V = rExps (par lay2 V).ea (res_main_v463 V) (V (Proc.devRef .tc main_arg1))).trans
    (congrArg (fun Y => rExps (par lay2 V).ea Y (V (Proc.devRef .tc main_arg1))) (half2 V))

theorem lens : res_main_v587 V = rLenExp (rLen (res_main_v579 V)) := rfl

end AnyFormat

/-! ## On reals -/

section Values

open Cert.Inputs Cert.Model Cert.Ops

variable (V : Valuation τ sig (Elt Ideal))

/-- The arguments a valuation holds. -/
def args : Arrays :=
  ⟨(V (Proc.devRef .tc main_arg0)), (V (Proc.devRef .tc main_arg1)), (V (Proc.devRef .tc main_arg2)), (V (Proc.devRef .tc main_arg3)), (V (Proc.devRef .tc main_arg4)), (V (Proc.devRef .tc main_arg5)), (V (Proc.devRef .tc main_arg6)), (V (Proc.devRef .tc main_arg7)), (V (Proc.devRef .tc main_arg8)), (V (Proc.devRef .tc main_arg9)), (V (Proc.devRef .tc main_arg10)), (V (Proc.devRef .tc main_arg11)), (V (Proc.devRef .tc main_arg12)), (V (Proc.devRef .tc main_arg13)), (V (Proc.devRef .tc main_arg14)), (V (Proc.devRef .tc main_arg15)), (V (Proc.devRef .tc main_arg16)), (V (Proc.devRef .tc main_arg17)), (V (Proc.devRef .tc main_arg18)), (V (Proc.devRef .tc main_arg19)), (V (Proc.devRef .tc main_arg20)), (V (Proc.devRef .tc main_arg21)), (V (Proc.devRef .tc main_arg22)), (V (Proc.devRef .tc main_arg23)), (V (Proc.devRef .tc main_arg24)), (V (Proc.devRef .tc main_arg25)), (V (Proc.devRef .tc main_arg26)), (V (Proc.devRef .tc main_arg27)), (V (Proc.devRef .tc main_arg28)), (V (Proc.devRef .tc main_arg29)), (V (Proc.devRef .tc main_arg30)), (V (Proc.devRef .tc main_arg31)), (V (Proc.devRef .tc main_arg32)), (V (Proc.devRef .tc main_arg33)), (V (Proc.devRef .tc main_arg34)), (V (Proc.devRef .tc main_arg35))⟩

variable {R : Reals} (h : Holds (args V) R)
include h

theorem par_is {l : ℕ} (H : Lay l) (hl : l < 3) : IsLayer (par (F := Ideal) H V) (R.P ⟨l, hl⟩) where
  sa := ⟨mat_is H hl h.sa_wq, vec_is H hl h.sa_bq, mat_is H hl h.sa_wk, vec_is H hl h.sa_bk, mat_is H hl h.sa_wv, vec_is H hl h.sa_bv,
    mat_is H hl h.sa_wo, vec_is H hl h.sa_bo⟩
  ea := ⟨mat_is H hl h.ea_wq, vec_is H hl h.ea_bq, mat_is H hl h.ea_wk, vec_is H hl h.ea_bk, mat_is H hl h.ea_wv, vec_is H hl h.ea_bv,
    mat_is H hl h.ea_wo, vec_is H hl h.ea_bo⟩
  w1 := upMat_is H hl h.w1
  b1 := upVec_is H hl h.b1
  w2 := downMat_is H hl h.w2
  b2 := vec_is H hl h.b2
  g1 := vec_is H hl h.g1
  c1 := vec_is H hl h.c1
  g2 := vec_is H hl h.g2
  c2 := vec_is H hl h.c2
  g3 := vec_is H hl h.g3
  c3 := vec_is H hl h.c3

theorem x0_is : Is3 (res_main_v3 (F := Ideal) V) R.x0 := by
  rw [feat_eq]; exact feat_is h.f h.w h.b

theorem x1_is : Is3 (res_main_v195 (F := Ideal) V) R.x1 := by
  rw [layer0]; exact layer_is (par_is V h lay0 (by decide)) (x0_is V h) h.s

theorem x2_is : Is3 (res_main_v387 (F := Ideal) V) R.x2 := by
  rw [layer1]; exact layer_is (par_is V h lay1 (by decide)) (x1_is V h) h.s

theorem x3_is : Is3 (res_main_v579 (F := Ideal) V) R.x3 := by
  rw [layer2]; exact layer_is (par_is V h lay2 (by decide)) (x2_is V h) h.s

theorem pooled2 : Is2 (rPool (F := Ideal) (res_main_v579 V) (res_main_v587 V)) R.pooled := by
  rw [lens]; exact pooled_is (x3_is V h)

theorem attn : rProb (F := Ideal) (res_main_v505 V) = arr4 R.attn := by
  funext i
  rw [exps, ValueIdx.eq_ix4 i]
  exact attn_is (par_is V h lay2 (by decide)) (x2_is V h) h.s (i 0) (i 1) (i 2) (i 3)

theorem pooled : rPool (F := Ideal) (res_main_v579 V) (res_main_v587 V) = arr2 R.pooled := by
  funext i
  rw [ValueIdx.eq_ix2 i]
  exact pooled2 V h (i 0) (i 1)

theorem label : rTail3 (F := Ideal) (rTail2 (rTail1 (rPool (res_main_v579 V) (res_main_v587 V)) (V (Proc.devRef .tc main_arg30)) (V (Proc.devRef .tc main_arg31))) (V (Proc.devRef .tc main_arg32)) (V (Proc.devRef .tc main_arg33))) (V (Proc.devRef .tc main_arg34)) (V (Proc.devRef .tc main_arg35)) = arr2 R.label := by
  funext i
  rw [ValueIdx.eq_ix2 i]
  exact tail3_is (tail2_is (tail1_is (pooled2 V h) h.tw1 h.tb1) h.tw2 h.tb2) h.tw3 h.tb3 (i 0) (i 1)

end Values

end Cert.Ref

end
-- ==== Proof.Finite.lean ====
/- The precondition read back: every input is a finite number. -/
module

public import proofs.«01_k».proof.Pre_finite_inputs
public import proofs.«01_k».proof.Proof.Inputs
public import Idealize.ShloMosaic.Lib.ReduceAll
public import Idealize.ShloMosaic.Lib.IdealHost

@[expose] public section

set_option maxRecDepth 16384

noncomputable section

namespace Cert.Finite

open Idealize.ShloMosaic Cert.Model Cert.Ops Cert.Inputs

/-- The relations between shapes the precondition is stated over. -/
theorem facts : Cert.Pre_finite_inputs.Facts := by
  constructor <;> decide

/-- An array whose every entry is less than infinity in size is of finite numbers. -/
theorem fin_of_all {s : Shape} {axes : List (Fin s.rank)} {X : s.Idx → EReal} {hb : Cert.Pre_finite_inputs.S_.BroadcastsInDim s (![] : Fin 0 → Fin s.rank)}
    {hr : s.ReducesTo axes Cert.Pre_finite_inputs.S_} {hu : 0 < Cert.Pre_finite_inputs.S_.numel} {j : Cert.Pre_finite_inputs.S_.Idx}
    (h : Host.reduce IntOp.andi (cmpf (F := Ideal) (φ := .f32) .olt (Host.absf (F := Ideal) (φ := .f32) X)
      (broadcastInDim s ![] hb (constant Cert.Pre_finite_inputs.S_ .f32 0x7F800000#32))) (constantI Cert.Pre_finite_inputs.S_ 1 1#1) hr hu j = 1#1) : Fin' X := by
  intro i
  haveI : Subsingleton Cert.Pre_finite_inputs.S_.Idx := ⟨fun a b => funext fun d => d.elim0⟩
  have e := Host.reduce_andi_all _ _ hr hu j h i
  have e' : BitVec.ofBool (decide (max (X i) (-(X i)) < Ideal.ofBits .f32 0x7F800000#32)) = 1#1 := e
  rw [lit_inf] at e'
  have lt : max (X i) (-(X i)) < ⊤ := by
    by_contra hn
    rw [decide_eq_false hn] at e'
    exact absurd e' (by decide)
  refine ⟨fun ht => ?_, fun hb => ?_⟩
  · rw [ht] at lt; exact absurd lt (by simp)
  · rw [hb] at lt; exact absurd lt (by simp)

theorem finite_of [Cert.Pre_finite_inputs.Facts] (A : Arrays)
    (h : Cert.Pre_finite_inputs.fn (F := Ideal) A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26 A.a27 A.a28 A.a29 A.a30 A.a31 A.a32 A.a33 A.a34 A.a35 = fun _ => 1#1) : Cert.Inputs.Finite A := by
  have hj := congrFun h fun d => d.elim0
  unfold Cert.Pre_finite_inputs.fn Cert.Pre_finite_inputs.fn_part1 Cert.Pre_finite_inputs.fn_part2 Cert.Pre_finite_inputs.fn_part3 Cert.Pre_finite_inputs.fn_part4 Cert.Pre_finite_inputs.fn_part5 Cert.Pre_finite_inputs.fn_part6 Cert.Pre_finite_inputs.fn_part7 Cert.Pre_finite_inputs.fn_part8 Cert.Pre_finite_inputs.fn_part9 Cert.Pre_finite_inputs.fn_part10 at hj
  dsimp only [andi] at hj
  simp only [IntOp.andi_eq_one] at hj
  obtain ⟨⟨⟨⟨⟨⟨⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, h34⟩, h35⟩ := hj
  exact ⟨fin_of_all h0, fin_of_all h1, fin_of_all h2, fin_of_all h3, fin_of_all h4, fin_of_all h5, fin_of_all h6, fin_of_all h7, fin_of_all h8, fin_of_all h9, fin_of_all h10, fin_of_all h11, fin_of_all h12, fin_of_all h13, fin_of_all h14, fin_of_all h15, fin_of_all h16, fin_of_all h17, fin_of_all h18, fin_of_all h19, fin_of_all h20, fin_of_all h21, fin_of_all h22, fin_of_all h23, fin_of_all h24, fin_of_all h25, fin_of_all h26, fin_of_all h27, fin_of_all h28, fin_of_all h29, fin_of_all h30, fin_of_all h31, fin_of_all h32, fin_of_all h33, fin_of_all h34, fin_of_all h35⟩

end Cert.Finite

end
-- ==== Proof.lean ====
module

public import proofs.«01_k».proof.Defs
public import proofs.«01_k».proof.Proof.SameKernel
public import proofs.«01_k».proof.Proof.Chain
public import proofs.«01_k».proof.Proof.RefChain
public import proofs.«01_k».proof.Proof.Finite

@[expose] public section

set_option maxRecDepth 16384

noncomputable section

namespace Cert.Proof

open Idealize.ShloMosaic Idealize.SL.Sem

/-- The reference runs to its end, leaves its arguments as they were and has no semaphore to leave raised. -/
theorem reference_frame : quiescent_ReferenceIdeal (hReferenceIdeal := Cert.ReferenceIdeal.Gen.facts) := fun m ρ _ => by
  exact (θ_run Cert.ReferenceIdeal.defs _ _).mono
    (fun r h => ⟨fun c => (h c).2.2.2, sem_eq_zero_of_no_sems (by decide) r.2⟩) (Cert.ReferenceIdeal.Value.run m ρ)

open Cert.KernelIdeal Cert.KernelIdeal.Hand in
/-- From finite inputs the kernel ends with the model's reals in its three results. -/
theorem kernel_values (m : (ℓ : Loc nD τ sig) → Buf (Elt Ideal) ℓ) (ρ : Dev nD → PrngReg) {R : Dev nD → Cert.Inputs.Reals}
    (h : ∀ c, Cert.Inputs.Holds (Cert.Chain.args m c) (R c)) (c : Dev nD) (μ : (ℓ : Loc nD τ sig) → Buf (Elt Ideal) ℓ)
    (hμ : ∀ b ∈ Pipeline.ucRefs τ sig, μ ((c.tc : Thread nD τ).1, b) = W5 m ρ c b) :
    μ ((c.tc : Thread nD τ).loc main_v23) = Cert.Inputs.arr2 (R c).pooled
      ∧ μ ((c.tc : Thread nD τ).loc main_v22_0) = Cert.Inputs.arr4 (R c).attn
      ∧ μ ((c.tc : Thread nD τ).loc main_v24) = Cert.Inputs.arr2 (R c).label :=
  ⟨(hμ _ (mem_uc main_v23 (by decide))).trans (Cert.Chain.pooled ρ (h c)),
    (hμ _ (mem_uc main_v22_0 (by decide))).trans (Cert.Chain.attn ρ (h c)),
    (hμ _ (mem_uc main_v24 (by decide))).trans (Cert.Chain.label ρ (h c))⟩

/-- From the same finite inputs the kernel and the reference end with the same three results. -/
theorem algebraic : algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m ρ m' ρ' hpre hsame
  haveI := Cert.Finite.facts
  have h : ∀ c, Cert.Inputs.Holds (Cert.Chain.args m c) (Cert.Chain.args m c).reals := fun c =>
    (Cert.Finite.finite_of (Cert.Chain.args m c) (hpre c)).holds
  have e : ∀ c, Cert.Ref.args (StableHlo.launchContents m' c) = Cert.Chain.args m c := fun c =>
    (Cert.Inputs.Arrays.mk.injEq ..).mpr (hsame c)
  have h' : ∀ c, Cert.Inputs.Holds (Cert.Ref.args (StableHlo.launchContents m' c)) (Cert.Chain.args m c).reals := fun c => by rw [e c]; exact h c
  refine ⟨fun c => Cert.Inputs.arr2 (Cert.Chain.args m c).reals.pooled, fun c => Cert.Inputs.arr4 (Cert.Chain.args m c).reals.attn,
    fun c => Cert.Inputs.arr2 (Cert.Chain.args m c).reals.label, ?_, ?_⟩
  · refine (θ_run Cert.KernelIdeal.defs _ _).mono (fun r H c => ?_) (Cert.KernelIdeal.Hand.finals m ρ)
    have hv := kernel_values m ρ h c r.2.mem (H.1 c)
    exact ⟨hv.1, hv.2.1, hv.2.2, Cert.KernelIdeal.Hand.kept m ρ c r.2.mem (H.1 c)⟩
  · refine (θ_run Cert.ReferenceIdeal.defs _ _).mono (fun r H c => ?_) (Cert.ReferenceIdeal.Value.run m' ρ')
    exact ⟨(H c).1.trans (Cert.Ref.pooled _ (h' c)), (H c).2.1.trans (Cert.Ref.attn _ (h' c)), (H c).2.2.1.trans (Cert.Ref.label _ (h' c)),
      (H c).2.2.2⟩

/-- Every claim of the certificate. -/
theorem claim : Cert.Claim :=
  ⟨Cert.Kernel.Gen.facts, Cert.KernelIdeal.Gen.facts, Cert.ReferenceIdeal.Gen.facts, Cert.Finite.facts,
    fun m ρ _ => Cert.Kernel.Same.frame m ρ, fun m ρ _ => Cert.KernelIdeal.Hand.frame m ρ, fun m ρ _ => Cert.KernelIdeal.Hand.frame m ρ,
    reference_frame, fun m ρ _ => reference_frame m ρ trivial, trivial, algebraic⟩

end Cert.Proof

end
